-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormGate (m : (ℓ : Loc Cert.NormGate.nD Cert.NormGate.τ Cert.NormGate.sig) → Buf (Elt Bits) ℓ) : Prop :=
  True

def Pre_NormGateIdeal (m : (ℓ : Loc Cert.NormGateIdeal.nD Cert.NormGateIdeal.τ Cert.NormGateIdeal.sig) → Buf (Elt Ideal) ℓ) : Prop :=
  True

def Pre_NormGateRefIdeal (m : (ℓ : Loc Cert.NormGateRefIdeal.nD Cert.NormGateRefIdeal.τ Cert.NormGateRefIdeal.sig) → Buf (Elt Ideal) ℓ) : Prop :=
  True

def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def Pre_NsaRefIdeal (m : (ℓ : Loc Cert.NsaRefIdeal.nD Cert.NsaRefIdeal.τ Cert.NsaRefIdeal.sig) → Buf (Elt Ideal) ℓ) : Prop :=
  True

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2)
      ∧ r.2.mem ((c.tc : Thread Cert.NormGate.nD Cert.NormGate.τ).loc Cert.NormGate.main_arg3) = m ((c.tc : Thread Cert.NormGate.nD Cert.NormGate.τ).loc Cert.NormGate.main_arg3))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
      ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3))
      ∧ r.2.sem = fun _ => 0)

def quiescent_NormGateRefIdeal [hNormGateRefIdeal : Cert.NormGateRefIdeal.Facts] : Prop :=
  ∀ (m : (ℓ : Loc Cert.NormGateRefIdeal.nD Cert.NormGateRefIdeal.τ Cert.NormGateRefIdeal.sig) → Buf (Elt Ideal) ℓ) (g : Dev Cert.NormGateRefIdeal.nD → PrngReg), Pre_NormGateRefIdeal m →
    θ_run (Cert.NormGateRefIdeal.defs (F := Ideal)) (onTc (τ := Cert.NormGateRefIdeal.τ) (Cert.NormGateRefIdeal.main (F := Ideal))) ⟨m, fun _ => 0, g⟩ (fun r => (∀ c : Dev Cert.NormGateRefIdeal.nD,
      r.2.mem ((c.tc : Thread Cert.NormGateRefIdeal.nD Cert.NormGateRefIdeal.τ).loc Cert.NormGateRefIdeal.main_arg0) = m ((c.tc : Thread Cert.NormGateRefIdeal.nD Cert.NormGateRefIdeal.τ).loc Cert.NormGateRefIdeal.main_arg0)
      ∧ r.2.mem ((c.tc : Thread Cert.NormGateRefIdeal.nD Cert.NormGateRefIdeal.τ).loc Cert.NormGateRefIdeal.main_arg1) = m ((c.tc : Thread Cert.NormGateRefIdeal.nD Cert.NormGateRefIdeal.τ).loc Cert.NormGateRefIdeal.main_arg1)
      ∧ r.2.mem ((c.tc : Thread Cert.NormGateRefIdeal.nD Cert.NormGateRefIdeal.τ).loc Cert.NormGateRefIdeal.main_arg2) = m ((c.tc : Thread Cert.NormGateRefIdeal.nD Cert.NormGateRefIdeal.τ).loc Cert.NormGateRefIdeal.main_arg2)
      ∧ r.2.mem ((c.tc : Thread Cert.NormGateRefIdeal.nD Cert.NormGateRefIdeal.τ).loc Cert.NormGateRefIdeal.main_arg3) = m ((c.tc : Thread Cert.NormGateRefIdeal.nD Cert.NormGateRefIdeal.τ).loc Cert.NormGateRefIdeal.main_arg3))
      ∧ r.2.sem = fun _ => 0)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3)
      ∧ r.2.mem ((c.tc : Thread Cert.Nsa.nD Cert.Nsa.τ).loc Cert.Nsa.main_arg4) = m ((c.tc : Thread Cert.Nsa.nD Cert.Nsa.τ).loc Cert.Nsa.main_arg4))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4))
      ∧ r.2.sem = fun _ => 0)

def quiescent_NsaRefIdeal [hNsaRefIdeal : Cert.NsaRefIdeal.Facts] : Prop :=
  ∀ (m : (ℓ : Loc Cert.NsaRefIdeal.nD Cert.NsaRefIdeal.τ Cert.NsaRefIdeal.sig) → Buf (Elt Ideal) ℓ) (g : Dev Cert.NsaRefIdeal.nD → PrngReg), Pre_NsaRefIdeal m →
    θ_run (Cert.NsaRefIdeal.defs (F := Ideal)) (onTc (τ := Cert.NsaRefIdeal.τ) (Cert.NsaRefIdeal.main (F := Ideal))) ⟨m, fun _ => 0, g⟩ (fun r => (∀ c : Dev Cert.NsaRefIdeal.nD,
      r.2.mem ((c.tc : Thread Cert.NsaRefIdeal.nD Cert.NsaRefIdeal.τ).loc Cert.NsaRefIdeal.main_arg0) = m ((c.tc : Thread Cert.NsaRefIdeal.nD Cert.NsaRefIdeal.τ).loc Cert.NsaRefIdeal.main_arg0)
      ∧ r.2.mem ((c.tc : Thread Cert.NsaRefIdeal.nD Cert.NsaRefIdeal.τ).loc Cert.NsaRefIdeal.main_arg1) = m ((c.tc : Thread Cert.NsaRefIdeal.nD Cert.NsaRefIdeal.τ).loc Cert.NsaRefIdeal.main_arg1)
      ∧ r.2.mem ((c.tc : Thread Cert.NsaRefIdeal.nD Cert.NsaRefIdeal.τ).loc Cert.NsaRefIdeal.main_arg2) = m ((c.tc : Thread Cert.NsaRefIdeal.nD Cert.NsaRefIdeal.τ).loc Cert.NsaRefIdeal.main_arg2)
      ∧ r.2.mem ((c.tc : Thread Cert.NsaRefIdeal.nD Cert.NsaRefIdeal.τ).loc Cert.NsaRefIdeal.main_arg3) = m ((c.tc : Thread Cert.NsaRefIdeal.nD Cert.NsaRefIdeal.τ).loc Cert.NsaRefIdeal.main_arg3)
      ∧ r.2.mem ((c.tc : Thread Cert.NsaRefIdeal.nD Cert.NsaRefIdeal.τ).loc Cert.NsaRefIdeal.main_arg4) = m ((c.tc : Thread Cert.NsaRefIdeal.nD Cert.NsaRefIdeal.τ).loc Cert.NsaRefIdeal.main_arg4))
      ∧ r.2.sem = fun _ => 0)

def preserves_Sb_SbIdeal : Prop :=
  IdealRules.named_const.Statement Cert.SbIdeal.κ "underflow" .f32 0xC2D20000#32 ⊥

def algebraic_SbIdeal_SbRefIdeal [hSbIdeal : Cert.SbIdeal.Facts] [hSbRefIdeal : Cert.SbRefIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v9)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v9) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v43) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v0)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v0) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v23) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v26)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v26) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v80) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormGate_NormGateIdeal : Prop :=
  True

def algebraic_NormGateIdeal_NormGateRefIdeal [hNormGateIdeal : Cert.NormGateIdeal.Facts] [hNormGateRefIdeal : Cert.NormGateRefIdeal.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormGateRefIdeal.nD Cert.NormGateRefIdeal.τ Cert.NormGateRefIdeal.sig) → Buf (Elt Ideal) ℓ) (g' : Dev Cert.NormGateRefIdeal.nD → PrngReg), Pre_NormGateIdeal m →
    (∀ c : Dev Cert.NormGateIdeal.nD,
      m' ((c.tc : Thread Cert.NormGateRefIdeal.nD Cert.NormGateRefIdeal.τ).loc Cert.NormGateRefIdeal.main_arg0) = m ((c.tc : Thread Cert.NormGateIdeal.nD Cert.NormGateIdeal.τ).loc Cert.NormGateIdeal.main_arg0)
      ∧ m' ((c.tc : Thread Cert.NormGateRefIdeal.nD Cert.NormGateRefIdeal.τ).loc Cert.NormGateRefIdeal.main_arg1) = m ((c.tc : Thread Cert.NormGateIdeal.nD Cert.NormGateIdeal.τ).loc Cert.NormGateIdeal.main_arg1)
      ∧ m' ((c.tc : Thread Cert.NormGateRefIdeal.nD Cert.NormGateRefIdeal.τ).loc Cert.NormGateRefIdeal.main_arg2) = m ((c.tc : Thread Cert.NormGateIdeal.nD Cert.NormGateIdeal.τ).loc Cert.NormGateIdeal.main_arg2)
      ∧ m' ((c.tc : Thread Cert.NormGateRefIdeal.nD Cert.NormGateRefIdeal.τ).loc Cert.NormGateRefIdeal.main_arg3) = m ((c.tc : Thread Cert.NormGateIdeal.nD Cert.NormGateIdeal.τ).loc Cert.NormGateIdeal.main_arg3)) →
    ∃ (v0 : (c : Dev Cert.NormGateIdeal.nD) → Buf (Elt Ideal) ((c.tc : Thread Cert.NormGateIdeal.nD Cert.NormGateIdeal.τ).loc Cert.NormGateIdeal.main_v0_0)) (v1 : (c : Dev Cert.NormGateIdeal.nD) → Buf (Elt Ideal) ((c.tc : Thread Cert.NormGateIdeal.nD Cert.NormGateIdeal.τ).loc Cert.NormGateIdeal.main_v0_1)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v0_0) = v0 c
          ∧ r.2.mem ((c.tc : Thread Cert.NormGateIdeal.nD Cert.NormGateIdeal.τ).loc Cert.NormGateIdeal.main_v0_1) = v1 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
          ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3))
      ∧ θ_run (Cert.NormGateRefIdeal.defs (F := Ideal)) (onTc (τ := Cert.NormGateRefIdeal.τ) (Cert.NormGateRefIdeal.main (F := Ideal))) ⟨m', fun _ => 0, g'⟩ (fun r => ∀ c : Dev Cert.NormGateRefIdeal.nD,
          r.2.mem ((c.tc : Thread Cert.NormGateRefIdeal.nD Cert.NormGateRefIdeal.τ).loc Cert.NormGateRefIdeal.main_v14) = v0 c
          ∧ r.2.mem ((c.tc : Thread Cert.NormGateRefIdeal.nD Cert.NormGateRefIdeal.τ).loc Cert.NormGateRefIdeal.main_v26) = v1 c
          ∧ r.2.mem ((c.tc : Thread Cert.NormGateRefIdeal.nD Cert.NormGateRefIdeal.τ).loc Cert.NormGateRefIdeal.main_arg0) = m' ((c.tc : Thread Cert.NormGateRefIdeal.nD Cert.NormGateRefIdeal.τ).loc Cert.NormGateRefIdeal.main_arg0)
          ∧ r.2.mem ((c.tc : Thread Cert.NormGateRefIdeal.nD Cert.NormGateRefIdeal.τ).loc Cert.NormGateRefIdeal.main_arg1) = m' ((c.tc : Thread Cert.NormGateRefIdeal.nD Cert.NormGateRefIdeal.τ).loc Cert.NormGateRefIdeal.main_arg1)
          ∧ r.2.mem ((c.tc : Thread Cert.NormGateRefIdeal.nD Cert.NormGateRefIdeal.τ).loc Cert.NormGateRefIdeal.main_arg2) = m' ((c.tc : Thread Cert.NormGateRefIdeal.nD Cert.NormGateRefIdeal.τ).loc Cert.NormGateRefIdeal.main_arg2)
          ∧ r.2.mem ((c.tc : Thread Cert.NormGateRefIdeal.nD Cert.NormGateRefIdeal.τ).loc Cert.NormGateRefIdeal.main_arg3) = m' ((c.tc : Thread Cert.NormGateRefIdeal.nD Cert.NormGateRefIdeal.τ).loc Cert.NormGateRefIdeal.main_arg3))

def preserves_Nsa_NsaIdeal : Prop :=
  IdealRules.named_const.Statement Cert.NsaIdeal.κ "masked" .f32 0xF149F2CA#32 ⊥

def algebraic_NsaIdeal_NsaRefIdeal [hNsaIdeal : Cert.NsaIdeal.Facts] [hNsaRefIdeal : Cert.NsaRefIdeal.Facts] : Prop :=
  ∀ (m : (ℓ : Loc Cert.NsaIdeal.nD Cert.NsaIdeal.τ Cert.NsaIdeal.sig) → Buf (Elt Ideal) ℓ) (g : Dev Cert.NsaIdeal.nD → PrngReg)
    (m' : (ℓ : Loc Cert.NsaRefIdeal.nD Cert.NsaRefIdeal.τ Cert.NsaRefIdeal.sig) → Buf (Elt Ideal) ℓ) (g' : Dev Cert.NsaRefIdeal.nD → PrngReg), Pre_NsaIdeal m →
    (∀ c : Dev Cert.NsaIdeal.nD,
      m' ((c.tc : Thread Cert.NsaRefIdeal.nD Cert.NsaRefIdeal.τ).loc Cert.NsaRefIdeal.main_arg0) = m ((c.tc : Thread Cert.NsaIdeal.nD Cert.NsaIdeal.τ).loc Cert.NsaIdeal.main_arg0)
      ∧ m' ((c.tc : Thread Cert.NsaRefIdeal.nD Cert.NsaRefIdeal.τ).loc Cert.NsaRefIdeal.main_arg1) = m ((c.tc : Thread Cert.NsaIdeal.nD Cert.NsaIdeal.τ).loc Cert.NsaIdeal.main_arg1)
      ∧ m' ((c.tc : Thread Cert.NsaRefIdeal.nD Cert.NsaRefIdeal.τ).loc Cert.NsaRefIdeal.main_arg2) = m ((c.tc : Thread Cert.NsaIdeal.nD Cert.NsaIdeal.τ).loc Cert.NsaIdeal.main_arg2)
      ∧ m' ((c.tc : Thread Cert.NsaRefIdeal.nD Cert.NsaRefIdeal.τ).loc Cert.NsaRefIdeal.main_arg3) = m ((c.tc : Thread Cert.NsaIdeal.nD Cert.NsaIdeal.τ).loc Cert.NsaIdeal.main_arg3)
      ∧ m' ((c.tc : Thread Cert.NsaRefIdeal.nD Cert.NsaRefIdeal.τ).loc Cert.NsaRefIdeal.main_arg4) = m ((c.tc : Thread Cert.NsaIdeal.nD Cert.NsaIdeal.τ).loc Cert.NsaIdeal.main_arg4)) →
    ∃ (v0 : (c : Dev Cert.NsaIdeal.nD) → Buf (Elt Ideal) ((c.tc : Thread Cert.NsaIdeal.nD Cert.NsaIdeal.τ).loc Cert.NsaIdeal.main_v10)),
      θ_run (Cert.NsaIdeal.defs (F := Ideal)) (onTc (τ := Cert.NsaIdeal.τ) (Cert.NsaIdeal.main (F := Ideal))) ⟨m, fun _ => 0, g⟩ (fun r => ∀ c : Dev Cert.NsaIdeal.nD,
          r.2.mem ((c.tc : Thread Cert.NsaIdeal.nD Cert.NsaIdeal.τ).loc Cert.NsaIdeal.main_v10) = v0 c
          ∧ r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
          ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
          ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
          ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
          ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4))
      ∧ θ_run (Cert.NsaRefIdeal.defs (F := Ideal)) (onTc (τ := Cert.NsaRefIdeal.τ) (Cert.NsaRefIdeal.main (F := Ideal))) ⟨m', fun _ => 0, g'⟩ (fun r => ∀ c : Dev Cert.NsaRefIdeal.nD,
          r.2.mem ((c.tc : Thread Cert.NsaRefIdeal.nD Cert.NsaRefIdeal.τ).loc Cert.NsaRefIdeal.main_v100) = v0 c
          ∧ r.2.mem ((c.tc : Thread Cert.NsaRefIdeal.nD Cert.NsaRefIdeal.τ).loc Cert.NsaRefIdeal.main_arg0) = m' ((c.tc : Thread Cert.NsaRefIdeal.nD Cert.NsaRefIdeal.τ).loc Cert.NsaRefIdeal.main_arg0)
          ∧ r.2.mem ((c.tc : Thread Cert.NsaRefIdeal.nD Cert.NsaRefIdeal.τ).loc Cert.NsaRefIdeal.main_arg1) = m' ((c.tc : Thread Cert.NsaRefIdeal.nD Cert.NsaRefIdeal.τ).loc Cert.NsaRefIdeal.main_arg1)
          ∧ r.2.mem ((c.tc : Thread Cert.NsaRefIdeal.nD Cert.NsaRefIdeal.τ).loc Cert.NsaRefIdeal.main_arg2) = m' ((c.tc : Thread Cert.NsaRefIdeal.nD Cert.NsaRefIdeal.τ).loc Cert.NsaRefIdeal.main_arg2)
          ∧ r.2.mem ((c.tc : Thread Cert.NsaRefIdeal.nD Cert.NsaRefIdeal.τ).loc Cert.NsaRefIdeal.main_arg3) = m' ((c.tc : Thread Cert.NsaRefIdeal.nD Cert.NsaRefIdeal.τ).loc Cert.NsaRefIdeal.main_arg3)
          ∧ r.2.mem ((c.tc : Thread Cert.NsaRefIdeal.nD Cert.NsaRefIdeal.τ).loc Cert.NsaRefIdeal.main_arg4) = m' ((c.tc : Thread Cert.NsaRefIdeal.nD Cert.NsaRefIdeal.τ).loc Cert.NsaRefIdeal.main_arg4))

def Claim : Prop :=
  ∃ (hSb : Cert.Sb.Facts) (hSbIdeal : Cert.SbIdeal.Facts) (hSbRefIdeal : Cert.SbRefIdeal.Facts) (hFfnLast : Cert.FfnLast.Facts) (hFfnLastIdeal : Cert.FfnLastIdeal.Facts) (hFfnLastRefIdeal : Cert.FfnLastRefIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hProj : Cert.Proj.Facts) (hProjIdeal : Cert.ProjIdeal.Facts) (hProjRefIdeal : Cert.ProjRefIdeal.Facts) (hNorm : Cert.Norm.Facts) (hNormIdeal : Cert.NormIdeal.Facts) (hNormRefIdeal : Cert.NormRefIdeal.Facts) (hNormGate : Cert.NormGate.Facts) (hNormGateIdeal : Cert.NormGateIdeal.Facts) (hNormGateRefIdeal : Cert.NormGateRefIdeal.Facts) (hNsa : Cert.Nsa.Facts) (hNsaIdeal : Cert.NsaIdeal.Facts) (hNsaRefIdeal : Cert.NsaRefIdeal.Facts),
    quiescent_Sb (hSb := hSb)
    ∧ quiescent_SbIdeal (hSbIdeal := hSbIdeal)
    ∧ quiescent_SbRefIdeal (hSbRefIdeal := hSbRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Proj (hProj := hProj)
    ∧ quiescent_ProjIdeal (hProjIdeal := hProjIdeal)
    ∧ quiescent_ProjRefIdeal (hProjRefIdeal := hProjRefIdeal)
    ∧ quiescent_Norm (hNorm := hNorm)
    ∧ quiescent_NormIdeal (hNormIdeal := hNormIdeal)
    ∧ quiescent_NormRefIdeal (hNormRefIdeal := hNormRefIdeal)
    ∧ quiescent_NormGate (hNormGate := hNormGate)
    ∧ quiescent_NormGateIdeal (hNormGateIdeal := hNormGateIdeal)
    ∧ quiescent_NormGateRefIdeal (hNormGateRefIdeal := hNormGateRefIdeal)
    ∧ quiescent_Nsa (hNsa := hNsa)
    ∧ quiescent_NsaIdeal (hNsaIdeal := hNsaIdeal)
    ∧ quiescent_NsaRefIdeal (hNsaRefIdeal := hNsaRefIdeal)
    ∧ preserves_Sb_SbIdeal
    ∧ algebraic_SbIdeal_SbRefIdeal (hSbIdeal := hSbIdeal) (hSbRefIdeal := hSbRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_Proj_ProjIdeal
    ∧ algebraic_ProjIdeal_ProjRefIdeal (hProjIdeal := hProjIdeal) (hProjRefIdeal := hProjRefIdeal)
    ∧ preserves_Norm_NormIdeal
    ∧ algebraic_NormIdeal_NormRefIdeal (hNormIdeal := hNormIdeal) (hNormRefIdeal := hNormRefIdeal)
    ∧ preserves_NormGate_NormGateIdeal
    ∧ algebraic_NormGateIdeal_NormGateRefIdeal (hNormGateIdeal := hNormGateIdeal) (hNormGateRefIdeal := hNormGateRefIdeal)
    ∧ preserves_Nsa_NsaIdeal
    ∧ algebraic_NsaIdeal_NsaRefIdeal (hNsaIdeal := hNsaIdeal) (hNsaRefIdeal := hNsaRefIdeal)
-- ==== Sb.lean ====
abbrev S8192x5632 : Shape := ⟨2, ![8192, 5632]⟩
abbrev S1x2048 : Shape := ⟨2, ![1, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8192x1024 : Shape := ⟨2, ![8192, 1024]⟩
abbrev S128x512 : Shape := ⟨2, ![128, 512]⟩
abbrev S8192x512 : Shape := ⟨2, ![8192, 512]⟩
abbrev S1x512 : Shape := ⟨2, ![1, 512]⟩
abbrev S640x128 : Shape := ⟨2, ![640, 128]⟩
abbrev S128x640 : Shape := ⟨2, ![128, 640]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1x2048, .f32⟩
  | .hbm, ⟨2, _⟩ => ⟨S128, .i32⟩
  | .hbm, ⟨3, _⟩ => ⟨S128x1, .i32⟩
  | .hbm, ⟨4, _⟩ => ⟨S128, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S128x128, .bf16⟩
  | .hbm, ⟨11, _⟩ => ⟨S8192x1024, .bf16⟩
  | .local _ .vmem, ⟨0, _⟩ => ⟨S128x512, .bf16⟩
  | .local _ .vmem, ⟨1, _⟩ => ⟨S128x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S128x128, .bf16⟩
  | .local _ .vmem, ⟨7, _⟩ => ⟨S1x512, .f32⟩
  | .local _ .vmem, ⟨8, _⟩ => ⟨S1x512, .f32⟩
  | .local _ .vmem, ⟨9, _⟩ => ⟨S128x512, .bf16⟩
  | .local _ .vmem, ⟨10, _⟩ => ⟨S128x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v7 : BitVec 32 := Scalar.subi v0 c512_i32
  let c0_i32 : BitVec 32 := 0#32
  let v8 : BitVec 32 := Scalar.maxsi v7 c0_i32
  v8
def k0_off1 (i : grid0.Coords) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v7 : BitVec 32 := Scalar.subi v0 c512_i32
  let c0_i32 : BitVec 32 := 0#32
  let v8 : BitVec 32 := Scalar.maxsi v7 c0_i32
  let v9 : BitVec 32 := v8
  let v11 : Index := Scalar.indexCast v9
  let c0_6 : Index := 0#32
  ![v11.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v7 : BitVec 32 := Scalar.subi v0 c512_i32
  let c0_i32 : BitVec 32 := 0#32
  let v8 : BitVec 32 := Scalar.maxsi v7 c0_i32
  let v9 : BitVec 32 := v8
  let v108 : Index := Scalar.indexCast v9
  let c128_30 : Index := 128#32
  ![v108.toNat, 128]
def k0_off3 (i : grid0.Coords) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v7 : BitVec 32 := Scalar.subi v0 c512_i32
  let c0_i32 : BitVec 32 := 0#32
  let v8 : BitVec 32 := Scalar.maxsi v7 c0_i32
  let v9 : BitVec 32 := v8
  let v205 : Index := Scalar.indexCast v9
  let c256_54 : Index := 256#32
  ![v205.toNat, 256]
def k0_off4 (i : grid0.Coords) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v7 : BitVec 32 := Scalar.subi v0 c512_i32
  let c0_i32 : BitVec 32 := 0#32
  let v8 : BitVec 32 := Scalar.maxsi v7 c0_i32
  let v9 : BitVec 32 := v8
  let v302 : Index := Scalar.indexCast v9
  let c384_78 : Index := 384#32
  ![v302.toNat, 384]
def k0_mult2 (arg8 : BitVec 32) : BitVec 32 :=
  let c0_i32_138 : BitVec 32 := 0#32
  let v485 : BitVec 32 := Scalar.subi arg8 c0_i32_138
  let c0_i32_139 : BitVec 32 := 0#32
  let v486 : BitVec 32 := Scalar.maxsi v485 c0_i32_139
  let c128_i32_140 : BitVec 32 := 128#32
  let v487 : BitVec 32 := Scalar.muli v486 c128_i32_140
  v487

def k0_off5 (arg8 : BitVec 32) : Fin 2 → Nat :=
  let c0_i32_138 : BitVec 32 := 0#32
  let v485 : BitVec 32 := Scalar.subi arg8 c0_i32_138
  let c0_i32_139 : BitVec 32 := 0#32
  let v486 : BitVec 32 := Scalar.maxsi v485 c0_i32_139
  let c128_i32_140 : BitVec 32 := 128#32
  let v487 : BitVec 32 := Scalar.muli v486 c128_i32_140
  let v488 : BitVec 32 := v487
  let v491 : Index := Scalar.indexCast v488
  let c0_143 : Index := 0#32
  ![v491.toNat, 0]
def k0_off6 (arg8 : BitVec 32) : Fin 2 → Nat :=
  let c0_i32_138 : BitVec 32 := 0#32
  let v485 : BitVec 32 := Scalar.subi arg8 c0_i32_138
  let c0_i32_139 : BitVec 32 := 0#32
  let v486 : BitVec 32 := Scalar.maxsi v485 c0_i32_139
  let c128_i32_140 : BitVec 32 := 128#32
  let v487 : BitVec 32 := Scalar.muli v486 c128_i32_140
  let v488 : BitVec 32 := v487
  let v537 : Index := Scalar.indexCast v488
  let c128_155 : Index := 128#32
  ![v537.toNat, 128]
def k0_off7 (arg8 : BitVec 32) : Fin 2 → Nat :=
  let c0_i32_138 : BitVec 32 := 0#32
  let v485 : BitVec 32 := Scalar.subi arg8 c0_i32_138
  let c0_i32_139 : BitVec 32 := 0#32
  let v486 : BitVec 32 := Scalar.maxsi v485 c0_i32_139
  let c128_i32_140 : BitVec 32 := 128#32
  let v487 : BitVec 32 := Scalar.muli v486 c128_i32_140
  let v488 : BitVec 32 := v487
  let v583 : Index := Scalar.indexCast v488
  let c256_167 : Index := 256#32
  ![v583.toNat, 256]
def k0_off8 (arg8 : BitVec 32) : Fin 2 → Nat :=
  let c0_i32_138 : BitVec 32 := 0#32
  let v485 : BitVec 32 := Scalar.subi arg8 c0_i32_138
  let c0_i32_139 : BitVec 32 := 0#32
  let v486 : BitVec 32 := Scalar.maxsi v485 c0_i32_139
  let c128_i32_140 : BitVec 32 := 128#32
  let v487 : BitVec 32 := Scalar.muli v486 c128_i32_140
  let v488 : BitVec 32 := v487
  let v629 : Index := Scalar.indexCast v488
  let c384_179 : Index := 384#32
  ![v629.toNat, 384]

def k0_chk1 (arg8 : BitVec 32) : Prop :=
  (128 ∣ (k0_mult2 arg8).toNat) ∧
  (∀ a, (k0_off5 arg8) a + S128x128.size a ≤ S8192x512.size a) ∧
  (∀ a, (k0_off6 arg8) a + S128x128.size a ≤ S8192x512.size a) ∧
  (∀ a, (k0_off7 arg8) a + S128x128.size a ≤ S8192x512.size a) ∧
  (∀ a, (k0_off8 arg8) a + S128x128.size a ≤ S8192x512.size a)
theorem k0_mult2_dvd : ∀ (arg8 : BitVec 32) (k0_hw1 : k0_chk1 arg8), 128 ∣ (k0_mult2 arg8).toNat := fun arg8 k0_hw1 => k0_hw1.1
theorem k0_off5_inb : ∀ (arg8 : BitVec 32) (k0_hw1 : k0_chk1 arg8), ∀ a, (k0_off5 arg8) a + S128x128.size a ≤ S8192x512.size a := fun arg8 k0_hw1 => k0_hw1.2.1
theorem k0_off6_inb : ∀ (arg8 : BitVec 32) (k0_hw1 : k0_chk1 arg8), ∀ a, (k0_off6 arg8) a + S128x128.size a ≤ S8192x512.size a := fun arg8 k0_hw1 => k0_hw1.2.2.1
theorem k0_off7_inb : ∀ (arg8 : BitVec 32) (k0_hw1 : k0_chk1 arg8), ∀ a, (k0_off7 arg8) a + S128x128.size a ≤ S8192x512.size a := fun arg8 k0_hw1 => k0_hw1.2.2.2.1
theorem k0_off8_inb : ∀ (arg8 : BitVec 32) (k0_hw1 : k0_chk1 arg8), ∀ a, (k0_off8 arg8) a + S128x128.size a ≤ S8192x512.size a := fun arg8 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbIdeal.lean ====
variable {F : FTy → Type} [FloatOps F] [Named F]
def κ : String → Option EReal := fun
  | "underflow" => some ⊥
  | _ => none
-- ==== SbRefIdeal.lean ====
abbrev S8192x5632 : Shape := ⟨2, ![8192, 5632]⟩
abbrev S1x2048 : Shape := ⟨2, ![1, 2048]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8192x8 : Shape := ⟨2, ![8192, 8]⟩
abbrev S8192x8x1 : Shape := ⟨3, ![8192, 8, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x2048, .f32⟩
  | .hbm, ⟨2, _⟩ => ⟨S8192x5632, .f32⟩
  | .hbm, ⟨3, _⟩ => ⟨S8192x1024, .f32⟩
  | .hbm, ⟨4, _⟩ => ⟨S8192x8x128, .f32⟩
  | .hbm, ⟨5, _⟩ => ⟨S8x8192x128, .f32⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S8192x1024, .f32⟩
  | .hbm, ⟨10, _⟩ => ⟨S8192x8x128, .f32⟩
  | .hbm, ⟨11, _⟩ => ⟨S8x8192x128, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S_, .f32⟩
  | .hbm, ⟨39, _⟩ => ⟨S8x8192x8192, .i1⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S_, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .i1⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S_, .f32⟩
  | .hbm, ⟨66, _⟩ => ⟨S8x8192x8192, .i1⟩
  | .hbm, ⟨67, _⟩ => ⟨S8x8192x8192, .f32⟩
  | .hbm, ⟨68, _⟩ => ⟨S8x8192x8192, .f32⟩
  | .hbm, ⟨69, _⟩ => ⟨S8x8192x128, .f32⟩
  | .hbm, ⟨70, _⟩ => ⟨S8192x8x128, .f32⟩
  | .hbm, ⟨71, _⟩ => ⟨S8192x8x128, .f32⟩
  | .hbm, ⟨72, _⟩ => ⟨S_, .f32⟩
  | .hbm, ⟨73, _⟩ => ⟨S8192x8, .f32⟩
  | .hbm, ⟨74, _⟩ => ⟨S8192x8x1, .f32⟩
  | .hbm, ⟨75, _⟩ => ⟨S_, .f32⟩
  | .hbm, ⟨76, _⟩ => ⟨S8192x8x1, .f32⟩
  | .hbm, ⟨77, _⟩ => ⟨S8192x8x1, .f32⟩
  | .hbm, ⟨78, _⟩ => ⟨S_, .f32⟩
  | .hbm, ⟨79, _⟩ => ⟨S8192x8x1, .f32⟩
  | .hbm, ⟨80, _⟩ => ⟨S8192x8x1, .f32⟩
  | .hbm, ⟨81, _⟩ => ⟨S8192x8x1, .f32⟩
  | .hbm, ⟨82, _⟩ => ⟨S8192x8x128, .f32⟩
  | .hbm, ⟨83, _⟩ => ⟨S8192x8x128, .f32⟩
  | .hbm, ⟨84, _⟩ => ⟨S8192x1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_1 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_v33 : Ref sig .tc := ⟨.hbm, 77, rfl⟩
abbrev main_cst_3 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩

abbrev nD : Nat := 1
abbrev τ : Topo := Topo.v7x

variable {F : FTy → Type} [FloatOps F]
-- ==== FfnLast.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastRefIdeal.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S8192x5632 : Shape := ⟨2, ![8192, 5632]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | .hbm, ⟨24, _⟩ => ⟨S2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S8192x5632 : Shape := ⟨2, ![8192, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S8192x2048 : Shape := ⟨2, ![8192, 2048]⟩
abbrev S8192x1024 : Shape := ⟨2, ![8192, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S8192x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proj.lean ====
abbrev S8192x2048 : Shape := ⟨2, ![8192, 2048]⟩
abbrev S2048x5632 : Shape := ⟨2, ![2048, 5632]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S8192x5632 : Shape := ⟨2, ![8192, 5632]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S1024x256 : Shape := ⟨2, ![1024, 256]⟩

abbrev nBuf : Space → Nat
  | .hbm => 38
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8192, .f32⟩
  | .hbm, ⟨18, _⟩ => ⟨S8192x1, .f32⟩
  | .hbm, ⟨19, _⟩ => ⟨S1x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S_, .f32⟩
  | .hbm, ⟨26, _⟩ => ⟨S8192x96, .f32⟩
  | .hbm, ⟨27, _⟩ => ⟨S8192x128, .f32⟩
  | .hbm, ⟨28, _⟩ => ⟨S8192x16, .f32⟩
  | .hbm, ⟨29, _⟩ => ⟨S_, .f32⟩
  | .hbm, ⟨30, _⟩ => ⟨S8192x112, .f32⟩
  | .hbm, ⟨31, _⟩ => ⟨S8192x128, .f32⟩
  | .hbm, ⟨32, _⟩ => ⟨S_, .f32⟩
  | .hbm, ⟨33, _⟩ => ⟨S8192x16, .f32⟩
  | .hbm, ⟨34, _⟩ => ⟨S_, .f32⟩
  | .hbm, ⟨35, _⟩ => ⟨S8192x96, .f32⟩
  | .hbm, ⟨36, _⟩ => ⟨S8192x128, .f32⟩
  | .hbm, ⟨37, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c2_i32 : BitVec 32 := 2#32
  let v9 : BitVec 1 := Scalar.cmpi .slt arg1 c2_i32
  let v16 : BitVec 32 := Scalar.extui v9
  let c0_i32 : BitVec 32 := 0#32
  let v17 : BitVec 1 := Scalar.cmpi .ne v16 c0_i32
  v17

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let c4_i32 : BitVec 32 := 4#32
  let v11 : BitVec 1 := Scalar.cmpi .eq arg1 c4_i32
  let v12 : BitVec 1 := Scalar.ori v10 v11
  let v18 : BitVec 32 := Scalar.extui v12
  let c0_i32_9 : BitVec 32 := 0#32
  let v19 : BitVec 1 := Scalar.cmpi .ne v18 c0_i32_9
  v19

def k0_cond3 (i : grid0.Coords) : BitVec 1 :=
  let arg1 : BitVec 32 := BitVec.ofNat 32 (i 1).val
  let c5_i32 : BitVec 32 := 5#32
  let v13 : BitVec 1 := Scalar.cmpi .sge arg1 c5_i32
  let c7_i32 : BitVec 32 := 7#32
  let v14 : BitVec 1 := Scalar.cmpi .slt arg1 c7_i32
  let v15 : BitVec 1 := Scalar.andi v13 v14
  let v20 : BitVec 32 := Scalar.extui v15
  let c0_i32_10 : BitVec 32 := 0#32
  let v21 : BitVec 1 := Scalar.cmpi .ne v20 c0_i32_10
  v21

def k0_cond4 (i : grid0.Coords) : BitVec 1 :=
  let arg1 : BitVec 32 := BitVec.ofNat 32 (i 1).val
  let c2_i32 : BitVec 32 := 2#32
  let v9 : BitVec 1 := Scalar.cmpi .slt arg1 c2_i32
  let c3_i32 : BitVec 32 := 3#32
  let v10 : BitVec 1 := Scalar.cmpi .eq arg1 c3_i32
  let c4_i32 : BitVec 32 := 4#32
  let v11 : BitVec 1 := Scalar.cmpi .eq arg1 c4_i32
  let v12 : BitVec 1 := Scalar.ori v10 v11
  let v22 : BitVec 1 := Scalar.ori v9 v12
  let c5_i32 : BitVec 32 := 5#32
  let v13 : BitVec 1 := Scalar.cmpi .sge arg1 c5_i32
  let c7_i32 : BitVec 32 := 7#32
  let v14 : BitVec 1 := Scalar.cmpi .slt arg1 c7_i32
  let v15 : BitVec 1 := Scalar.andi v13 v14
  let v23 : BitVec 1 := Scalar.ori v22 v15
  let v_true : BitVec 1 := 1#1
  let v24 : BitVec 1 := Scalar.xori v23 v_true
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S8192x2048 : Shape := ⟨2, ![8192, 2048]⟩
abbrev S2048x5632 : Shape := ⟨2, ![2048, 5632]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x5632 : Shape := ⟨2, ![8192, 5632]⟩
abbrev S8192x44x128 : Shape := ⟨3, ![8192, 44, 128]⟩
abbrev S8192x8x128 : Shape := ⟨3, ![8192, 8, 128]⟩
abbrev S8192x4x128 : Shape := ⟨3, ![8192, 4, 128]⟩
abbrev S8192x2x128 : Shape := ⟨3, ![8192, 2, 128]⟩
abbrev S8192x16x128 : Shape := ⟨3, ![8192, 16, 128]⟩
abbrev S8192x8x16 : Shape := ⟨3, ![8192, 8, 16]⟩
abbrev S8192x8x96 : Shape := ⟨3, ![8192, 8, 96]⟩
abbrev S8192x2x16 : Shape := ⟨3, ![8192, 2, 16]⟩
abbrev S8192x2x96 : Shape := ⟨3, ![8192, 2, 96]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8192, .f32⟩
  | .hbm, ⟨18, _⟩ => ⟨S8192x1, .f32⟩
  | .hbm, ⟨19, _⟩ => ⟨S1x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x1x16, .f32⟩
  | .hbm, ⟨25, _⟩ => ⟨S8192x16, .f32⟩
  | .hbm, ⟨26, _⟩ => ⟨S8192x1x16, .f32⟩
  | .hbm, ⟨27, _⟩ => ⟨S8192x2048, .f32⟩
  | .hbm, ⟨28, _⟩ => ⟨S2048x5632, .f32⟩
  | .hbm, ⟨29, _⟩ => ⟨S8192x5632, .f32⟩
  | .hbm, ⟨30, _⟩ => ⟨S8192x44x128, .f32⟩
  | .hbm, ⟨31, _⟩ => ⟨S8192x8x128, .f32⟩
  | .hbm, ⟨32, _⟩ => ⟨S8192x4x128, .f32⟩
  | .hbm, ⟨33, _⟩ => ⟨S8192x2x128, .f32⟩
  | .hbm, ⟨34, _⟩ => ⟨S8192x2x128, .f32⟩
  | .hbm, ⟨35, _⟩ => ⟨S8192x2x128, .f32⟩
  | .hbm, ⟨36, _⟩ => ⟨S8192x2x128, .f32⟩
  | .hbm, ⟨37, _⟩ => ⟨S8192x8x128, .f32⟩
  | .hbm, ⟨38, _⟩ => ⟨S8192x16x128, .f32⟩
  | .hbm, ⟨39, _⟩ => ⟨S8192x8x16, .f32⟩
  | .hbm, ⟨40, _⟩ => ⟨S8192x8x16, .f32⟩
  | .hbm, ⟨41, _⟩ => ⟨S8192x8x16, .f32⟩
  | .hbm, ⟨42, _⟩ => ⟨S8192x8x16, .f32⟩
  | .hbm, ⟨43, _⟩ => ⟨S8192x8x16, .f32⟩
  | .hbm, ⟨44, _⟩ => ⟨S8192x8x16, .f32⟩
  | .hbm, ⟨45, _⟩ => ⟨S8192x8x16, .f32⟩
  | .hbm, ⟨46, _⟩ => ⟨S8192x8x16, .f32⟩
  | .hbm, ⟨47, _⟩ => ⟨S8192x8x16, .f32⟩
  | .hbm, ⟨48, _⟩ => ⟨S8192x8x16, .f32⟩
  | .hbm, ⟨49, _⟩ => ⟨S8192x8x16, .f32⟩
  | .hbm, ⟨50, _⟩ => ⟨S8192x8x16, .f32⟩
  | .hbm, ⟨51, _⟩ => ⟨S8192x8x96, .f32⟩
  | .hbm, ⟨52, _⟩ => ⟨S8192x8x128, .f32⟩
  | .hbm, ⟨53, _⟩ => ⟨S_, .f32⟩
  | .hbm, ⟨54, _⟩ => ⟨S8192x8x128, .f32⟩
  | .hbm, ⟨55, _⟩ => ⟨S8192x8x128, .f32⟩
  | .hbm, ⟨56, _⟩ => ⟨S8192x2x16, .f32⟩
  | .hbm, ⟨57, _⟩ => ⟨S8192x2x16, .f32⟩
  | .hbm, ⟨58, _⟩ => ⟨S8192x2x16, .f32⟩
  | .hbm, ⟨59, _⟩ => ⟨S8192x2x16, .f32⟩
  | .hbm, ⟨60, _⟩ => ⟨S8192x2x16, .f32⟩
  | .hbm, ⟨61, _⟩ => ⟨S8192x2x16, .f32⟩
  | .hbm, ⟨62, _⟩ => ⟨S8192x2x16, .f32⟩
  | .hbm, ⟨63, _⟩ => ⟨S8192x2x16, .f32⟩
  | .hbm, ⟨64, _⟩ => ⟨S8192x2x16, .f32⟩
  | .hbm, ⟨65, _⟩ => ⟨S8192x2x16, .f32⟩
  | .hbm, ⟨66, _⟩ => ⟨S8192x2x16, .f32⟩
  | .hbm, ⟨67, _⟩ => ⟨S8192x2x16, .f32⟩
  | .hbm, ⟨68, _⟩ => ⟨S8192x2x96, .f32⟩
  | .hbm, ⟨69, _⟩ => ⟨S8192x2x128, .f32⟩
  | .hbm, ⟨70, _⟩ => ⟨S8192x2x16, .f32⟩
  | .hbm, ⟨71, _⟩ => ⟨S8192x2x16, .f32⟩
  | .hbm, ⟨72, _⟩ => ⟨S8192x2x16, .f32⟩
  | .hbm, ⟨73, _⟩ => ⟨S8192x2x16, .f32⟩
  | .hbm, ⟨74, _⟩ => ⟨S8192x2x16, .f32⟩
  | .hbm, ⟨75, _⟩ => ⟨S8192x2x16, .f32⟩
  | .hbm, ⟨76, _⟩ => ⟨S8192x2x16, .f32⟩
  | .hbm, ⟨77, _⟩ => ⟨S8192x2x16, .f32⟩
  | .hbm, ⟨78, _⟩ => ⟨S8192x2x16, .f32⟩
  | .hbm, ⟨79, _⟩ => ⟨S8192x2x16, .f32⟩
  | .hbm, ⟨80, _⟩ => ⟨S8192x2x16, .f32⟩
  | .hbm, ⟨81, _⟩ => ⟨S8192x2x16, .f32⟩
  | .hbm, ⟨82, _⟩ => ⟨S8192x2x96, .f32⟩
  | .hbm, ⟨83, _⟩ => ⟨S8192x2x128, .f32⟩
  | .hbm, ⟨84, _⟩ => ⟨S_, .f32⟩
  | .hbm, ⟨85, _⟩ => ⟨S8192x8x128, .f32⟩
  | .hbm, ⟨86, _⟩ => ⟨S8192x8x128, .f32⟩
  | .hbm, ⟨87, _⟩ => ⟨S8192x44x128, .f32⟩
  | .hbm, ⟨88, _⟩ => ⟨S8192x5632, .f32⟩
  | .hbm, ⟨89, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_4 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormGate.lean ====
abbrev S8192x2048 : Shape := ⟨2, ![8192, 2048]⟩
abbrev S1x2048 : Shape := ⟨2, ![1, 2048]⟩
abbrev S2048x128 : Shape := ⟨2, ![2048, 128]⟩
abbrev S1x128 : Shape := ⟨2, ![1, 128]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x128, .bf16⟩
  | .hbm, ⟨3, _⟩ => ⟨S1x128, .f32⟩
  | .hbm, ⟨4, _⟩ => ⟨S8192x2048, .bf16⟩
  | .hbm, ⟨5, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormGateRefIdeal.lean ====
abbrev S8192x2048 : Shape := ⟨2, ![8192, 2048]⟩
abbrev S1x2048 : Shape := ⟨2, ![1, 2048]⟩
abbrev S2048x128 : Shape := ⟨2, ![2048, 128]⟩
abbrev S1x128 : Shape := ⟨2, ![1, 128]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S128 : Shape := ⟨1, ![128]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x128, .bf16⟩
  | .hbm, ⟨3, _⟩ => ⟨S1x128, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | .hbm, ⟨22, _⟩ => ⟨S2048x128, .f32⟩
  | .hbm, ⟨23, _⟩ => ⟨S8192x128, .f32⟩
  | .hbm, ⟨24, _⟩ => ⟨S128, .f32⟩
  | .hbm, ⟨25, _⟩ => ⟨S1x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Nsa.lean ====
abbrev S8192x5632 : Shape := ⟨2, ![8192, 5632]⟩
abbrev S2x8192x128 : Shape := ⟨3, ![2, 8192, 128]⟩
abbrev S8192x1024 : Shape := ⟨2, ![8192, 1024]⟩
abbrev S8192x128 : Shape := ⟨2, ![8192, 128]⟩
abbrev S1x2048 : Shape := ⟨2, ![1, 2048]⟩
abbrev S8192 : Shape := ⟨1, ![8192]⟩
abbrev S8192x1 : Shape := ⟨2, ![8192, 1]⟩
abbrev S_ : Shape := ⟨0, ![]⟩
abbrev S128 : Shape := ⟨1, ![128]⟩
abbrev S1x128 : Shape := ⟨2, ![1, 128]⟩
abbrev S256x512 : Shape := ⟨2, ![256, 512]⟩
abbrev S1x256x128 : Shape := ⟨3, ![1, 256, 128]⟩
abbrev S256x128 : Shape := ⟨2, ![256, 128]⟩
abbrev S1x512 : Shape := ⟨2, ![1, 512]⟩
abbrev S1024x128 : Shape := ⟨2, ![1024, 128]⟩
abbrev S1024x256 : Shape := ⟨2, ![1024, 256]⟩
abbrev S1024x1 : Shape := ⟨2, ![1024, 1]⟩
abbrev S256x256 : Shape := ⟨2, ![256, 256]⟩
abbrev S1024 : Shape := ⟨1, ![1024]⟩
abbrev S768x128 : Shape := ⟨2, ![768, 128]⟩
abbrev S1024x768 : Shape := ⟨2, ![1024, 768]⟩
abbrev S256 : Shape := ⟨1, ![256]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S8192x5632, .bf16⟩
  | .hbm, ⟨1, _⟩ => ⟨S2x8192x128, .bf16⟩
  | .hbm, ⟨2, _⟩ => ⟨S8192x1024, .f32⟩
  | .hbm, ⟨3, _⟩ => ⟨S8192x128, .f32⟩
  | .hbm, ⟨4, _⟩ => ⟨S1x2048, .f32⟩
  | .hbm, ⟨5, _⟩ => ⟨S8192, .i32⟩
  | .hbm, ⟨6, _⟩ => ⟨S8192x1, .i32⟩
  | .hbm, ⟨7, _⟩ => ⟨S_, .i32⟩
  | .hbm, ⟨8, _⟩ => ⟨S8192x1, .i32⟩
  | .hbm, ⟨9, _⟩ => ⟨S8192x1, .i32⟩
  | .hbm, ⟨10, _⟩ => ⟨S128, .i32⟩
  | .hbm, ⟨11, _⟩ => ⟨S1x128, .i32⟩
  | .hbm, ⟨12, _⟩ => ⟨S8192x128, .i32⟩
  | .hbm, ⟨13, _⟩ => ⟨S8192x128, .i32⟩
  | .hbm, ⟨14, _⟩ => ⟨S8192x128, .i1⟩
  | .hbm, ⟨15, _⟩ => ⟨S8192x128, .bf16⟩
  | .hbm, ⟨16, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S1x256x128, .bf16⟩
  | .local _ .vmem, ⟨12, _⟩ => ⟨S1x256x128, .bf16⟩
  | .local _ .vmem, ⟨13, _⟩ => ⟨S256x512, .f32⟩
  | .local _ .vmem, ⟨14, _⟩ => ⟨S256x512, .f32⟩
  | .local _ .vmem, ⟨15, _⟩ => ⟨S256x128, .f32⟩
  | .local _ .vmem, ⟨16, _⟩ => ⟨S256x128, .f32⟩
  | .local _ .vmem, ⟨17, _⟩ => ⟨S1x512, .f32⟩
  | .local _ .vmem, ⟨18, _⟩ => ⟨S1x512, .f32⟩
  | .local _ .vmem, ⟨19, _⟩ => ⟨S256x512, .bf16⟩
  | .local _ .vmem, ⟨20, _⟩ => ⟨S256x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_13 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v30 : BitVec 32 := Scalar.subi v27 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_15 : BitVec 32 := 1#32
  ⟨c0_i32_13, v34, c1_i32_15⟩
def k0_mult1 (i : grid0.Coords) (k0_t1 : Fin (k0_t1_loop i).trips) : BitVec 32 :=
  let c0_i32_13 : BitVec 32 := 0#32
  let c1_i32_15 : BitVec 32 := 1#32
  let arg13 : BitVec 32 := Scf.iv c0_i32_13 c1_i32_15 k0_t1
  let c512_i32_129 : BitVec 32 := 512#32
  let v353 : BitVec 32 := Scalar.muli arg13 c512_i32_129
  let c0_i32_130 : BitVec 32 := 0#32
  let v354 : BitVec 32 := Scalar.addi v353 c0_i32_130
  v354
def k0_off1 (i : grid0.Coords) (k0_t1 : Fin (k0_t1_loop i).trips) (c0_i32_130 : BitVec 32) : Fin 2 → Nat :=
  let c0_i32_13 : BitVec 32 := 0#32
  let c1_i32_15 : BitVec 32 := 1#32
  let arg13 : BitVec 32 := Scf.iv c0_i32_13 c1_i32_15 k0_t1
  let c512_i32_129 : BitVec 32 := 512#32
  let v353 : BitVec 32 := Scalar.muli arg13 c512_i32_129
  let v354 : BitVec 32 := Scalar.addi v353 c0_i32_130
  let v355 : BitVec 32 := v354
  let v356 : Index := Scalar.indexCast v355
  let c0_131 : Index := 0#32
  ![v356.toNat, 0]
def k0_mult2 (i : grid0.Coords) (k0_t1 : Fin (k0_t1_loop i).trips) : BitVec 32 :=
  let c0_i32_13 : BitVec 32 := 0#32
  let c1_i32_15 : BitVec 32 := 1#32
  let arg13 : BitVec 32 := Scf.iv c0_i32_13 c1_i32_15 k0_t1
  let c512_i32_134 : BitVec 32 := 512#32
  let v363 : BitVec 32 := Scalar.muli arg13 c512_i32_134
  let c256_i32_135 : BitVec 32 := 256#32
  let v364 : BitVec 32 := Scalar.addi v363 c256_i32_135
  v364
def k0_mult3 (i : grid0.Coords) (k0_t1 : Fin (k0_t1_loop i).trips) : BitVec 32 :=
  let c0_i32_13 : BitVec 32 := 0#32
  let c1_i32_15 : BitVec 32 := 1#32
  let arg13 : BitVec 32 := Scf.iv c0_i32_13 c1_i32_15 k0_t1
  let c512_i32_139 : BitVec 32 := 512#32
  let v373 : BitVec 32 := Scalar.muli arg13 c512_i32_139
  let c0_i32_140 : BitVec 32 := 0#32
  let v374 : BitVec 32 := Scalar.addi v373 c0_i32_140
  v374
def k0_mult4 (i : grid0.Coords) (k0_t1 : Fin (k0_t1_loop i).trips) : BitVec 32 :=
  let c0_i32_13 : BitVec 32 := 0#32
  let c1_i32_15 : BitVec 32 := 1#32
  let arg13 : BitVec 32 := Scf.iv c0_i32_13 c1_i32_15 k0_t1
  let c512_i32_144 : BitVec 32 := 512#32
  let v392 : BitVec 32 := Scalar.muli arg13 c512_i32_144
  let c256_i32_145 : BitVec 32 := 256#32
  let v393 : BitVec 32 := Scalar.addi v392 c256_i32_145
  v393
@[reducible] def k0_t2_loop (i : grid0.Coords) : Scf.Loop 32 :=
  let c0_i32_13 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v30 : BitVec 32 := Scalar.subi v27 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let v31 : BitVec 32 := Scalar.addi c0_i32_13 v30
  let c1_i32_16 : BitVec 32 := 1#32
  ⟨v34, v31, c1_i32_16⟩
def k0_mult5 (i : grid0.Coords) (k0_t2 : Fin (k0_t2_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v30 : BitVec 32 := Scalar.subi v27 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg13 : BitVec 32 := Scf.iv v34 c1_i32_16 k0_t2
  let c512_i32_129 : BitVec 32 := 512#32
  let v353 : BitVec 32 := Scalar.muli arg13 c512_i32_129
  let c0_i32_130 : BitVec 32 := 0#32
  let v354 : BitVec 32 := Scalar.addi v353 c0_i32_130
  v354
def k0_off2 (i : grid0.Coords) (k0_t2 : Fin (k0_t2_loop i).trips) (c0_i32_130 : BitVec 32) : Fin 2 → Nat :=
  let c0_i32_13 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v30 : BitVec 32 := Scalar.subi v27 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg13 : BitVec 32 := Scf.iv v34 c1_i32_16 k0_t2
  let c512_i32_129 : BitVec 32 := 512#32
  let v353 : BitVec 32 := Scalar.muli arg13 c512_i32_129
  let v354 : BitVec 32 := Scalar.addi v353 c0_i32_130
  let v355 : BitVec 32 := v354
  let v356 : Index := Scalar.indexCast v355
  let c0_131 : Index := 0#32
  ![v356.toNat, 0]
def k0_mult6 (i : grid0.Coords) (k0_t2 : Fin (k0_t2_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v30 : BitVec 32 := Scalar.subi v27 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg13 : BitVec 32 := Scf.iv v34 c1_i32_16 k0_t2
  let c512_i32_134 : BitVec 32 := 512#32
  let v363 : BitVec 32 := Scalar.muli arg13 c512_i32_134
  let c256_i32_135 : BitVec 32 := 256#32
  let v364 : BitVec 32 := Scalar.addi v363 c256_i32_135
  v364
def k0_mult7 (i : grid0.Coords) (k0_t2 : Fin (k0_t2_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v30 : BitVec 32 := Scalar.subi v27 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg13 : BitVec 32 := Scf.iv v34 c1_i32_16 k0_t2
  let c512_i32_139 : BitVec 32 := 512#32
  let v373 : BitVec 32 := Scalar.muli arg13 c512_i32_139
  let c0_i32_140 : BitVec 32 := 0#32
  let v374 : BitVec 32 := Scalar.addi v373 c0_i32_140
  v374
def k0_mult8 (i : grid0.Coords) (k0_t2 : Fin (k0_t2_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v30 : BitVec 32 := Scalar.subi v27 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg13 : BitVec 32 := Scf.iv v34 c1_i32_16 k0_t2
  let c512_i32_144 : BitVec 32 := 512#32
  let v392 : BitVec 32 := Scalar.muli arg13 c512_i32_144
  let c256_i32_145 : BitVec 32 := 256#32
  let v393 : BitVec 32 := Scalar.addi v392 c256_i32_145
  v393
def k0_mult9 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_17 : BitVec 32 := 512#32
  let v37 : BitVec 32 := Scalar.muli v27 c512_i32_17
  let c0_i32_18 : BitVec 32 := 0#32
  let v38 : BitVec 32 := Scalar.addi v37 c0_i32_18
  v38
def k0_off3 (i : grid0.Coords) (c0_i32_18 : BitVec 32) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_17 : BitVec 32 := 512#32
  let v37 : BitVec 32 := Scalar.muli v27 c512_i32_17
  let v38 : BitVec 32 := Scalar.addi v37 c0_i32_18
  let v39 : BitVec 32 := v38
  let v40 : Index := Scalar.indexCast v39
  let c0_19 : Index := 0#32
  ![v40.toNat, 0]
def k0_mult10 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_23 : BitVec 32 := 512#32
  let v58 : BitVec 32 := Scalar.muli v27 c512_i32_23
  let c256_i32_24 : BitVec 32 := 256#32
  let v59 : BitVec 32 := Scalar.addi v58 c256_i32_24
  v59
def k0_mult11 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_30 : BitVec 32 := 512#32
  let v79 : BitVec 32 := Scalar.muli v27 c512_i32_30
  let c0_i32_31 : BitVec 32 := 0#32
  let v80 : BitVec 32 := Scalar.addi v79 c0_i32_31
  v80
def k0_mult12 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_35 : BitVec 32 := 512#32
  let v98 : BitVec 32 := Scalar.muli v27 c512_i32_35
  let c256_i32_36 : BitVec 32 := 256#32
  let v99 : BitVec 32 := Scalar.addi v98 c256_i32_36
  v99
def k0_mult13 (i : grid0.Coords) : BitVec 32 :=
  let c7424_i32 : BitVec 32 := 7424#32
  let c0_i32_41 : BitVec 32 := 0#32
  let arg1 : BitVec 32 := BitVec.ofNat 32 (i 1).val
  let c256_i32 : BitVec 32 := 256#32
  let v0 : BitVec 32 := Scalar.muli arg1 c256_i32
  let c512_i32_40 : BitVec 32 := 512#32
  let v120 : BitVec 32 := Scalar.subi v0 c512_i32_40
  let v121 : BitVec 32 := Scalar.maxsi c0_i32_41 v120
  let v122 : BitVec 32 := Scalar.minsi c7424_i32 v121
  v122
def k0_off4 (i : grid0.Coords) : Fin 2 → Nat :=
  let c7424_i32 : BitVec 32 := 7424#32
  let c0_i32_41 : BitVec 32 := 0#32
  let arg1 : BitVec 32 := BitVec.ofNat 32 (i 1).val
  let c256_i32 : BitVec 32 := 256#32
  let v0 : BitVec 32 := Scalar.muli arg1 c256_i32
  let c512_i32_40 : BitVec 32 := 512#32
  let v120 : BitVec 32 := Scalar.subi v0 c512_i32_40
  let v121 : BitVec 32 := Scalar.maxsi c0_i32_41 v120
  let v122 : BitVec 32 := Scalar.minsi c7424_i32 v121
  let v123 : BitVec 32 := v122
  let v124 : Index := Scalar.indexCast v123
  let c0_42 : Index := 0#32
  ![v124.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== NsaIdeal.lean ====
variable {F : FTy → Type} [FloatOps F] [Named F]
def κ : String → Option EReal := fun
  | "masked" => some ⊥
  | _ => none
-- ==== NsaRefIdeal.lean ====
abbrev S8192x5632 : Shape := ⟨2, ![8192, 5632]⟩
abbrev S2x8192x128 : Shape := ⟨3, ![2, 8192, 128]⟩
abbrev S8192x1024 : Shape := ⟨2, ![8192, 1024]⟩
abbrev S8192x128 : Shape := ⟨2, ![8192, 128]⟩
abbrev S1x2048 : Shape := ⟨2, ![1, 2048]⟩
abbrev S8192x8x128 : Shape := ⟨3, ![8192, 8, 128]⟩
abbrev S8x8192x128 : Shape := ⟨3, ![8, 8192, 128]⟩
abbrev S2x4x8192x128 : Shape := ⟨4, ![2, 4, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192x128x64 : Shape := ⟨4, ![2, 8192, 128, 64]⟩
abbrev S2x8192x8192 : Shape := ⟨3, ![2, 8192, 8192]⟩
abbrev S2x1x8192x8192 : Shape := ⟨4, ![2, 1, 8192, 8192]⟩
abbrev S8192x256 : Shape := ⟨2, ![8192, 256]⟩
abbrev S8192x2x128 : Shape := ⟨3, ![8192, 2, 128]⟩
abbrev S_ : Shape := ⟨0, ![]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S8192x24 : Shape := ⟨2, ![8192, 24]⟩
abbrev S8192x3x8 : Shape := ⟨3, ![8192, 3, 8]⟩
abbrev S8192x3x8x1 : Shape := ⟨4, ![8192, 3, 8, 1]⟩
abbrev S8192x1x8x1 : Shape := ⟨4, ![8192, 1, 8, 1]⟩
abbrev S8192x8x1 : Shape := ⟨3, ![8192, 8, 1]⟩
abbrev S8192x8 : Shape := ⟨2, ![8192, 8]⟩
abbrev S1x1024 : Shape := ⟨2, ![1, 1024]⟩

abbrev nBuf : Space → Nat
  | .hbm => 133
  | .vmem => 0
  | .smem => 0
  | _ => 0

abbrev hbmTy0_0 (i : Nat) : BufTy := match i % 128 with
  | 0 => ⟨S8192x5632, .bf16⟩
  | 1 => ⟨S2x8192x128, .bf16⟩
  | 2 => ⟨S8192x1024, .f32⟩
  | 3 => ⟨S8192x128, .f32⟩
  | 4 => ⟨S1x2048, .f32⟩
  | 5 => ⟨S8192x5632, .f32⟩
  | 6 => ⟨S8192x1024, .f32⟩
  | 7 => ⟨S8192x8x128, .f32⟩
  | 8 => ⟨S8x8192x128, .f32⟩
  | 9 => ⟨S2x4x8192x128, .f32⟩
  | 10 => ⟨S8192, .i32⟩
  | 11 => ⟨S8192x1, .i32⟩
  | 12 => ⟨S1x8192, .i32⟩
  | 13 => ⟨S8192x8192, .i32⟩
  | 14 => ⟨S8192x8192, .i32⟩
  | 15 => ⟨S8192x8192, .i32⟩
  | 16 => ⟨S2x8192x128, .f32⟩
  | 17 => ⟨S2x8192x128x64, .f32⟩
  | 18 => ⟨S2x8192x8192, .f32⟩
  | 19 => ⟨S2x1x8192x8192, .f32⟩
  | 20 => ⟨S8192x256, .f32⟩
  | 21 => ⟨S8192x2x128, .f32⟩
  | 22 => ⟨S2x8192x128, .f32⟩
  | 23 => ⟨S8192x256, .f32⟩
  | 24 => ⟨S8192x2x128, .f32⟩
  | 25 => ⟨S2x8192x128, .f32⟩
  | 26 => ⟨S_, .i32⟩
  | 27 => ⟨S8192x8192, .i32⟩
  | 28 => ⟨S8192x8192, .i1⟩
  | 29 => ⟨S2x4x8192x8192, .f32⟩
  | 30 => ⟨S2x4x8192x8192, .f32⟩
  | 31 => ⟨S2x4x8192x8192, .f32⟩
  | 32 => ⟨S_, .f32⟩
  | 33 => ⟨S_, .f32⟩
  | 34 => ⟨S2x4x8192x8192, .i1⟩
  | 35 => ⟨S2x4x8192x8192, .f32⟩
  | 36 => ⟨S2x4x8192x8192, .f32⟩
  | 37 => ⟨S_, .f32⟩
  | 38 => ⟨S2x4x8192, .f32⟩
  | 39 => ⟨S2x4x8192x1, .f32⟩
  | 40 => ⟨S2x4x8192x8192, .f32⟩
  | 41 => ⟨S2x4x8192x8192, .f32⟩
  | 42 => ⟨S2x4x8192x8192, .f32⟩
  | 43 => ⟨S_, .f32⟩
  | 44 => ⟨S_, .f32⟩
  | 45 => ⟨S2x4x8192x8192, .i1⟩
  | 46 => ⟨S2x4x8192x8192, .f32⟩
  | 47 => ⟨S2x4x8192x8192, .f32⟩
  | 48 => ⟨S2x4x8192x128, .f32⟩
  | 49 => ⟨S_, .f32⟩
  | 50 => ⟨S2x4x8192, .f32⟩
  | 51 => ⟨S2x4x8192x1, .f32⟩
  | 52 => ⟨S2x4x8192x128, .f32⟩
  | 53 => ⟨S2x4x8192x128, .f32⟩
  | 54 => ⟨S8192x256, .f32⟩
  | 55 => ⟨S8192x2x128, .f32⟩
  | 56 => ⟨S2x8192x128, .f32⟩
  | 57 => ⟨S8192x256, .f32⟩
  | 58 => ⟨S8192x2x128, .f32⟩
  | 59 => ⟨S2x8192x128, .f32⟩
  | 60 => ⟨S_, .i32⟩
  | 61 => ⟨S8192x8192, .i32⟩
  | 62 => ⟨S8192x8192, .i1⟩
  | 63 => ⟨S_, .i32⟩
  | 64 => ⟨S8192x8192, .i32⟩
  | 65 => ⟨S8192x8192, .i1⟩
  | 66 => ⟨S8192x8192, .i1⟩
  | 67 => ⟨S2x4x8192x8192, .f32⟩
  | 68 => ⟨S_, .f32⟩
  | 69 => ⟨S2x4x8192x8192, .f32⟩
  | 70 => ⟨S2x4x8192x8192, .f32⟩
  | 71 => ⟨S_, .f32⟩
  | 72 => ⟨S_, .f32⟩
  | 73 => ⟨S2x4x8192x8192, .i1⟩
  | 74 => ⟨S2x4x8192x8192, .f32⟩
  | 75 => ⟨S2x4x8192x8192, .f32⟩
  | 76 => ⟨S_, .f32⟩
  | 77 => ⟨S2x4x8192, .f32⟩
  | 78 => ⟨S2x4x8192x1, .f32⟩
  | 79 => ⟨S2x4x8192x8192, .f32⟩
  | 80 => ⟨S2x4x8192x8192, .f32⟩
  | 81 => ⟨S2x4x8192x8192, .f32⟩
  | 82 => ⟨S_, .f32⟩
  | 83 => ⟨S_, .f32⟩
  | 84 => ⟨S2x4x8192x8192, .i1⟩
  | 85 => ⟨S2x4x8192x8192, .f32⟩
  | 86 => ⟨S2x4x8192x8192, .f32⟩
  | 87 => ⟨S2x4x8192x128, .f32⟩
  | 88 => ⟨S_, .f32⟩
  | 89 => ⟨S2x4x8192, .f32⟩
  | 90 => ⟨S2x4x8192x1, .f32⟩
  | 91 => ⟨S2x4x8192x128, .f32⟩
  | 92 => ⟨S2x4x8192x128, .f32⟩
  | 93 => ⟨S8192x24, .f32⟩
  | 94 => ⟨S8192x3x8, .f32⟩
  | 95 => ⟨S8192x3x8x1, .f32⟩
  | 96 => ⟨S8192x1x8x1, .f32⟩
  | 97 => ⟨S8192x8x1, .f32⟩
  | 98 => ⟨S8192x8x128, .f32⟩
  | 99 => ⟨S8192x8x128, .f32⟩
  | 100 => ⟨S8192x8x128, .f32⟩
  | 101 => ⟨S8192x1x8x1, .f32⟩
  | 102 => ⟨S8192x8x1, .f32⟩
  | 103 => ⟨S8x8192x128, .f32⟩
  | 104 => ⟨S8192x8x128, .f32⟩
  | 105 => ⟨S8192x8x128, .f32⟩
  | 106 => ⟨S8192x8x128, .f32⟩
  | 107 => ⟨S8192x8x128, .f32⟩
  | 108 => ⟨S8192x1x8x1, .f32⟩
  | 109 => ⟨S8192x8x1, .f32⟩
  | 110 => ⟨S8x8192x128, .f32⟩
  | 111 => ⟨S8192x8x128, .f32⟩
  | 112 => ⟨S8192x8x128, .f32⟩
  | 113 => ⟨S8192x8x128, .f32⟩
  | 114 => ⟨S8192x8x128, .f32⟩
  | 115 => ⟨S8192x8x128, .f32⟩
  | 116 => ⟨S_, .f32⟩
  | 117 => ⟨S8192x8, .f32⟩
  | 118 => ⟨S8192x8x1, .f32⟩
  | 119 => ⟨S_, .f32⟩
  | 120 => ⟨S8192x8x1, .f32⟩
  | 121 => ⟨S8192x8x1, .f32⟩
  | 122 => ⟨S_, .f32⟩
  | 123 => ⟨S8192x8x1, .f32⟩
  | 124 => ⟨S8192x8x1, .f32⟩
  | 125 => ⟨S8192x8x1, .f32⟩
  | 126 => ⟨S8192x8x128, .f32⟩
  | 127 => ⟨S8192x8x128, .f32⟩
  | _ => ⟨S8192x5632, .bf16⟩

abbrev hbmTy0_1 (i : Nat) : BufTy := match i % 128 with
  | 0 => ⟨S8192x1024, .f32⟩
  | 1 => ⟨S1x1024, .f32⟩
  | 2 => ⟨S8192x1024, .f32⟩
  | 3 => ⟨S8192x1024, .f32⟩
  | 4 => ⟨S8192x1024, .bf16⟩
  | _ => ⟨S8192x5632, .bf16⟩

abbrev hbmTy (i : Nat) : BufTy := match i / 128 with
  | 0 => hbmTy0_0 i
  | 1 => hbmTy0_1 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_3 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_10 : Ref sig .tc := ⟨.hbm, 116, rfl⟩
abbrev main_v87 : Ref sig .tc := ⟨.hbm, 117, rfl⟩
abbrev main_v88 : Ref sig .tc := ⟨.hbm, 118, rfl⟩
abbrev main_cst_11 : Ref sig .tc := ⟨.hbm, 119, rfl⟩
abbrev main_v89 : Ref sig .tc := ⟨.hbm, 120, rfl⟩
abbrev main_v90 : Ref sig .tc := ⟨.hbm, 121, rfl⟩
abbrev main_cst_12 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Proof.SbI.Loop.lean ====
/- The early-exit loop over the key blocks left of the span: its state, one trip, the whole loop as a recursion on
   the number of blocks still to visit, and the specification of the loop's label, met by its body. -/
module

public import proofs.«01_k».proof.Proof.Gen.SbIdeal
public import proofs.«01_k».proof.Proof.Gen.SbIdeal.Skeleton
public import proofs.«01_k».proof.Proof.Gen.SbIdeal.Launch
public import proofs.«01_k».proof.Proof.Gen.SbIdeal.Points
public import Idealize.ShloMosaic.Lib.Tactic
public import Idealize.ShloMosaic.Lib.WordCmp
public import Idealize.ShloMosaic.Lib.Pipeline.FrameBody

@[expose] public section

set_option maxRecDepth 16384

noncomputable section

namespace Cert.SbIdeal.Frm

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop carries besides its counter: the largest carry, the four heads' carries, the four heads' sums. -/
structure St (F : FTy → Type) where
  mx : F .f32
  c0 : FVec F S128x1 .f32
  c1 : FVec F S128x1 .f32
  c2 : FVec F S128x1 .f32
  c3 : FVec F S128x1 .f32
  a0 : FVec F S128x128 .f32
  a1 : FVec F S128x128 .f32
  a2 : FVec F S128x128 .f32
  a3 : FVec F S128x128 .f32

/-- The state as the loop's label returns it. -/
def St.tup (s : St F) : F .f32 × FVec F S128x1 .f32 × FVec F S128x1 .f32 × FVec F S128x1 .f32 × FVec F S128x1 .f32 × FVec F S128x128 .f32 × FVec F S128x128 .f32 × FVec F S128x128 .f32 × FVec F S128x128 .f32 :=
  (s.mx, s.c0, s.c1, s.c2, s.c3, s.a0, s.a1, s.a2, s.a3)

/-- A 128 x 128 tile of the keys or the values. -/
def tile (x : Vec F S8192x512 .bf16) (o : Fin 2 → Nat) (h : ∀ a, o a + S128x128.size a ≤ S8192x512.size a) : Vec F S128x128 .bf16 :=
  View.ld (Val := Elt F) x (Rect.unit (s := S8192x512) o S128x128.size h)

/-- The loop's offsets are in range at every counter below 64. -/
theorem chk_lt (n : ℕ) (hn : n < 64) : k0_chk1 (BitVec.ofNat 32 n) := by
  have h : ∀ j : Fin 64, k0_chk1 (BitVec.ofNat 32 j.val) := by decide +kernel
  exact h ⟨n, hn⟩

/-- The first query row of the block, as the kernel's word. -/
abbrev qw (i : grid0.Coords) : BitVec 32 := Scalar.muli (BitVec.ofNat 32 (i 1).val) 128#32
/-- The first key of block `nt`, as the kernel's word. -/
abbrev kw (nt : BitVec 32) : BitVec 32 := Scalar.muli (Scalar.maxsi (Scalar.subi nt 0#32) 0#32) 128#32
/-- One past the last key of block `nt`, as the kernel's word. -/
abbrev ew (nt : BitVec 32) : BitVec 32 := Scalar.muli (Scalar.addi nt 1#32) 128#32

section

variable (i : grid0.Coords) (x1 x2 : Vec F S8192x512 .bf16) (v3 : Vec F S128x128 .bf16) (v2 : FVec F S128x128 .bf16) (v4 v5 v6 : Vec F S128x128 .bf16)

/-- One trip of the loop at counter `nt`. -/
def step (nt : BitVec 32) (h : k0_chk1 nt) (s : St F) : St F where
  c0 := k0_pay93 v3 nt s.c0 (qw i) (tile x1 (k0_off5 nt) (k0_off5_inb nt h))
  c1 := k0_pay98 v4 s.c1 (qw i) (kw nt) (ew nt) (tile x1 (k0_off6 nt) (k0_off6_inb nt h))
  c2 := k0_pay104 v5 s.c2 (qw i) (kw nt) (ew nt) (tile x1 (k0_off7 nt) (k0_off7_inb nt h))
  c3 := k0_pay110 v6 s.c3 (qw i) (kw nt) (ew nt) (tile x1 (k0_off8 nt) (k0_off8_inb nt h))
  a0 := k0_pay94 s.a0 (tile x2 (k0_off5 nt) (k0_off5_inb nt h)) (k0_pay89 v3 (tile x1 (k0_off5 nt) (k0_off5_inb nt h))) (k0_pay90 nt (qw i))
    (k0_pay91 v3 nt (qw i) (tile x1 (k0_off5 nt) (k0_off5_inb nt h))) (k0_pay92 v3 v2 nt s.c0 (qw i) (tile x1 (k0_off5 nt) (k0_off5_inb nt h)))
  a1 := k0_pay100 s.a1 (tile x2 (k0_off6 nt) (k0_off6_inb nt h)) (k0_pay96 (qw i) (kw nt) (ew nt))
    (k0_pay99 v2 v4 s.c1 (qw i) (kw nt) (ew nt) (tile x1 (k0_off6 nt) (k0_off6_inb nt h)))
  a2 := k0_pay106 s.a2 (tile x2 (k0_off7 nt) (k0_off7_inb nt h)) (k0_pay102 (qw i) (kw nt) (ew nt))
    (k0_pay105 v2 v5 s.c2 (qw i) (kw nt) (ew nt) (tile x1 (k0_off7 nt) (k0_off7_inb nt h))) (Scalar.ofBits .f32 0x00000000#32)
  a3 := k0_pay3 s.a3 (tile x2 (k0_off8 nt) (k0_off8_inb nt h))
    (k0_pay111 v2 v6 s.c3 (qw i) (kw nt) (ew nt) (tile x1 (k0_off8 nt) (k0_off8_inb nt h)))
  mx := k0_pay4 (k0_pay93 v3 nt s.c0 (qw i) (tile x1 (k0_off5 nt) (k0_off5_inb nt h)))
    (k0_pay98 v4 s.c1 (qw i) (kw nt) (ew nt) (tile x1 (k0_off6 nt) (k0_off6_inb nt h)))
    (k0_pay104 v5 s.c2 (qw i) (kw nt) (ew nt) (tile x1 (k0_off7 nt) (k0_off7_inb nt h)))
    (k0_pay110 v6 s.c3 (qw i) (kw nt) (ew nt) (tile x1 (k0_off8 nt) (k0_off8_inb nt h)))

/-- The threshold the largest carry is compared with. -/
abbrev thr : F .f32 := Named.named κ "underflow" 0xC2D20000#32

/-- The loop with `n` blocks still to visit: it stops when none is left or when the largest carry is not above the threshold. -/
def loop : (n : ℕ) → n ≤ 64 → St F → St F
  | 0, _, s => s
  | n + 1, h, s => if Scalar.cmpf .ogt s.mx (thr (F := F)) = 1#1 then
      loop n (Nat.le_of_succ_le h) (step i x1 x2 v3 v2 v4 v5 v6 (BitVec.ofNat 32 n) (chk_lt n h) s) else s

variable (c : Dev nD) (arg3 : Memref sig .tc .vmem S8192x512 .bf16) (harg3 : arg3.IsWhole) (arg4 : Memref sig .tc .vmem S8192x512 .bf16) (harg4 : arg4.IsWhole)

/-- The key and the value buffers, held whole at their contents. -/
def held : sProp 𝕄 :=
  iprop((arg3.view.loc (c : Thread nD τ) ↦[arg3.view.set]{fullShare} harg3.unread x1) ∗ (arg4.view.loc (c : Thread nD τ) ↦[arg4.view.set]{fullShare} harg4.unread x2))

/-- The label's specification with `n` blocks to visit from state `s`: it keeps the two buffers and returns the loop's state. -/
def spec (n : ℕ) (hn : n ≤ 64) (s : St F) : sWPT 𝕄 (BitVec 32 × F .f32 × FVec F S128x1 .f32 × FVec F S128x1 .f32 × FVec F S128x1 .f32 × FVec F S128x1 .f32 × FVec F S128x128 .f32 × FVec F S128x128 .f32 × FVec F S128x128 .f32 × FVec F S128x128 .f32) := do
  sWPT.consume (held x1 x2 c arg3 harg3 arg4 harg4)
  let r ← sWPT.arbitrary
  sWPT.assume (r.2 = (loop i x1 x2 v3 v2 v4 v5 v6 n hn s).tup)
  sWPT.produce (held x1 x2 c arg3 harg3 arg4 harg4)
  pure r

theorem spec_apply (n : ℕ) (hn : n ≤ 64) (s : St F) (K : (BitVec 32 × F .f32 × FVec F S128x1 .f32 × FVec F S128x1 .f32 × FVec F S128x1 .f32 × FVec F S128x1 .f32 × FVec F S128x128 .f32 × FVec F S128x128 .f32 × FVec F S128x128 .f32 × FVec F S128x128 .f32) → sProp 𝕄) :
    spec i x1 x2 v3 v2 v4 v5 v6 c arg3 harg3 arg4 harg4 n hn s K
      = iprop(held x1 x2 c arg3 harg3 arg4 harg4 ∗ ∀ r, ⌜r.2 = (loop i x1 x2 v3 v2 v4 v5 v6 n hn s).tup⌝ -∗ (held x1 x2 c arg3 harg3 arg4 harg4 -∗ K r)) := rfl

/-- The record the label is called on with counter `nt` and state `s`. -/
abbrev rec1 (nt : BitVec 32) (s : St F) : Cc0While1 F := ⟨i, arg3, harg3, arg4, harg4, v3, v2, v4, v5, v6, nt, s.mx, s.c0, s.c1, s.c2, s.c3, s.a0, s.a1, s.a2, s.a3⟩

theorem ge_succ (n : ℕ) (hn : n < 64) : Scalar.cmpi .sge (BitVec.ofNat 32 (n + 1) - 1#32) 0#32 = 1#1 := by
  have h : ∀ j : Fin 64, Scalar.cmpi .sge (BitVec.ofNat 32 (j.val + 1) - 1#32) 0#32 = 1#1 := by decide +kernel
  exact h ⟨n, hn⟩

theorem succ_sub (n : ℕ) : BitVec.ofNat 32 (n + 1) - 1#32 = BitVec.ofNat 32 n := by
  rw [BitVec.ofNat_add]; exact BitVec.add_sub_cancel _ _

set_option maxHeartbeats 1000000 in

/-- The label entered with `n` blocks to visit meets its specification, by induction on `n`. -/
theorem spec_le (E : Set ℕ) : ∀ (n : ℕ) (hn : n ≤ 64) (s : St F) (K : _ → sProp 𝕄),
    spec i x1 x2 v3 v2 v4 v5 v6 c arg3 harg3 arg4 harg4 n hn s K
      ⊢ wp frame (wpE (defs₀ (F := F)) Variants.nat (c : Thread nD τ) (some n)) E
          (defs₀ (F := F) .tc 1 (rec1 i v3 v2 v4 v5 v6 arg3 harg3 arg4 harg4 (BitVec.ofNat 32 n - 1#32) s)) K := by
  intro n
  induction n with
  | zero =>
    intro hn s K
    rw [spec_apply]
    show _ ⊢ wp frame (wpE (defs₀ (F := F)) Variants.nat (c : Thread nD τ) (some 0)) E
      (cc0_while1 i arg3 harg3 arg4 harg4 v3 v2 v4 v5 v6 (BitVec.ofNat 32 0 - 1#32) s.mx s.c0 s.c1 s.c2 s.c3 s.a0 s.a1 s.a2 s.a3) K
    simp only [cc0_while1_eq_skeleton]; unfold cc0_while1_skel
    have htest : ∀ b : BitVec 1, ¬ Scalar.andi (Scalar.cmpi .sge (BitVec.ofNat 32 0 - 1#32) 0#32) b = 1#1 := by decide
    simp only [htest, ↓reduceIte, Prog.pure_eq_ret]
    iintro ⟨H, Hk⟩
    rw [wp_ret]; imodintro
    iapply Hk
    · ipureintro; rfl
    · iexact H
  | succ n ih =>
    intro hn s K
    rw [spec_apply]
    show _ ⊢ wp frame (wpE (defs₀ (F := F)) Variants.nat (c : Thread nD τ) (some (n + 1))) E
      (cc0_while1 i arg3 harg3 arg4 harg4 v3 v2 v4 v5 v6 (BitVec.ofNat 32 (n + 1) - 1#32) s.mx s.c0 s.c1 s.c2 s.c3 s.a0 s.a1 s.a2 s.a3) K
    have hge := ge_succ n hn
    have hchk := chk_lt n hn
    rw [succ_sub] at hge ⊢
    generalize hnt : BitVec.ofNat 32 n = nt at hge hchk ⊢
    rw [cc0_while1_eq_skeleton]; unfold cc0_while1_skel
    have hand : ∀ b : BitVec 1, (Scalar.andi 1#1 b = 1#1) = (b = 1#1) := by decide
    simp only [hge, hand]
    by_cases hc : Scalar.cmpf .ogt s.mx (thr (F := F)) = 1#1
    · have hl : loop i x1 x2 v3 v2 v4 v5 v6 (n + 1) hn s = loop i x1 x2 v3 v2 v4 v5 v6 n (Nat.le_of_succ_le hn) (step i x1 x2 v3 v2 v4 v5 v6 nt hchk s) := by
        subst hnt; rw [loop, if_pos hc]
      have hih := ih (Nat.le_of_succ_le hn)
      rw [hnt] at hih
      simp only [hc, ↓reduceIte, hl]
      simp only [k0_part11_eq_skeleton, k0_part12_eq_skeleton, k0_part13_eq_skeleton, k0_part14_eq_skeleton]
      unfold k0_part11_skel k0_part12_skel k0_part13_skel k0_part14_skel
      simp only [Prog.lift, Prog.bind_op, Prog.bind_ret, Prog.pure_eq_ret]
      unfold held
      iintro ⟨⟨H3, H4⟩, Hk⟩
      iapply (wp_assume Variants.nat (c : Thread nD τ) (some (n + 1)) E hchk)
      iapply (wp_load Variants.nat (c : Thread nD τ) (some (n + 1)) E (m := arg3) (View.setOn_subset_set _ _)) $$ H3; iintro H3
      iapply (wp_load Variants.nat (c : Thread nD τ) (some (n + 1)) E (m := arg4) (View.setOn_subset_set _ _)) $$ H4; iintro H4
      iapply (wp_load Variants.nat (c : Thread nD τ) (some (n + 1)) E (m := arg3) (View.setOn_subset_set _ _)) $$ H3; iintro H3
      iapply (wp_load Variants.nat (c : Thread nD τ) (some (n + 1)) E (m := arg4) (View.setOn_subset_set _ _)) $$ H4; iintro H4
      iapply (wp_load Variants.nat (c : Thread nD τ) (some (n + 1)) E (m := arg3) (View.setOn_subset_set _ _)) $$ H3; iintro H3
      iapply (wp_load Variants.nat (c : Thread nD τ) (some (n + 1)) E (m := arg4) (View.setOn_subset_set _ _)) $$ H4; iintro H4
      iapply (wp_load Variants.nat (c : Thread nD τ) (some (n + 1)) E (m := arg3) (View.setOn_subset_set _ _)) $$ H3; iintro H3
      iapply (wp_load Variants.nat (c : Thread nD τ) (some (n + 1)) E (m := arg4) (View.setOn_subset_set _ _)) $$ H4; iintro H4
      simp only [View.readAt_eq_ld, Memref.IsWhole.read_unread]
      iapply (wp_call_spec Variants.nat (c : Thread nD τ) (some (n + 1)) E
        (spec i x1 x2 v3 v2 v4 v5 v6 c arg3 harg3 arg4 harg4 n (Nat.le_of_succ_le hn) (step i x1 x2 v3 v2 v4 v5 v6 nt hchk s)) n
        (fun u hu => by cases hu; exact Nat.lt_succ_self n)
        (hih (step i x1 x2 v3 v2 v4 v5 v6 nt hchk s)))
      rw [spec_apply]; unfold held
      isplitl [H3 H4]
      · isplitl [H3]; · iexact H3
        iexact H4
      iintro %r %hr ⟨H3, H4⟩
      rw [wp_ret]; imodintro
      iapply Hk
      · ipureintro; exact hr
      · isplitl [H3]; · iexact H3
        iexact H4
    · have hl : loop i x1 x2 v3 v2 v4 v5 v6 (n + 1) hn s = s := by
        rw [loop, if_neg hc]
      simp only [hc, ↓reduceIte, hl, Prog.pure_eq_ret]
      iintro ⟨H, Hk⟩
      rw [wp_ret]; imodintro
      iapply Hk
      · ipureintro; rfl
      · iexact H

end

end Cert.SbIdeal.Frm

end
-- ==== Proof.SbI.Kit.lean ====
/- The launch's set-up: what the region finds, the windows' blocks, the frame's post read off a run, the staging memrefs. -/
module

public import proofs.«01_k».proof.Proof.SbI.Loop

@[expose] public section

set_option maxRecDepth 16384

noncomputable section

namespace Cert.SbIdeal.Frm

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): the index has not moved where it is not fetched, the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the index has not moved where it is not fetched, the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the index has not moved where it is not fetched, the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the index has not moved where it is not fetched, the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): the index has not moved where it is not fetched, the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).1 4).trans (((dats 0 c).arrAt_in 4 rfl _).trans ((hA c 4).trans (V_main_arg1 m c)))⟩) h

/-! ## The kernel body on any staging memrefs: a subtype the run finds -/

/-- One staging buffer of output window 5, through which its contents are stated (`View.read_writes_of_cover`: the
    choice does not matter). -/
abbrev VO0_5 : View sig .tc .vmem S128x512 .bf16 := (Memref.whole cc0_stg5_0 : Memref sig .tc .vmem S128x512 .bf16).view
/-- Each window's current staging memref at point `t`, spelled as the pipeline passes it (`bodyAt0`), and its wholeness. -/
abbrev ms0_0 (t : Fin (cfg0 (F := F)).N) : Memref sig .tc .vmem S128x512 .bf16 := win0_0.stage ((cfg0 (F := F)).slots t 0)
abbrev hs0_0 (t : Fin (cfg0 (F := F)).N) : (ms0_0 (F := F) t).IsWhole := hstage0_0 (((cfg0 (F := F)).slots t 0).cast nbuf0_0)
abbrev ms0_1 (t : Fin (cfg0 (F := F)).N) : Memref sig .tc .vmem S8192x512 .bf16 := win0_1.stage ((cfg0 (F := F)).slots t 1)
abbrev hs0_1 (t : Fin (cfg0 (F := F)).N) : (ms0_1 (F := F) t).IsWhole := hstage0_1 (((cfg0 (F := F)).slots t 1).cast nbuf0_1)
abbrev ms0_2 (t : Fin (cfg0 (F := F)).N) : Memref sig .tc .vmem S8192x512 .bf16 := win0_2.stage ((cfg0 (F := F)).slots t 2)
abbrev hs0_2 (t : Fin (cfg0 (F := F)).N) : (ms0_2 (F := F) t).IsWhole := hstage0_2 (((cfg0 (F := F)).slots t 2).cast nbuf0_2)
abbrev ms0_3 (t : Fin (cfg0 (F := F)).N) : Memref sig .tc .vmem S128x128 .bf16 := win0_3.stage ((cfg0 (F := F)).slots t 3)
abbrev hs0_3 (t : Fin (cfg0 (F := F)).N) : (ms0_3 (F := F) t).IsWhole := hstage0_3 (((cfg0 (F := F)).slots t 3).cast nbuf0_3)
abbrev ms0_4 (t : Fin (cfg0 (F := F)).N) : Memref sig .tc .vmem S1x512 .f32 := win0_4.stage ((cfg0 (F := F)).slots t 4)
abbrev hs0_4 (t : Fin (cfg0 (F := F)).N) : (ms0_4 (F := F) t).IsWhole := hstage0_4 (((cfg0 (F := F)).slots t 4).cast nbuf0_4)
abbrev ms0_5 (t : Fin (cfg0 (F := F)).N) : Memref sig .tc .vmem S128x512 .bf16 := win0_5.stage ((cfg0 (F := F)).slots t 5)
abbrev hs0_5 (t : Fin (cfg0 (F := F)).N) : (ms0_5 (F := F) t).IsWhole := hstage0_5 (((cfg0 (F := F)).slots t 5).cast nbuf0_5)

end Cert.SbIdeal.Frm

end
-- ==== Proof.SbI.Run.lean ====
/- The kernel's body on whole staging memrefs: the state the loop starts from, the four pieces the output buffer ends with, and the body's triple. -/
module

public import proofs.«01_k».proof.Proof.SbI.Kit

@[expose] public section

set_option maxRecDepth 16384

noncomputable section

namespace Cert.SbIdeal.Frm

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's first counter plus one, as a number: the blocks left of the span. -/
abbrev n0 (i : grid0.Coords) : ℕ := (i 1).val - 4

theorem n0_le (i : grid0.Coords) : n0 i ≤ 64 := by
  have h : (i 1).val < 64 := (i 1).isLt
  unfold n0; omega

/-- The span's first key, as the kernel's word. -/
abbrev sw (i : grid0.Coords) : BitVec 32 := Scalar.maxsi (Scalar.subi (qw i) 512#32) 0#32

/-- The loop's first counter, as the kernel computes it from the span's first key. -/
abbrev cnt (w : BitVec 32) : BitVec 32 :=
  Scalar.subi (Scalar.select (Scalar.andi
    (Scalar.cmpi .ne (Scalar.subi (Scalar.extui (Scalar.cmpi .sgt w 0#32)) (Scalar.extui (Scalar.cmpi .slt w 0#32)))
      (Scalar.subi (Scalar.extui (Scalar.cmpi .sgt 128#32 0#32)) (Scalar.extui (Scalar.cmpi .slt 128#32 0#32))))
    (Scalar.cmpi .ne (Scalar.remsi w 128#32) 0#32))
    (Scalar.subi (Scalar.divsi w 128#32) 1#32) (Scalar.divsi w 128#32)) 1#32

theorem cnt_eq (i : grid0.Coords) : cnt (sw i) = BitVec.ofNat 32 (n0 i) - 1#32 := by
  have h : ∀ j : Fin 64, cnt (Scalar.maxsi (Scalar.subi (Scalar.muli (BitVec.ofNat 32 j.val) 128#32) 512#32) 0#32) = BitVec.ofNat 32 (j.val - 4) - 1#32 := by decide +kernel
  exact h (i 1)

section

variable (i : grid0.Coords) (x0 : Vec F S128x512 .bf16) (x1 x2 : Vec F S8192x512 .bf16) (x3 : Vec F S128x128 .bf16) (x4 : Vec F S1x512 .f32)

/-- A head's columns of the query block. -/
def qh0 : Vec F S128x128 .bf16 := View.ld (Val := Elt F) x0 (Rect.unit (s := S128x512) ![0, 0] S128x128.size inb_S128x512_S128x128_0_0)
def qh1 : Vec F S128x128 .bf16 := View.ld (Val := Elt F) x0 (Rect.unit (s := S128x512) ![0, 128] S128x128.size inb_S128x512_S128x128_0_128)
def qh2 : Vec F S128x128 .bf16 := View.ld (Val := Elt F) x0 (Rect.unit (s := S128x512) ![0, 256] S128x128.size inb_S128x512_S128x128_0_256)
def qh3 : Vec F S128x128 .bf16 := View.ld (Val := Elt F) x0 (Rect.unit (s := S128x512) ![0, 384] S128x128.size inb_S128x512_S128x128_0_384)
/-- The triangular matrix of ones as the body loads it. -/
def um : FVec F S128x128 .bf16 := k0_pay5 (View.ld (Val := Elt F) x3 (Rect.unit (s := S128x128) ![0, 0] S128x128.size inb_S128x128_S128x128_0_0))
/-- A 640-row strip of the keys or the values. -/
def strip (x : Vec F S8192x512 .bf16) (o : Fin 2 → Nat) (h : ∀ a, o a + S640x128.size a ≤ S8192x512.size a) : Vec F S640x128 .bf16 :=
  View.ld (Val := Elt F) x (Rect.unit (s := S8192x512) o S640x128.size h)

/-- Head 0's carry and sum over the span. -/
def spanC0 (v3 : Vec F S128x128 .bf16) (k : Vec F S640x128 .bf16) : FVec F S128x1 .f32 :=
  k0_pay25 (k0_pay9 i v3 k) (k0_pay19 k0_pay6 (k0_pay9 i v3 k) (k0_pay10 i v3 k)) (k0_pay22 (k0_pay9 i v3 k))
def spanA0 (v2 : FVec F S128x128 .bf16) (v3 : Vec F S128x128 .bf16) (k v : Vec F S640x128 .bf16) : FVec F S128x128 .f32 :=
  k0_pay26 v2 v (k0_pay7 v3 k) (k0_pay8 i) (k0_pay9 i v3 k) (k0_pay12 v2 k0_pay6 (k0_pay10 i v3 k) (k0_pay11 i v3 k))
    (k0_pay15 v2 k0_pay6 (k0_pay9 i v3 k) (k0_pay10 i v3 k)) (k0_pay18 v2 k0_pay6 (k0_pay9 i v3 k) (k0_pay10 i v3 k))
    (k0_pay19 k0_pay6 (k0_pay9 i v3 k) (k0_pay10 i v3 k)) (k0_pay21 v2 k0_pay6 (k0_pay9 i v3 k) (k0_pay10 i v3 k)) (k0_pay22 (k0_pay9 i v3 k))
/-- Head 1's carry and sum over the span. -/
def spanC1 (v4 : Vec F S128x128 .bf16) (k : Vec F S640x128 .bf16) : FVec F S128x1 .f32 :=
  k0_pay43 (k0_pay29 (qw i) v4 (sw i) k) (k0_pay38 k0_pay6 (k0_pay29 (qw i) v4 (sw i) k) (k0_pay30 (qw i) v4 (sw i) k)) (k0_pay39 (k0_pay29 (qw i) v4 (sw i) k))
def spanA1 (v2 : FVec F S128x128 .bf16) (v4 : Vec F S128x128 .bf16) (k v : Vec F S640x128 .bf16) : FVec F S128x128 .f32 :=
  k0_pay44 v2 v (k0_pay27 v4 k) (k0_pay28 (qw i) (sw i)) (k0_pay29 (qw i) v4 (sw i) k)
    (k0_pay31 v2 k0_pay6 (k0_pay30 (qw i) v4 (sw i) k))
    (k0_pay34 v2 k0_pay6 (k0_pay29 (qw i) v4 (sw i) k) (k0_pay30 (qw i) v4 (sw i) k))
    (k0_pay37 v2 k0_pay6 (k0_pay29 (qw i) v4 (sw i) k) (k0_pay30 (qw i) v4 (sw i) k))
    (k0_pay38 k0_pay6 (k0_pay29 (qw i) v4 (sw i) k) (k0_pay30 (qw i) v4 (sw i) k))
    (k0_pay39 (k0_pay29 (qw i) v4 (sw i) k))
    (k0_pay40 v2 k0_pay6 (k0_pay29 (qw i) v4 (sw i) k) (k0_pay30 (qw i) v4 (sw i) k))
/-- Head 2's carry and sum over the span. -/
def spanC2 (v5 : Vec F S128x128 .bf16) (k : Vec F S640x128 .bf16) : FVec F S128x1 .f32 :=
  k0_pay61 (k0_pay47 (qw i) v5 (sw i) k) (k0_pay56 k0_pay6 (k0_pay47 (qw i) v5 (sw i) k)) (k0_pay57 (k0_pay47 (qw i) v5 (sw i) k))
def spanA2 (v2 : FVec F S128x128 .bf16) (v5 : Vec F S128x128 .bf16) (k v : Vec F S640x128 .bf16) : FVec F S128x128 .f32 :=
  k0_pay62 v2 v (k0_pay45 v5 k) (k0_pay46 (qw i) (sw i)) (k0_pay47 (qw i) v5 (sw i) k)
    (k0_pay49 v2 k0_pay6 (k0_pay47 (qw i) v5 (sw i) k)) (k0_pay52 v2 k0_pay6 (k0_pay47 (qw i) v5 (sw i) k))
    (k0_pay55 v2 k0_pay6 (k0_pay47 (qw i) v5 (sw i) k)) (k0_pay56 k0_pay6 (k0_pay47 (qw i) v5 (sw i) k))
    (k0_pay57 (k0_pay47 (qw i) v5 (sw i) k)) (k0_pay58 v2 k0_pay6 (k0_pay47 (qw i) v5 (sw i) k))
/-- Head 3's masked log-weights, carry and sum over the span. -/
def spanL3 (v6 : Vec F S128x128 .bf16) (k : Vec F S640x128 .bf16) : FVec F S128x640 .f32 :=
  k0_pay67 (k0_pay64 (qw i) (sw i)) (k0_pay65 v6 k) k0_pay66
def spanD3 (v6 : Vec F S128x128 .bf16) (k : Vec F S640x128 .bf16) : FVec F S128x1 .f32 :=
  k0_pay76 k0_pay6 (k0_pay64 (qw i) (sw i)) (k0_pay65 v6 k) k0_pay66
def spanE3 (v6 : Vec F S128x128 .bf16) (k : Vec F S640x128 .bf16) : FVec F S128x128 .f32 :=
  k0_pay77 (k0_pay64 (qw i) (sw i)) (k0_pay65 v6 k) k0_pay66
def spanC3 (v6 : Vec F S128x128 .bf16) (k : Vec F S640x128 .bf16) : FVec F S128x1 .f32 :=
  k0_pay82 (spanL3 i v6 k) (spanD3 i v6 k) (spanE3 i v6 k)
def spanA3 (v2 : FVec F S128x128 .bf16) (v6 : Vec F S128x128 .bf16) (k v : Vec F S640x128 .bf16) : FVec F S128x128 .f32 :=
  k0_pay83 v2 v (k0_pay63 v6 k) (k0_pay64 (qw i) (sw i)) (spanL3 i v6 k)
    (k0_pay69 v2 k0_pay6 (k0_pay64 (qw i) (sw i)) (k0_pay65 v6 k) k0_pay66) (k0_pay72 v2 k0_pay6 (k0_pay64 (qw i) (sw i)) (k0_pay65 v6 k) k0_pay66)
    (k0_pay75 v2 k0_pay6 (k0_pay64 (qw i) (sw i)) (k0_pay65 v6 k) k0_pay66) (spanD3 i v6 k) (spanE3 i v6 k)
    (k0_pay78 v2 (k0_pay64 (qw i) (sw i)) (k0_pay65 v6 k) k0_pay66) (k0_pay79 k0_pay6 (k0_pay64 (qw i) (sw i)) (k0_pay65 v6 k) k0_pay66)

/-- The state the loop starts from: the four heads over the span. -/
def init : St F where
  c0 := spanC0 i (qh0 x0) (strip x1 (k0_off1 i) (k0_off1_inb i))
  c1 := spanC1 i (qh1 x0) (strip x1 (k0_off2 i) (k0_off2_inb i))
  c2 := spanC2 i (qh2 x0) (strip x1 (k0_off3 i) (k0_off3_inb i))
  c3 := spanC3 i (qh3 x0) (strip x1 (k0_off4 i) (k0_off4_inb i))
  a0 := spanA0 i (um x3) (qh0 x0) (strip x1 (k0_off1 i) (k0_off1_inb i)) (strip x2 (k0_off1 i) (k0_off1_inb i))
  a1 := spanA1 i (um x3) (qh1 x0) (strip x1 (k0_off2 i) (k0_off2_inb i)) (strip x2 (k0_off2 i) (k0_off2_inb i))
  a2 := spanA2 i (um x3) (qh2 x0) (strip x1 (k0_off3 i) (k0_off3_inb i)) (strip x2 (k0_off3 i) (k0_off3_inb i))
  a3 := spanA3 i (um x3) (qh3 x0) (strip x1 (k0_off4 i) (k0_off4_inb i)) (strip x2 (k0_off4 i) (k0_off4_inb i))
  mx := k0_pay85 (k0_pay84 (spanC0 i (qh0 x0) (strip x1 (k0_off1 i) (k0_off1_inb i))) (spanC1 i (qh1 x0) (strip x1 (k0_off2 i) (k0_off2_inb i)))
    (spanC2 i (qh2 x0) (strip x1 (k0_off3 i) (k0_off3_inb i))) (spanL3 i (qh3 x0) (strip x1 (k0_off4 i) (k0_off4_inb i)))
    (spanD3 i (qh3 x0) (strip x1 (k0_off4 i) (k0_off4_inb i))) (spanE3 i (qh3 x0) (strip x1 (k0_off4 i) (k0_off4_inb i))))

/-- The state the loop ends with. -/
def fin : St F := loop i x1 x2 (qh0 x0) (um x3) (qh1 x0) (qh2 x0) (qh3 x0) (n0 i) (n0_le i) (init i x0 x1 x2 x3)

/-- A head's gains. -/
def gh (x4 : Vec F S1x512 .f32) (o : Fin 2 → Nat) (h : ∀ a, o a + S1x128.size a ≤ S1x512.size a) : Vec F S1x128 .f32 :=
  View.ld (Val := Elt F) x4 (Rect.unit (s := S1x512) o S1x128.size h)

/-- What a head's columns of the output block are, from the loop's sums and the gains. -/
def o0 : FVec F S128x128 .bf16 := k0_pay86 (fin i x0 x1 x2 x3).a0 (gh x4 ![0, 0] inb_S1x512_S1x128_0_0)
def o1 : FVec F S128x128 .bf16 := k0_pay87 (fin i x0 x1 x2 x3).a1 (gh x4 ![0, 128] inb_S1x512_S1x128_0_128)
def o2 : FVec F S128x128 .bf16 := k0_pay1 (fin i x0 x1 x2 x3).a2 (k0_pay88 (fin i x0 x1 x2 x3).a2) (Scalar.ofBits .f32 0x358637BD#32) (gh x4 ![0, 256] inb_S1x512_S1x128_0_256)
def o3 : FVec F S128x128 .bf16 := k0_pay2 (fin i x0 x1 x2 x3).a3 (gh x4 ![0, 384] inb_S1x512_S1x128_0_384)

/-- The pieces the body's stores leave in the output's buffer, last first. -/
def pieces : List (View.Piece (Elt F) S128x512 .bf16) :=
  [⟨Rect.unit (s := S128x512) ![0, 384] S128x128.size inb_S128x512_S128x128_0_384, o3 i x0 x1 x2 x3 x4⟩,
   ⟨Rect.unit (s := S128x512) ![0, 256] S128x128.size inb_S128x512_S128x128_0_256, o2 i x0 x1 x2 x3 x4⟩,
   ⟨Rect.unit (s := S128x512) ![0, 128] S128x128.size inb_S128x512_S128x128_0_128, o1 i x0 x1 x2 x3 x4⟩,
   ⟨Rect.unit (s := S128x512) ![0, 0] S128x128.size inb_S128x512_S128x128_0_0, o0 i x0 x1 x2 x3 x4⟩]

end

set_option maxHeartbeats 1000000 in
/-- On whole staging memrefs, the inputs' at their contents and the output's at anything, the body runs to the continuation holding
    the inputs' as they were and the output's buffer with the four pieces written. -/
theorem body_run (c : Dev nD) (i : grid0.Coords) (arg2 : Memref sig .tc .vmem S128x512 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S128x128 .bf16) (harg5 : arg5.IsWhole) (arg6 : Memref sig .tc .vmem S1x512 .f32) (harg6 : arg6.IsWhole) (arg7 : Memref sig .tc .vmem S128x512 .bf16) (harg7 : arg7.IsWhole)
    (x0 : Vec F S128x512 .bf16) (x1 : Vec F S8192x512 .bf16) (x2 : Vec F S8192x512 .bf16) (x3 : Vec F S128x128 .bf16) (x4 : Vec F S1x512 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (pieces i x0 x1 x2 x3 x4))) -∗ K ⟨⟩))
          ⊢ wp frame (wpE (defs₀ (F := F)) Variants.nat c none) E (cc0_sb i arg2 harg2 arg3 harg3 arg4 harg4 arg5 harg5 arg6 harg6 arg7 harg7) K := by
  have hT := spec_le (F := F) i x1 x2 (qh0 x0) (um x3) (qh1 x0) (qh2 x0) (qh3 x0) c arg3 harg3 arg4 harg4 E (n0 i) (n0_le i) (init i x0 x1 x2 x3)
  rw [← cnt_eq i] at hT
  rw [cc0_sb_eq_skeleton]; unfold cc0_sb_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [Prog.lift, Prog.bind_op, Prog.bind_ret, Prog.pure_eq_ret]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  iapply (wp_load Variants.nat (c : Thread nD τ) none E (m := arg5) (View.setOn_subset_set _ _)) $$ H3; iintro H3
  iapply (wp_load Variants.nat (c : Thread nD τ) none E (m := arg2) (View.setOn_subset_set _ _)) $$ H0; iintro H0
  iapply (wp_load Variants.nat (c : Thread nD τ) none E (m := arg2) (View.setOn_subset_set _ _)) $$ H0; iintro H0
  iapply (wp_load Variants.nat (c : Thread nD τ) none E (m := arg2) (View.setOn_subset_set _ _)) $$ H0; iintro H0
  iapply (wp_load Variants.nat (c : Thread nD τ) none E (m := arg2) (View.setOn_subset_set _ _)) $$ H0; iintro H0
  iapply (wp_load Variants.nat (c : Thread nD τ) none E (m := arg3) (View.setOn_subset_set _ _)) $$ H1; iintro H1
  iapply (wp_load Variants.nat (c : Thread nD τ) none E (m := arg4) (View.setOn_subset_set _ _)) $$ H2; iintro H2
  iapply (wp_load Variants.nat (c : Thread nD τ) none E (m := arg3) (View.setOn_subset_set _ _)) $$ H1; iintro H1
  iapply (wp_load Variants.nat (c : Thread nD τ) none E (m := arg4) (View.setOn_subset_set _ _)) $$ H2; iintro H2
  iapply (wp_load Variants.nat (c : Thread nD τ) none E (m := arg3) (View.setOn_subset_set _ _)) $$ H1; iintro H1
  iapply (wp_load Variants.nat (c : Thread nD τ) none E (m := arg4) (View.setOn_subset_set _ _)) $$ H2; iintro H2
  iapply (wp_load Variants.nat (c : Thread nD τ) none E (m := arg3) (View.setOn_subset_set _ _)) $$ H1; iintro H1
  iapply (wp_load Variants.nat (c : Thread nD τ) none E (m := arg4) (View.setOn_subset_set _ _)) $$ H2; iintro H2
  simp only [View.readAt_eq_ld, Memref.IsWhole.read_unread]
  iapply (wp_call_spec Variants.nat (c : Thread nD τ) none E
    (spec i x1 x2 (qh0 x0) (um x3) (qh1 x0) (qh2 x0) (qh3 x0) c arg3 harg3 arg4 harg4 (n0 i) (n0_le i) (init i x0 x1 x2 x3)) (n0 i)
    (fun u hu => nomatch hu) hT)
  rw [spec_apply]; unfold held
  isplitl [H1 H2]
  · isplitl [H1]; · iexact H1
    iexact H2
  iintro %r %hr ⟨H1, H2⟩
  obtain ⟨r1, r2⟩ := r
  obtain rfl : r2 = _ := hr
  simp only [St.tup]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists f5
  simp only [View.readAt_eq_ld, Memref.IsWhole.read_unread]
  iexact H5

end Cert.SbIdeal.Frm

end
-- ==== Proof.SbI.Frame.lean ====
/- The frame: the proof data of the pipeline, the body's obligation, the run and the frame claim at any float values. -/
module

public import proofs.«01_k».proof.Proof.SbI.Run
public import Idealize.ShloMosaic.Lib.Ring
public import Idealize.ShloMosaic.Lib.Claim

@[expose] public section

set_option maxRecDepth 16384

noncomputable section

namespace Cert.SbIdeal.Frm

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four pieces cover the output block. -/
theorem cover (i : grid0.Coords) (x0 : Vec F S128x512 .bf16) (x1 x2 : Vec F S8192x512 .bf16) (x3 : Vec F S128x128 .bf16) (x4 : Vec F S1x512 .f32) (y : S128x512.Idx) :
    ∃ pc ∈ pieces i x0 x1 x2 x3 x4, y ∈ pc.1.set :=
  View.cover_of_tiledL (pieces i x0 x1 x2 x3 x4) S128x128.size (by sl_kernel_rfl) y

/-- What the body leaves in the output's buffer: its pieces read back. -/
def outBlk (i : grid0.Coords) (x0 : Vec F S128x512 .bf16) (x1 x2 : Vec F S8192x512 .bf16) (x3 : Vec F S128x128 .bf16) (x4 : Vec F S1x512 .f32) : Vec F S128x512 .bf16 :=
  VO0_5.read (Elt F) (VO0_5.writes (Elt F) VO0_5.junk (pieces i x0 x1 x2 x3 x4))

/-! ## What the outputs hold after each point -/

/-- What the outputs' staging buffers hold after the body at point `t`: the run's contents at
    the point's memrefs and input blocks. -/
def outsAt0 (c : Dev nD) (t : Fin (cfg0 (F := F)).N) : Vec F S128x512 .bf16 :=
  outBlk (grid0.coords t) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = (outsAt0 m c t) := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 (F := F) t) fullShare ((dats m 0 c).before 0 t d))
    ∗ (∃ d, owns (c : Thread nD τ) (ms0_1 (F := F) t) fullShare ((dats m 0 c).before 1 t d))
    ∗ (∃ d, owns (c : Thread nD τ) (ms0_2 (F := F) t) fullShare ((dats m 0 c).before 2 t d))
    ∗ (∃ d, owns (c : Thread nD τ) (ms0_3 (F := F) t) fullShare ((dats m 0 c).before 3 t d))
    ∗ (∃ d, owns (c : Thread nD τ) (ms0_4 (F := F) t) fullShare ((dats m 0 c).before 4 t d))
    ∗ (∃ d, owns (c : Thread nD τ) (ms0_5 (F := F) t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 (F := F) t) fullShare ((dats m 0 c).after 0 t)
    ∗ owns (c : Thread nD τ) (ms0_1 (F := F) t) fullShare ((dats m 0 c).after 1 t)
    ∗ owns (c : Thread nD τ) (ms0_2 (F := F) t) fullShare ((dats m 0 c).after 2 t)
    ∗ owns (c : Thread nD τ) (ms0_3 (F := F) t) fullShare ((dats m 0 c).after 3 t)
    ∗ owns (c : Thread nD τ) (ms0_4 (F := F) t) fullShare ((dats m 0 c).after 4 t)
    ∗ owns (c : Thread nD τ) (ms0_5 (F := F) t) fullShare ((dats m 0 c).after 5 t))

/-- The body at any point: the inputs' memrefs hold their blocks (`before0_W`); so the
    run applies; the invariant passes through unread; the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0 outBlk
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover _ _ _ _ _ _)

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SbIdeal.Frm

end
-- ==== Proof.SbV.Same.lean ====
/- The four heads' computations are one computation: heads 1 to 3 are head 0's terms on other columns. -/
module

public import proofs.«01_k».proof.Proof.SbI.Run

@[expose] public section

set_option maxRecDepth 16384

noncomputable section

namespace Cert.SbIdeal.Frm

open Cert.SbIdeal Cert.SbIdeal.Gen
open Idealize.ShloMosaic Idealize.ShloMosaic.TcCoe

variable {F : FTy → Type} [FloatOps F] [Named F]
variable (i : grid0.Coords)

theorem spanC1_eq (q : Vec F S128x128 .bf16) (k : Vec F S640x128 .bf16) : spanC1 i q k = spanC0 i q k := rfl
theorem spanC2_eq (q : Vec F S128x128 .bf16) (k : Vec F S640x128 .bf16) : spanC2 i q k = spanC0 i q k := rfl
theorem spanC3_eq (q : Vec F S128x128 .bf16) (k : Vec F S640x128 .bf16) : spanC3 i q k = spanC0 i q k := rfl
theorem spanA1_eq (u : FVec F S128x128 .bf16) (q : Vec F S128x128 .bf16) (k v : Vec F S640x128 .bf16) : spanA1 i u q k v = spanA0 i u q k v := rfl
theorem spanA2_eq (u : FVec F S128x128 .bf16) (q : Vec F S128x128 .bf16) (k v : Vec F S640x128 .bf16) : spanA2 i u q k v = spanA0 i u q k v := rfl
theorem spanA3_eq (u : FVec F S128x128 .bf16) (q : Vec F S128x128 .bf16) (k v : Vec F S640x128 .bf16) : spanA3 i u q k v = spanA0 i u q k v := rfl

/-- A trip's new carry and new sum, for one head. -/
def tC (q : Vec F S128x128 .bf16) (nt : BitVec 32) (c : FVec F S128x1 .f32) (k : Vec F S128x128 .bf16) : FVec F S128x1 .f32 :=
  k0_pay93 q nt c (qw i) k
def tA (u : FVec F S128x128 .bf16) (q : Vec F S128x128 .bf16) (nt : BitVec 32) (c : FVec F S128x1 .f32) (a : FVec F S128x128 .f32) (k v : Vec F S128x128 .bf16) : FVec F S128x128 .f32 :=
  k0_pay94 a v (k0_pay89 q k) (k0_pay90 nt (qw i)) (k0_pay91 q nt (qw i) k) (k0_pay92 q u nt c (qw i) k)

theorem tC1_eq (q : Vec F S128x128 .bf16) (nt : BitVec 32) (c : FVec F S128x1 .f32) (k : Vec F S128x128 .bf16) :
    k0_pay98 q c (qw i) (kw nt) (ew nt) k = tC i q nt c k := rfl
theorem tC2_eq (q : Vec F S128x128 .bf16) (nt : BitVec 32) (c : FVec F S128x1 .f32) (k : Vec F S128x128 .bf16) :
    k0_pay104 q c (qw i) (kw nt) (ew nt) k = tC i q nt c k := rfl
theorem tC3_eq (q : Vec F S128x128 .bf16) (nt : BitVec 32) (c : FVec F S128x1 .f32) (k : Vec F S128x128 .bf16) :
    k0_pay110 q c (qw i) (kw nt) (ew nt) k = tC i q nt c k := rfl
theorem tA1_eq (u : FVec F S128x128 .bf16) (q : Vec F S128x128 .bf16) (nt : BitVec 32) (c : FVec F S128x1 .f32) (a : FVec F S128x128 .f32) (k v : Vec F S128x128 .bf16) :
    k0_pay100 a v (k0_pay96 (qw i) (kw nt) (ew nt)) (k0_pay99 u q c (qw i) (kw nt) (ew nt) k) = tA i u q nt c a k v := rfl
theorem tA2_eq (u : FVec F S128x128 .bf16) (q : Vec F S128x128 .bf16) (nt : BitVec 32) (c : FVec F S128x1 .f32) (a : FVec F S128x128 .f32) (k v : Vec F S128x128 .bf16) :
    k0_pay106 a v (k0_pay102 (qw i) (kw nt) (ew nt)) (k0_pay105 u q c (qw i) (kw nt) (ew nt) k) (Scalar.ofBits .f32 0x00000000#32) = tA i u q nt c a k v := rfl
theorem tA3_eq (u : FVec F S128x128 .bf16) (q : Vec F S128x128 .bf16) (nt : BitVec 32) (c : FVec F S128x1 .f32) (a : FVec F S128x128 .f32) (k v : Vec F S128x128 .bf16) :
    k0_pay3 a v (k0_pay111 u q c (qw i) (kw nt) (ew nt) k) = tA i u q nt c a k v := rfl

/-- A head's normalised columns, from its sum and its gains. -/
def nO (a : FVec F S128x128 .f32) (g : Vec F S1x128 .f32) : FVec F S128x128 .bf16 := k0_pay86 a g
theorem nO1_eq (a : FVec F S128x128 .f32) (g : Vec F S1x128 .f32) : k0_pay87 a g = nO a g := rfl
theorem nO2_eq (a : FVec F S128x128 .f32) (g : Vec F S1x128 .f32) : k0_pay1 a (k0_pay88 a) (Scalar.ofBits .f32 0x358637BD#32) g = nO a g := rfl
theorem nO3_eq (a : FVec F S128x128 .f32) (g : Vec F S1x128 .f32) : k0_pay2 a g = nO a g := rfl

/-- The largest carry over the span, in the loop's own form. -/
theorem mx_eq (c0 c1 c2 : FVec F S128x1 .f32) (q : Vec F S128x128 .bf16) (k : Vec F S640x128 .bf16) :
    k0_pay85 (k0_pay84 c0 c1 c2 (spanL3 i q k) (spanD3 i q k) (spanE3 i q k)) = k0_pay4 c0 c1 c2 (spanC0 i q k) := rfl

end Cert.SbIdeal.Frm

end
-- ==== Proof.SbV.Math.lean ====
/- Stick-breaking attention over the extended reals, keys as natural numbers: the log of what a key leaves of the stick, its sums over
   the later keys, a key's weight, and how sums over blocks of 128 keys add up. -/
module

public import Idealize.ShloMosaic.PureOps.Ideal

@[expose] public section

noncomputable section

namespace Cert.SbMath

open Idealize.ShloMosaic

/-- The log of one minus the sigmoid of a score. -/
def lg (z : EReal) : EReal := 0 - (max z 0 + Ideal.log1p (Ideal.exp (0 - max z (-z))))

/-- The log of the sigmoid of a score. -/
def sg (z : EReal) : EReal := -(max (-z) 0 + Ideal.log1p (Ideal.exp (-(max (-z - 0) (-(-z - 0))))))

theorem log1p_exp (r : ℝ) : Ideal.log1p (Ideal.exp (r : EReal)) = ((Real.log (1 + Real.exp r) : ℝ) : EReal) := by
  have h : ¬ (1 + Real.exp r ≤ 0) := not_le.2 (by positivity)
  have e : (1 : EReal) + ((Real.exp r : ℝ) : EReal) = ((1 + Real.exp r : ℝ) : EReal) := by push_cast; rfl
  rw [Ideal.log1p, Ideal.exp_coe, e, Ideal.log_coe, if_neg h]

theorem log1p_zero : Ideal.log1p 0 = 0 := by
  have h : ¬ ((1 : ℝ) ≤ 0) := by norm_num
  rw [Ideal.log1p, add_zero, show (1 : EReal) = ((1 : ℝ) : EReal) from rfl, Ideal.log_coe, if_neg h, Real.log_one]; rfl

theorem max_coe (a b : ℝ) : max (a : EReal) (b : EReal) = ((max a b : ℝ) : EReal) :=
  (Monotone.map_max (f := fun r : ℝ => (r : EReal)) (fun _ _ h => EReal.coe_le_coe_iff.2 h)).symm

/-- At a finite score the log is finite. -/
theorem lg_coe (r : ℝ) : lg (r : EReal) = ((-(max r 0 + Real.log (1 + Real.exp (-(max r (-r))))) : ℝ) : EReal) := by
  have e : (0 : EReal) - max (r : EReal) (-(r : EReal)) = ((-(max r (-r)) : ℝ) : EReal) := by
    rw [← EReal.coe_neg r, max_coe, zero_sub]; rfl
  have e0 : max (r : EReal) 0 = ((max r 0 : ℝ) : EReal) := by
    rw [show (0 : EReal) = ((0 : ℝ) : EReal) from rfl, max_coe]
  rw [lg, e, log1p_exp, e0, zero_sub]; push_cast; rfl

theorem lg_bot : lg ⊥ = 0 := by
  rw [lg, EReal.neg_bot]; simp [log1p_zero]

theorem lg_top : lg ⊤ = ⊥ := by
  rw [lg, EReal.neg_top]; simp [log1p_zero]

/-- The log is never plus infinity. -/
theorem lg_ne_top (z : EReal) : lg z ≠ ⊤ := by
  induction z with
  | bot => rw [lg_bot]; exact EReal.zero_ne_top
  | top => rw [lg_top]; exact bot_ne_top
  | coe r => rw [lg_coe]; exact EReal.coe_ne_top _

/-- The same log as the host writes it, from the negated score's log-sigmoid. -/
theorem lg_host (z : EReal) : -(max z 0 + Ideal.log1p (Ideal.exp (-(max (z - 0) (-(z - 0)))))) = lg z := by
  rw [lg, zero_sub, sub_zero, zero_sub]

/-- At a finite score the log-sigmoid is the score plus the log of one minus the sigmoid. -/
theorem sg_coe (r : ℝ) : sg (r : EReal) = (r : EReal) + lg (r : EReal) := by
  have h : sg (r : EReal) = lg ((-r : ℝ) : EReal) := by
    rw [sg, lg_host, EReal.coe_neg]
  rw [h, lg_coe, lg_coe, ← EReal.coe_add]
  congr 1
  have e : max (-r) (- -r) = max r (-r) := by rw [neg_neg, max_comm]
  have e2 : max (-r) 0 = max r 0 - r := by
    rcases le_total r 0 with h | h
    · rw [max_eq_left (by linarith), max_eq_right h]; ring
    · rw [max_eq_right (by linarith), max_eq_left h]; ring
  rw [e, e2]; ring

theorem sg_bot : sg ⊥ = ⊥ := by
  rw [sg, EReal.neg_bot]; simp [log1p_zero]

/-- The reference's exponent against the kernel's: with the sum over the later keys not plus infinity, both weigh alike. -/
theorem weight_eq (z A : EReal) (hA : A ≠ ⊤) : Ideal.exp (sg z + ((lg z + A) - lg z)) = Ideal.exp (z + lg z + A) := by
  induction z with
  | bot => rw [sg_bot]; simp
  | top =>
    rw [lg_top]; simp
  | coe r =>
    congr 1
    rw [sg_coe]
    obtain ⟨l, hl⟩ : ∃ l : ℝ, lg (r : EReal) = (l : EReal) := ⟨_, lg_coe r⟩
    rw [hl]
    induction A with
    | bot => simp
    | top => exact absurd rfl hA
    | coe a => rw [← EReal.coe_add l a, ← EReal.coe_sub, add_sub_cancel_left]

section

variable (T : ℕ) (zf : ℕ → EReal)

/-- The log at key `k`, nothing at or after the query. -/
def L (k : ℕ) : EReal := if k < T then lg (zf k) else 0

/-- The sum of the logs from key `j` on. -/
def S (j : ℕ) : EReal := ∑ k ∈ Finset.Ico j 8192, L T zf k

/-- The weight of key `j`. -/
def W (j : ℕ) : EReal := if j < T then Ideal.exp (zf j + L T zf j + S T zf (j + 1)) else 0

/-- The weighted sum of the values from key `j` on. -/
def A (v : ℕ → EReal) (j : ℕ) : EReal := ∑ k ∈ Finset.Ico j 8192, W T zf k * v k

theorem L_ne_top (k : ℕ) : L T zf k ≠ ⊤ := by
  unfold L; split
  · exact lg_ne_top _
  · exact EReal.zero_ne_top

theorem sum_ne_top {ι : Type} (s : Finset ι) (f : ι → EReal) (h : ∀ i, f i ≠ ⊤) : ∑ i ∈ s, f i ≠ ⊤ := by
  classical
  induction s using Finset.induction_on with
  | empty => exact EReal.zero_ne_top
  | insert a s ha ih => rw [Finset.sum_insert ha]; exact EReal.add_ne_top (h a) ih

theorem S_ne_top (j : ℕ) : S T zf j ≠ ⊤ := sum_ne_top _ _ fun k => L_ne_top T zf k

theorem S_step (j : ℕ) (h : j < 8192) : S T zf j = L T zf j + S T zf (j + 1) := by
  unfold S; rw [Finset.sum_eq_sum_Ico_succ_bot h]

/-- A sum over a block of `n` keys from `b` on, as a sum over the keys themselves. -/
theorem sum_block (n b : ℕ) (f : ℕ → EReal) : ∑ k : Fin n, f (b + k.val) = ∑ k ∈ Finset.Ico b (b + n), f k := by
  rw [Fin.sum_univ_eq_sum_range (fun k => f (b + k)) n, Finset.sum_Ico_eq_sum_range, Nat.add_sub_cancel_left]

/-- The sum after one more block. -/
theorem S_block (b : ℕ) (h : b + 128 ≤ 8192) : S T zf (b + 128) + ∑ k : Fin 128, L T zf (b + k.val) = S T zf b := by
  rw [sum_block, S, S, add_comm, Finset.sum_Ico_consecutive _ (by omega) h]

theorem A_block (v : ℕ → EReal) (b : ℕ) (h : b + 128 ≤ 8192) :
    A T zf v (b + 128) + ∑ k : Fin 128, W T zf (b + k.val) * v (b + k.val) = A T zf v b := by
  rw [sum_block 128 b (fun k => W T zf k * v k), A, A, add_comm, Finset.sum_Ico_consecutive _ (by omega) h]

/-- Past the query nothing is left of the sums. -/
theorem S_past (j : ℕ) (h : T ≤ j) : S T zf j = 0 :=
  Finset.sum_eq_zero fun k hk => if_neg (by have := Finset.mem_Ico.1 hk; omega)

theorem A_past (v : ℕ → EReal) (j : ℕ) (h : T ≤ j) : A T zf v j = 0 :=
  Finset.sum_eq_zero fun k hk => by
    rw [W, if_neg (by have := Finset.mem_Ico.1 hk; omega), zero_mul]

/-- The weighted sum over the last 640 keys that matter. -/
theorem A_span (v : ℕ → EReal) (b : ℕ) (h : b + 640 ≤ 8192) (hT : T ≤ b + 640) :
    ∑ k : Fin 640, W T zf (b + k.val) * v (b + k.val) = A T zf v b := by
  rw [sum_block 640 b (fun k => W T zf k * v k), A,
    ← Finset.sum_Ico_consecutive _ (show b ≤ b + 640 by omega) h]
  have := A_past T zf v (b + 640) hT
  unfold A at this
  rw [this, add_zero]

/-- What the split product with the triangular ones adds up to, and the carry: the sum over the later keys. -/
theorem suffix_eq (b : ℕ) (j : Fin 128) (h : b + 128 ≤ 8192) (a : Fin 128 → EReal) (ha : ∀ k, a k = L T zf (b + k.val))
    (u : Fin 128 → EReal) (hu : ∀ k, u k = if j < k then 1 else 0) :
    (∑ k : Fin 128, a k * u k + ∑ k : Fin 128, (a k - a k) * u k) + S T zf (b + 128) = S T zf (b + j.val + 1) := by
  have e : ∑ k : Fin 128, a k * u k + ∑ k : Fin 128, (a k - a k) * u k = ∑ k : Fin 128, if j.val < k.val then L T zf (b + k.val) else 0 := by
    rw [← Finset.sum_add_distrib]
    refine Finset.sum_congr rfl fun k _ => ?_
    rw [hu, ha]
    by_cases hk : j < k
    · rw [if_pos hk, if_pos (show j.val < k.val from hk), mul_one, mul_one]
      have := L_ne_top T zf (b + k.val)
      induction hh : L T zf (b + k.val) with
      | bot => simp
      | top => exact absurd hh this
      | coe r => rw [← EReal.coe_sub, sub_self, EReal.coe_zero, add_zero]
    · rw [if_neg hk, if_neg (show ¬ j.val < k.val from hk), mul_zero, mul_zero, add_zero]
  rw [e, Fin.sum_univ_eq_sum_range (fun k => if j.val < k then L T zf (b + k) else 0) 128]
  have e2 : ∑ k ∈ Finset.range 128, (if j.val < k then L T zf (b + k) else 0) = ∑ k ∈ Finset.Ico (b + j.val + 1) (b + 128), L T zf k := by
    rw [Finset.sum_Ico_eq_sum_range]
    rw [Finset.range_eq_Ico, ← Finset.sum_Ico_consecutive _ (show 0 ≤ j.val + 1 by omega) (show j.val + 1 ≤ 128 by omega)]
    rw [Finset.sum_eq_zero (s := Finset.Ico 0 (j.val + 1)) (fun k hk => if_neg (by have := Finset.mem_Ico.1 hk; omega)), zero_add,
      Finset.sum_Ico_eq_sum_range]
    rw [show b + 128 - (b + j.val + 1) = 128 - (j.val + 1) by omega]
    refine Finset.sum_congr rfl fun k _ => ?_
    rw [if_pos (by omega)]; congr 1; omega
  rw [e2, S, S, Finset.sum_Ico_consecutive _ (by omega) h]

/-- Where nothing is left of the stick, the weights of the earlier keys vanish, so the weighted sum is complete. -/
theorem A_spent (v : ℕ → EReal) (b : ℕ) (h : S T zf b = ⊥) (hb : b ≤ 8192) : A T zf v 0 = A T zf v b := by
  unfold A
  rw [← Finset.sum_Ico_consecutive _ (Nat.zero_le b) hb]
  rw [Finset.sum_eq_zero, zero_add]
  intro k hk
  have hk := (Finset.mem_Ico.1 hk).2
  unfold W
  by_cases hT : k < T
  · have e : S T zf (k + 1) = ⊥ := by
      unfold S; rw [← Finset.sum_Ico_consecutive _ (show k + 1 ≤ b by omega) hb]
      unfold S at h; rw [h, EReal.add_bot]
    rw [if_pos hT, e, EReal.add_bot, Ideal.exp_bot, zero_mul]
  · rw [if_neg hT, zero_mul]

end

end Cert.SbMath

end
-- ==== Proof.SbV.Tile.lean ====
/- The kernel's one-head computations read at an index: the span of 640 keys and the block of 128 keys. -/
module

public import proofs.«01_k».proof.Proof.SbV.Same
public import proofs.«01_k».proof.Proof.SbV.Math
public import Idealize.ShloMosaic.Lib.Pointwise
public import Idealize.ShloMosaic.Lib.WordCmp

@[expose] public section

set_option maxRecDepth 16384

noncomputable section

namespace Cert.SbIdeal.Frm

open Cert.SbIdeal Cert.SbIdeal.Gen
open Idealize.ShloMosaic Idealize.ShloMosaic.TcCoe

theorem slt_word {a b : ℕ} (ha : a < 2 ^ 31) (hb : b < 2 ^ 31) :
    IntOp.cmpi .slt (BitVec.ofNat 32 a) (BitVec.ofNat 32 b) = if a < b then 1#1 else 0#1 := by
  rw [Idealize.ShloMosaic.WordCmp.cmpi_slt_ofNat (w := 32) ha hb]
  by_cases h : a < b <;> simp [h]

theorem qw_eq (i : grid0.Coords) : qw i = BitVec.ofNat 32 (128 * (i 1).val) := by
  have h : ∀ j : Fin 64, Scalar.muli (BitVec.ofNat 32 j.val) 128#32 = BitVec.ofNat 32 (128 * j.val) := by decide +kernel
  exact h (i 1)
theorem sw_eq (i : grid0.Coords) : sw i = BitVec.ofNat 32 (128 * n0 i) := by
  have h : ∀ j : Fin 64, Scalar.maxsi (Scalar.subi (Scalar.muli (BitVec.ofNat 32 j.val) 128#32) 512#32) 0#32 = BitVec.ofNat 32 (128 * (j.val - 4)) := by decide +kernel
  exact h (i 1)
theorem kw_eq (n : ℕ) (hn : n < 64) : kw (BitVec.ofNat 32 n) = BitVec.ofNat 32 (128 * n) := by
  have h : ∀ j : Fin 64, kw (BitVec.ofNat 32 j.val) = BitVec.ofNat 32 (128 * j.val) := by decide +kernel
  exact h ⟨n, hn⟩
theorem ew_eq (n : ℕ) (hn : n < 64) : ew (BitVec.ofNat 32 n) = BitVec.ofNat 32 (128 * n + 128) := by
  have h : ∀ j : Fin 64, ew (BitVec.ofNat 32 j.val) = BitVec.ofNat 32 (128 * j.val + 128) := by decide +kernel
  exact h ⟨n, hn⟩

theorem off1_eq (i : grid0.Coords) : k0_off1 i = ![128 * n0 i, 0] := by
  have h : ∀ j : Fin 64, (Scalar.indexCast (Scalar.maxsi (Scalar.subi (Scalar.muli (BitVec.ofNat 32 j.val) 128#32) 512#32) 0#32)).toNat = 128 * (j.val - 4) := by decide +kernel
  exact congrArg (fun a => ![a, 0]) (h (i 1))
theorem off5_eq (n : ℕ) (hn : n < 64) : k0_off5 (BitVec.ofNat 32 n) = ![128 * n, 0] := by
  have h : ∀ j : Fin 64, (Scalar.indexCast (kw (BitVec.ofNat 32 j.val))).toNat = 128 * j.val := by decide +kernel
  exact congrArg (fun a => ![a, 0]) (h ⟨n, hn⟩)

section

variable (i : grid0.Coords) (q : Vec Ideal S128x128 .bf16) (k v : Vec Ideal S640x128 .bf16) (u : FVec Ideal S128x128 .bf16)
variable (r : Fin 128)

theorem pay7_at (j : Fin 640) : k0_pay7 q k (ix2 r j) = ∑ d : Fin 128, q (ix2 r d) * k (ix2 j d) := by
  pointwise [k0_pay7]

theorem pay8_at (j : Fin 640) : k0_pay8 i (ix2 r j) = if 128 * n0 i + j < 128 * (i 1).val + r then 1#1 else 0#1 := by
  have e : k0_pay8 i (ix2 r j) = IntOp.cmpi .slt (IntOp.addi (sw i) (BitVec.ofNat 32 j)) (IntOp.addi (qw i) (BitVec.ofNat 32 r)) := by
    pointwise [k0_pay8]
  have hi : (i 1).val < 64 := (i 1).isLt
  rw [e, sw_eq, qw_eq]
  exact (congrArg₂ (IntOp.cmpi .slt) (BitVec.ofNat_add ..).symm (BitVec.ofNat_add ..).symm).trans (slt_word (by unfold n0; omega) (by omega))

/-- The query's position among the keys. -/
abbrev tq : ℕ := 128 * (i 1).val + r.val

variable (zf vf : ℕ → EReal) (hz : ∀ j : Fin 640, ∑ d : Fin 128, q (ix2 r d) * k (ix2 j d) = zf (128 * n0 i + j))

include hz in
theorem pay9_at (j : Fin 640) : k0_pay9 i q k (ix2 r j) = SbMath.L (tq i r) zf (128 * n0 i + j) := by
  have h7 := pay7_at q k r j
  have h8 := pay8_at i r j
  pointwise [k0_pay9, h7, h8]
  rw [hz]
  unfold SbMath.L SbMath.lg
  by_cases h : 128 * n0 i + j.val < 128 * (i 1).val + r.val
  · rw [if_pos h, if_pos h]; rfl
  · rw [if_neg h, if_neg h]; rfl

/-- A block's suffix sums, with what the carry adds. -/
theorem sfx_at (a : FVec Ideal S128x128 .f32) (c : FVec Ideal S128x1 .f32) (j : Fin 128) :
    k0_pay12 u c a (truncf .bf16 a bitsLt_bf16_f32) (ix2 r j)
      = (∑ x : Fin 128, a (ix2 r x) * u (ix2 x j) + ∑ x : Fin 128, (a (ix2 r x) - a (ix2 r x)) * u (ix2 x j)) + c (ix2 r 0) := by
  pointwise [k0_pay12]

/-- A block's carry after it. -/
theorem car_at (a : FVec Ideal S128x128 .f32) (c : FVec Ideal S128x1 .f32) :
    k0_pay13 c a (ix2 r 0) = c (ix2 r 0) + ∑ x : Fin 128, a (ix2 r x) := by
  pointwise [k0_pay13]

variable (hu : ∀ x j : Fin 128, u (ix2 x j) = if j < x then 1 else 0)

include hu in
theorem sfx_eq (T b : ℕ) (hb : b + 128 ≤ 8192) (a : FVec Ideal S128x128 .f32) (ha : ∀ x : Fin 128, a (ix2 r x) = SbMath.L T zf (b + x))
    (c : FVec Ideal S128x1 .f32) (hc : c (ix2 r 0) = SbMath.S T zf (b + 128)) (j : Fin 128) :
    k0_pay12 u c a (truncf .bf16 a bitsLt_bf16_f32) (ix2 r j) = SbMath.S T zf (b + j + 1) := by
  rw [sfx_at, hc]
  exact SbMath.suffix_eq T zf b j hb (fun x => a (ix2 r x)) ha (fun x => u (ix2 x j)) fun x => hu x j

theorem car_eq (T b : ℕ) (hb : b + 128 ≤ 8192) (a : FVec Ideal S128x128 .f32) (ha : ∀ x : Fin 128, a (ix2 r x) = SbMath.L T zf (b + x))
    (c : FVec Ideal S128x1 .f32) (hc : c (ix2 r 0) = SbMath.S T zf (b + 128)) :
    k0_pay13 c a (ix2 r 0) = SbMath.S T zf b := by
  rw [car_at, hc, Finset.sum_congr rfl fun x _ => ha x]
  exact SbMath.S_block T zf b hb

/-- The span's logs, block by block from the last. -/
abbrev b4 (x : FVec Ideal S128x640 .f32) : FVec Ideal S128x128 .f32 := extractStridedSlice S128x128 ![0, 512] x slices_S128x640_o0_512_S128x128
abbrev b3 (x : FVec Ideal S128x640 .f32) : FVec Ideal S128x128 .f32 := k0_pay14 x
abbrev b2 (x : FVec Ideal S128x640 .f32) : FVec Ideal S128x128 .f32 := k0_pay17 x
abbrev b1 (x : FVec Ideal S128x640 .f32) : FVec Ideal S128x128 .f32 := k0_pay20 x
abbrev b0 (x : FVec Ideal S128x640 .f32) : FVec Ideal S128x128 .f32 := k0_pay24 x

theorem b4_at (x : FVec Ideal S128x640 .f32) (j : Fin 128) : b4 x (ix2 r j) = x (ix2 r ⟨512 + j, by omega⟩) := by
  pointwise
theorem b3_at (x : FVec Ideal S128x640 .f32) (j : Fin 128) : b3 x (ix2 r j) = x (ix2 r ⟨384 + j, by omega⟩) := by
  pointwise [k0_pay14]
theorem b2_at (x : FVec Ideal S128x640 .f32) (j : Fin 128) : b2 x (ix2 r j) = x (ix2 r ⟨256 + j, by omega⟩) := by
  pointwise [k0_pay17]
theorem b1_at (x : FVec Ideal S128x640 .f32) (j : Fin 128) : b1 x (ix2 r j) = x (ix2 r ⟨128 + j, by omega⟩) := by
  pointwise [k0_pay20]
theorem b0_at (x : FVec Ideal S128x640 .f32) (j : Fin 128) : b0 x (ix2 r j) = x (ix2 r ⟨j, by omega⟩) := by
  pointwise [k0_pay24]

/-- The carries before each block, from the last. -/
abbrev c4 (x : FVec Ideal S128x640 .f32) : FVec Ideal S128x1 .f32 := k0_pay13 k0_pay6 (b4 x)
abbrev c3 (x : FVec Ideal S128x640 .f32) : FVec Ideal S128x1 .f32 := k0_pay13 (c4 x) (b3 x)
abbrev c2 (x : FVec Ideal S128x640 .f32) : FVec Ideal S128x1 .f32 := k0_pay13 (c3 x) (b2 x)
abbrev c1 (x : FVec Ideal S128x640 .f32) : FVec Ideal S128x1 .f32 := k0_pay13 (c2 x) (b1 x)

theorem spanC0_eq : spanC0 i q k = k0_pay13 (c1 (k0_pay9 i q k)) (b0 (k0_pay9 i q k)) := rfl

/-- The suffix sums of a block of the span. -/
abbrev sf (c : FVec Ideal S128x1 .f32) (a : FVec Ideal S128x128 .f32) : FVec Ideal S128x128 .f32 := k0_pay12 u c a (truncf .bf16 a bitsLt_bf16_f32)

/-- The span's suffix sums. -/
def cat (x : FVec Ideal S128x640 .f32) : FVec Ideal S128x640 .f32 :=
  concatenate S128x640 1 [⟨S128x128, sf u (c1 x) (b0 x)⟩, ⟨S128x128, sf u (c2 x) (b1 x)⟩, ⟨S128x128, sf u (c3 x) (b2 x)⟩, ⟨S128x128, sf u (c4 x) (b3 x)⟩, ⟨S128x128, sf u k0_pay6 (b4 x)⟩] concatenates_S128x128_S128x128_S128x128_S128x128_S128x128_S128x640_d1

/-- The span's weights. -/
def wts : FVec Ideal S128x640 .f32 :=
  select (k0_pay8 i) (exp (addf (addf (k0_pay7 q k) (k0_pay9 i q k)) (cat u (k0_pay9 i q k)))) (broadcast S128x640 (Scalar.ofBits .f32 0x00000000#32))

theorem spanA0_eq : spanA0 i u q k v = matmul (φ₂ := .bf16) dot_S128x640_S640x128_S128x128_1_0_0_1_n_n none (truncf .bf16 (wts i q k u) bitsLt_bf16_f32) v (constant S128x128 .f32 0x00000000#32) := rfl

section

variable (T b : ℕ) (hb : b + 640 ≤ 8192) (hT : T ≤ b + 640) (x : FVec Ideal S128x640 .f32) (hx : ∀ j : Fin 640, x (ix2 r j) = SbMath.L T zf (b + j))
include hb hT hx

theorem c5_at : (k0_pay6 : FVec Ideal S128x1 .f32) (ix2 r 0) = SbMath.S T zf (b + 512 + 128) := by
  rw [SbMath.S_past _ _ _ (by omega)]
  pointwise [k0_pay6]
theorem c4_at : c4 x (ix2 r 0) = SbMath.S T zf (b + 384 + 128) :=
  car_eq r zf T (b + 512) (by omega) _ (fun j => by rw [b4_at, hx]; exact congrArg _ (Nat.add_assoc ..).symm) _ (c5_at r zf T b hb hT x hx)
theorem c3_at : c3 x (ix2 r 0) = SbMath.S T zf (b + 256 + 128) :=
  car_eq r zf T (b + 384) (by omega) _ (fun j => by rw [b3_at, hx]; exact congrArg _ (Nat.add_assoc ..).symm) _ (c4_at r zf T b hb hT x hx)
theorem c2_at : c2 x (ix2 r 0) = SbMath.S T zf (b + 128 + 128) :=
  car_eq r zf T (b + 256) (by omega) _ (fun j => by rw [b2_at, hx]; exact congrArg _ (Nat.add_assoc ..).symm) _ (c3_at r zf T b hb hT x hx)
theorem c1_at : c1 x (ix2 r 0) = SbMath.S T zf (b + 128) :=
  car_eq r zf T (b + 128) (by omega) _ (fun j => by rw [b1_at, hx]; exact congrArg _ (Nat.add_assoc ..).symm) _ (c2_at r zf T b hb hT x hx)
theorem c0_at : k0_pay13 (c1 x) (b0 x) (ix2 r 0) = SbMath.S T zf b :=
  car_eq r zf T b (by omega) _ (fun j => by rw [b0_at, hx]) _ (c1_at r zf T b hb hT x hx)

include hu in
theorem cat_at (j : Fin 640) : cat u x (ix2 r j) = SbMath.S T zf (b + j + 1) := by
  have h4 := sfx_eq u r zf hu T (b + 512) (by omega) (b4 x) (fun j => by rw [b4_at, hx]; exact congrArg _ (Nat.add_assoc ..).symm) _ (c5_at r zf T b hb hT x hx)
  have h3 := sfx_eq u r zf hu T (b + 384) (by omega) (b3 x) (fun j => by rw [b3_at, hx]; exact congrArg _ (Nat.add_assoc ..).symm) _ (c4_at r zf T b hb hT x hx)
  have h2 := sfx_eq u r zf hu T (b + 256) (by omega) (b2 x) (fun j => by rw [b2_at, hx]; exact congrArg _ (Nat.add_assoc ..).symm) _ (c3_at r zf T b hb hT x hx)
  have h1 := sfx_eq u r zf hu T (b + 128) (by omega) (b1 x) (fun j => by rw [b1_at, hx]; exact congrArg _ (Nat.add_assoc ..).symm) _ (c2_at r zf T b hb hT x hx)
  have h0 := sfx_eq u r zf hu T b (by omega) (b0 x) (fun j => by rw [b0_at, hx]) _ (c1_at r zf T b hb hT x hx)
  unfold cat
  change ∀ j, sf u k0_pay6 (b4 x) (ix2 r j) = _ at h4
  change ∀ j, sf u (c4 x) (b3 x) (ix2 r j) = _ at h3
  change ∀ j, sf u (c3 x) (b2 x) (ix2 r j) = _ at h2
  change ∀ j, sf u (c2 x) (b1 x) (ix2 r j) = _ at h1
  change ∀ j, sf u (c1 x) (b0 x) (ix2 r j) = _ at h0
  generalize sf u k0_pay6 (b4 x) = s4 at h4 ⊢
  generalize sf u (c4 x) (b3 x) = s3 at h3 ⊢
  generalize sf u (c3 x) (b2 x) = s2 at h2 ⊢
  generalize sf u (c2 x) (b1 x) = s1 at h1 ⊢
  generalize sf u (c1 x) (b0 x) = s0 at h0 ⊢
  pointwise
  by_cases g1 : j.val < 128
  · rw [dif_pos g1, h0]
  rw [dif_neg g1]
  by_cases g2 : j.val - 128 < 128
  · rw [dif_pos g2, h1]; exact congrArg _ (by dsimp only; omega)
  rw [dif_neg g2]
  by_cases g3 : j.val - 128 - 128 < 128
  · rw [dif_pos g3, h2]; exact congrArg _ (by dsimp only; omega)
  rw [dif_neg g3]
  by_cases g4 : j.val - 128 - 128 - 128 < 128
  · rw [dif_pos g4, h3]; exact congrArg _ (by dsimp only; omega)
  rw [dif_neg g4, h4]; exact congrArg _ (by dsimp only; omega)

end

include hz in
/-- The carry after the span. -/
theorem spanC0_at : spanC0 i q k (ix2 r 0) = SbMath.S (tq i r) zf (128 * n0 i) := by
  have hi : (i 1).val < 64 := (i 1).isLt
  rw [spanC0_eq]
  exact c0_at r zf (tq i r) (128 * n0 i) (by unfold n0; omega) (by unfold tq n0; omega) _ (pay9_at i q k r zf hz)

include hz hu in
/-- A weight of the span. -/
theorem wts_at (j : Fin 640) : wts i q k u (ix2 r j) = SbMath.W (tq i r) zf (128 * n0 i + j) := by
  have hi : (i 1).val < 64 := (i 1).isLt
  have h7 := pay7_at q k r j
  rw [hz] at h7
  have h8 := pay8_at i r j
  have h9 := pay9_at i q k r zf hz j
  have hc := cat_at u r zf hu (tq i r) (128 * n0 i) (by unfold n0; omega) (by unfold tq n0; omega) _ (pay9_at i q k r zf hz) j
  pointwise [wts, h7, h8, h9, hc]
  unfold SbMath.W
  by_cases h : 128 * n0 i + j.val < 128 * (i 1).val + r.val
  · rw [if_pos h, if_pos h]; rfl
  · rw [if_neg h, if_neg h]; rfl

include hz hu in
/-- The sum over the span. -/
theorem spanA0_at (d : Fin 128) (hv : ∀ j : Fin 640, v (ix2 j d) = vf (128 * n0 i + j)) :
    spanA0 i u q k v (ix2 r d) = SbMath.A (tq i r) zf vf (128 * n0 i) := by
  have hi : (i 1).val < 64 := (i 1).isLt
  rw [spanA0_eq]
  pointwise
  rw [← SbMath.A_span _ _ _ (128 * n0 i) (by unfold n0; omega) (by unfold tq n0; omega)]
  exact Finset.sum_congr rfl fun j _ => by rw [wts_at i q k u r zf hz hu, hv]

end

section

variable (i : grid0.Coords) (q k v : Vec Ideal S128x128 .bf16) (u : FVec Ideal S128x128 .bf16) (r : Fin 128) (n : ℕ) (hn : n < n0 i)
variable (zf vf : ℕ → EReal) (hz : ∀ j : Fin 128, ∑ d : Fin 128, q (ix2 r d) * k (ix2 j d) = zf (128 * n + j))
variable (hu : ∀ x j : Fin 128, u (ix2 x j) = if j < x then 1 else 0)

theorem pay89_at (j : Fin 128) : k0_pay89 q k (ix2 r j) = ∑ d : Fin 128, q (ix2 r d) * k (ix2 j d) := by
  pointwise [k0_pay89]

include hn in
theorem pay90_at (j : Fin 128) : k0_pay90 (BitVec.ofNat 32 n) (qw i) (ix2 r j) = 1#1 := by
  have hi : (i 1).val < 64 := (i 1).isLt
  have hn' : n < (i 1).val - 4 := hn
  have e : k0_pay90 (BitVec.ofNat 32 n) (qw i) (ix2 r j)
      = IntOp.cmpi .slt (IntOp.addi (kw (BitVec.ofNat 32 n)) (BitVec.ofNat 32 j)) (IntOp.minsi (IntOp.addi (qw i) (BitVec.ofNat 32 r)) (ew (BitVec.ofNat 32 n))) := by
    pointwise [k0_pay90]
  rw [e, kw_eq n (by omega), ew_eq n (by omega), qw_eq]
  have hm : IntOp.minsi (IntOp.addi (BitVec.ofNat 32 (128 * (i 1).val)) (BitVec.ofNat 32 r)) (BitVec.ofNat 32 (128 * n + 128)) = BitVec.ofNat 32 (128 * n + 128) := by
    have e1 : IntOp.addi (BitVec.ofNat 32 (128 * (i 1).val)) (BitVec.ofNat 32 r) = BitVec.ofNat 32 (128 * (i 1).val + r) := (BitVec.ofNat_add ..).symm
    rw [e1]
    have hs := slt_word (a := 128 * (i 1).val + r) (b := 128 * n + 128) (by omega) (by omega)
    rw [if_neg (by omega)] at hs
    unfold IntOp.minsi
    refine if_neg fun ht => ?_
    have h1 : BitVec.ofBool ((BitVec.ofNat 32 (128 * (i 1).val + r)).slt (BitVec.ofNat 32 (128 * n + 128))) = 0#1 := hs
    rw [ht] at h1
    exact absurd h1 (by decide)
  rw [hm]
  refine (congrArg₂ (IntOp.cmpi .slt) (BitVec.ofNat_add ..).symm rfl).trans ((slt_word (by omega) (by omega)).trans (if_pos (by omega)))

include hn hz in
theorem pay91_at (j : Fin 128) : k0_pay91 q (BitVec.ofNat 32 n) (qw i) k (ix2 r j) = SbMath.L (tq i r) zf (128 * n + j) := by
  have hn' : n < (i 1).val - 4 := hn
  have h7 := pay89_at q k r j
  have h8 := pay90_at i r n hn j
  pointwise [k0_pay91, h7, h8]
  rw [hz]
  unfold SbMath.L SbMath.lg
  rw [if_pos (by unfold tq; omega)]; rfl

variable (c : FVec Ideal S128x1 .f32) (hc : c (ix2 r 0) = SbMath.S (tq i r) zf (128 * (n + 1)))
include hn hz hc

/-- The carry after a block. -/
theorem tC_at : tC i q (BitVec.ofNat 32 n) c k (ix2 r 0) = SbMath.S (tq i r) zf (128 * n) := by
  have hi : (i 1).val < 64 := (i 1).isLt
  have hn' : n < (i 1).val - 4 := hn
  show k0_pay13 c (k0_pay91 q (BitVec.ofNat 32 n) (qw i) k) (ix2 r 0) = _
  exact car_eq r zf _ (128 * n) (by omega) _ (pay91_at i q k r n hn zf hz) _ (by rw [hc, Nat.mul_add])

include hu in
/-- The sum after a block. -/
theorem tA_at (d : Fin 128) (hv : ∀ j : Fin 128, v (ix2 j d) = vf (128 * n + j))
    (a : FVec Ideal S128x128 .f32) (ha : a (ix2 r d) = SbMath.A (tq i r) zf vf (128 * (n + 1))) :
    tA i u q (BitVec.ofNat 32 n) c a k v (ix2 r d) = SbMath.A (tq i r) zf vf (128 * n) := by
  have hi : (i 1).val < 64 := (i 1).isLt
  have hn' : n < (i 1).val - 4 := hn
  have h92 : ∀ j : Fin 128, k0_pay92 q u (BitVec.ofNat 32 n) c (qw i) k (ix2 r j) = SbMath.S (tq i r) zf (128 * n + j + 1) :=
    fun j => sfx_eq u r zf hu (tq i r) (128 * n) (by omega) (k0_pay91 q (BitVec.ofNat 32 n) (qw i) k) (pay91_at i q k r n hn zf hz) c (by rw [hc, Nat.mul_add]) j
  have h89 := pay89_at q k r
  have h90 := pay90_at i r n hn
  have h91 := pay91_at i q k r n hn zf hz
  unfold tA
  pointwise [k0_pay94, h89, h90, h91, h92, hv, hz, ha]
  rw [← SbMath.A_block _ _ _ (128 * n) (by omega), Nat.mul_add]
  congr 1
  refine Finset.sum_congr rfl fun j _ => ?_
  unfold SbMath.W
  rw [if_pos (by unfold tq; omega)]

end

end Cert.SbIdeal.Frm

end
-- ==== Proof.SbV.Inv.lean ====
/- The loop's invariant: after the blocks from `n` on, each head's carry and sum are the sums over the keys from `128 n` on. -/
module

public import proofs.«01_k».proof.Proof.SbV.Tile

@[expose] public section

set_option maxRecDepth 16384

noncomputable section

namespace Cert.SbIdeal.Frm

open Cert.SbIdeal Cert.SbIdeal.Gen
open Idealize.ShloMosaic Idealize.ShloMosaic.TcCoe

theorem thr_eq : (thr : Ideal .f32) = ⊥ := by
  rfl

/-- If the largest carry is not above minus infinity, every carry of every head is minus infinity. -/
theorem spent_of (c0 c1 c2 c3 : FVec Ideal S128x1 .f32) (h : ¬ Scalar.cmpf .ogt (k0_pay4 c0 c1 c2 c3) (thr (F := Ideal)) = 1#1) (r : Fin 128) :
    c0 (ix2 r 0) = ⊥ ∧ c1 (ix2 r 0) = ⊥ ∧ c2 (ix2 r 0) = ⊥ ∧ c3 (ix2 r 0) = ⊥ := by
  rw [thr_eq] at h
  have e : k0_pay4 c0 c1 c2 c3 = Finset.fold max (Ideal.ofBits FTy.f32 4286578688#32)
      (fun x : Fin 128 × Fin 1 => max (max (max (c0 (ix2 x.1 0)) (c1 (ix2 x.1 0))) (c2 (ix2 x.1 0))) (c3 (ix2 x.1 0))) Finset.univ := by
    pointwise [k0_pay4]
  have hle : k0_pay4 c0 c1 c2 c3 ≤ (⊥ : EReal) := by
    by_contra hlt
    exact h (by
      show BitVec.ofBool (decide ((⊥ : EReal) < k0_pay4 c0 c1 c2 c3)) = 1#1
      rw [decide_eq_true (not_le.1 hlt)]; rfl)
  rw [e, Finset.fold_max_le] at hle
  have hr := hle.2 (r, 0) (Finset.mem_univ _)
  have := le_bot_iff.1 hr
  rw [max_eq_bot, max_eq_bot, max_eq_bot] at this
  exact ⟨this.1.1.1, this.1.1.2, this.1.2, this.2⟩

theorem off_eq (i : grid0.Coords) : k0_off2 i = ![128 * n0 i, 128] ∧ k0_off3 i = ![128 * n0 i, 256] ∧ k0_off4 i = ![128 * n0 i, 384] := by
  have h : ∀ j : Fin 64, (Scalar.indexCast (Scalar.maxsi (Scalar.subi (Scalar.muli (BitVec.ofNat 32 j.val) 128#32) 512#32) 0#32)).toNat = 128 * (j.val - 4) := by decide +kernel
  exact ⟨congrArg (fun a => ![a, 128]) (h (i 1)), congrArg (fun a => ![a, 256]) (h (i 1)), congrArg (fun a => ![a, 384]) (h (i 1))⟩
theorem offs_eq (n : ℕ) (hn : n < 64) : k0_off6 (BitVec.ofNat 32 n) = ![128 * n, 128] ∧ k0_off7 (BitVec.ofNat 32 n) = ![128 * n, 256] ∧ k0_off8 (BitVec.ofNat 32 n) = ![128 * n, 384] := by
  have h : ∀ j : Fin 64, (Scalar.indexCast (kw (BitVec.ofNat 32 j.val))).toNat = 128 * j.val := by decide +kernel
  exact ⟨congrArg (fun a => ![a, 128]) (h ⟨n, hn⟩), congrArg (fun a => ![a, 256]) (h ⟨n, hn⟩), congrArg (fun a => ![a, 384]) (h ⟨n, hn⟩)⟩

/-- An entry of the keys or the values of the head group, zero outside. -/
def E (x : Vec Ideal S8192x512 .bf16) (k c : ℕ) : EReal := if h : k < 8192 ∧ c < 512 then x (ix2 ⟨k, h.1⟩ ⟨c, h.2⟩) else 0

theorem E_of (x : Vec Ideal S8192x512 .bf16) (k : Fin 8192) (c : Fin 512) : E x k c = x (ix2 k c) := dif_pos ⟨k.isLt, c.isLt⟩

theorem tile_at (x : Vec Ideal S8192x512 .bf16) (o : Fin 2 → ℕ) (h : ∀ a, o a + S128x128.size a ≤ S8192x512.size a) (n c : ℕ) (ho : o = ![128 * n, c]) (j d : Fin 128) :
    tile x o h (ix2 j d) = E x (128 * n + j) (c + d) := by
  subst ho
  have h0 : 128 * n + 128 ≤ 8192 := h 0
  have h1 : c + 128 ≤ 512 := h 1
  refine Eq.trans ?_ (E_of x ⟨128 * n + j, by omega⟩ ⟨c + d, by omega⟩).symm
  unfold tile
  pointwise

theorem strip_at (x : Vec Ideal S8192x512 .bf16) (o : Fin 2 → ℕ) (h : ∀ a, o a + S640x128.size a ≤ S8192x512.size a) (b c : ℕ) (ho : o = ![b, c]) (j : Fin 640) (d : Fin 128) :
    strip x o h (ix2 j d) = E x (b + j) (c + d) := by
  subst ho
  have h0 : b + 640 ≤ 8192 := h 0
  have h1 : c + 128 ≤ 512 := h 1
  refine Eq.trans ?_ (E_of x ⟨b + j, by omega⟩ ⟨c + d, by omega⟩).symm
  unfold strip
  pointwise

section

variable (i : grid0.Coords) (q : Vec Ideal S128x128 .bf16) (x1 x2 : Vec Ideal S8192x512 .bf16) (u : FVec Ideal S128x128 .bf16) (o : ℕ)

/-- A head's scores of row `r`, by key; its values' column `d`, by key. -/
def zh (r : Fin 128) (k : ℕ) : EReal := ∑ d : Fin 128, q (ix2 r d) * E x1 k (o + d)
def vh (d : Fin 128) (k : ℕ) : EReal := E x2 k (o + d)

/-- A head's carry and sum are the sums over the keys from `128 n` on. -/
def HI (n : ℕ) (c : FVec Ideal S128x1 .f32) (a : FVec Ideal S128x128 .f32) : Prop :=
  (∀ r, c (ix2 r 0) = SbMath.S (tq i r) (zh q x1 o r) (128 * n)) ∧
    ∀ r d, a (ix2 r d) = SbMath.A (tq i r) (zh q x1 o r) (vh x2 o d) (128 * n)

/-- A head's sum is the sum over all the keys. -/
def HD (a : FVec Ideal S128x128 .f32) : Prop :=
  ∀ r d, a (ix2 r d) = SbMath.A (tq i r) (zh q x1 o r) (vh x2 o d) 0

variable (hu : ∀ x j : Fin 128, u (ix2 x j) = if j < x then 1 else 0)

include hu in
theorem HI_init (of : Fin 2 → ℕ) (h : ∀ a, of a + S640x128.size a ≤ S8192x512.size a) (ho : of = ![128 * n0 i, o]) :
    HI i q x1 x2 o (n0 i) (spanC0 i q (strip x1 of h)) (spanA0 i u q (strip x1 of h) (strip x2 of h)) := by
  have hz : ∀ (r : Fin 128) (j : Fin 640), ∑ d : Fin 128, q (ix2 r d) * strip x1 of h (ix2 j d) = zh q x1 o r (128 * n0 i + j) := by
    intro r j
    exact Finset.sum_congr rfl fun d _ => by rw [strip_at x1 of h _ _ ho]
  exact ⟨fun r => spanC0_at i q _ r _ (hz r), fun r d => spanA0_at i q _ _ u r _ _ (hz r) hu d fun j => strip_at x2 of h _ _ ho j d⟩

include hu in
theorem HI_step (n : ℕ) (hn : n < n0 i) (of : Fin 2 → ℕ) (h : ∀ a, of a + S128x128.size a ≤ S8192x512.size a) (ho : of = ![128 * n, o])
    (c : FVec Ideal S128x1 .f32) (a : FVec Ideal S128x128 .f32) (H : HI i q x1 x2 o (n + 1) c a) :
    HI i q x1 x2 o n (tC i q (BitVec.ofNat 32 n) c (tile x1 of h)) (tA i u q (BitVec.ofNat 32 n) c a (tile x1 of h) (tile x2 of h)) := by
  have hz : ∀ (r : Fin 128) (j : Fin 128), ∑ d : Fin 128, q (ix2 r d) * tile x1 of h (ix2 j d) = zh q x1 o r (128 * n + j) := by
    intro r j
    exact Finset.sum_congr rfl fun d _ => by rw [tile_at x1 of h _ _ ho]
  exact ⟨fun r => tC_at i q _ r n hn _ (hz r) c (H.1 r), fun r d => tA_at i q _ _ u r n hn _ _ (hz r) hu c (H.1 r) d (fun j => tile_at x2 of h _ _ ho j d) a (H.2 r d)⟩

theorem HD_spent (n : ℕ) (hn : n ≤ 64) (c : FVec Ideal S128x1 .f32) (a : FVec Ideal S128x128 .f32) (H : HI i q x1 x2 o n c a)
    (hc : ∀ r, c (ix2 r 0) = ⊥) : HD i q x1 x2 o a := fun r d => by
  rw [H.2 r d, SbMath.A_spent _ _ _ (128 * n) ((H.1 r).symm.trans (hc r)) (by omega)]

theorem HD_zero (c : FVec Ideal S128x1 .f32) (a : FVec Ideal S128x128 .f32) (H : HI i q x1 x2 o 0 c a) : HD i q x1 x2 o a := H.2

end

section

variable (i : grid0.Coords) (x1 x2 : Vec Ideal S8192x512 .bf16) (q0 q1 q2 q3 : Vec Ideal S128x128 .bf16) (u : FVec Ideal S128x128 .bf16)
variable (hu : ∀ x j : Fin 128, u (ix2 x j) = if j < x then 1 else 0)

/-- The loop's state before block `n`: the four heads' sums over the keys from `128 n` on, and the largest carry. -/
structure Inv (n : ℕ) (s : St Ideal) : Prop where
  h0 : HI i q0 x1 x2 0 n s.c0 s.a0
  h1 : HI i q1 x1 x2 128 n s.c1 s.a1
  h2 : HI i q2 x1 x2 256 n s.c2 s.a2
  h3 : HI i q3 x1 x2 384 n s.c3 s.a3
  mx : s.mx = k0_pay4 s.c0 s.c1 s.c2 s.c3

include hu in
/-- The loop ends with the four heads' sums over all the keys. -/
theorem loop_end : ∀ (n : ℕ) (hn : n ≤ 64) (hi : n ≤ n0 i) (s : St Ideal), Inv i x1 x2 q0 q1 q2 q3 n s →
    HD i q0 x1 x2 0 (loop i x1 x2 q0 u q1 q2 q3 n hn s).a0 ∧ HD i q1 x1 x2 128 (loop i x1 x2 q0 u q1 q2 q3 n hn s).a1 ∧
    HD i q2 x1 x2 256 (loop i x1 x2 q0 u q1 q2 q3 n hn s).a2 ∧ HD i q3 x1 x2 384 (loop i x1 x2 q0 u q1 q2 q3 n hn s).a3 := by
  intro n
  induction n with
  | zero => intro hn hi s H; exact ⟨H.h0.2, H.h1.2, H.h2.2, H.h3.2⟩
  | succ n ih =>
    intro hn hi s H
    rw [loop]
    by_cases hc : Scalar.cmpf .ogt s.mx (thr (F := Ideal)) = 1#1
    · rw [if_pos hc]
      refine ih _ (by omega) _ ⟨?_, ?_, ?_, ?_, rfl⟩
      · exact HI_step i q0 x1 x2 u 0 hu n hi _ _ (off5_eq n hn) _ _ H.h0
      · exact HI_step i q1 x1 x2 u 128 hu n hi _ _ (offs_eq n hn).1 _ _ H.h1
      · exact HI_step i q2 x1 x2 u 256 hu n hi _ _ (offs_eq n hn).2.1 _ _ H.h2
      · exact HI_step i q3 x1 x2 u 384 hu n hi _ _ (offs_eq n hn).2.2 _ _ H.h3
    · rw [if_neg hc]
      rw [H.mx] at hc
      have hs := spent_of _ _ _ _ hc
      exact ⟨HD_spent i q0 x1 x2 0 _ hn _ _ H.h0 fun r => (hs r).1, HD_spent i q1 x1 x2 128 _ hn _ _ H.h1 fun r => (hs r).2.1,
        HD_spent i q2 x1 x2 256 _ hn _ _ H.h2 fun r => (hs r).2.2.1, HD_spent i q3 x1 x2 384 _ hn _ _ H.h3 fun r => (hs r).2.2.2⟩

end

section

variable (i : grid0.Coords) (x0 : Vec Ideal S128x512 .bf16) (x1 x2 : Vec Ideal S8192x512 .bf16) (x3 : Vec Ideal S128x128 .bf16) (x4 : Vec Ideal S1x512 .f32)
variable (hu : ∀ x j : Fin 128, x3 (ix2 x j) = if j < x then 1 else 0)

include hu in
theorem um_at (x j : Fin 128) : um x3 (ix2 x j) = if j < x then 1 else 0 := by
  rw [← hu]
  unfold um
  pointwise [k0_pay5]

include hu in
theorem inv_init : Inv i x1 x2 (qh0 x0) (qh1 x0) (qh2 x0) (qh3 x0) (n0 i) (init i x0 x1 x2 x3) where
  h0 := HI_init i _ x1 x2 _ 0 (um_at x3 hu) _ _ (off1_eq i)
  h1 := HI_init i _ x1 x2 _ 128 (um_at x3 hu) _ _ (off_eq i).1
  h2 := HI_init i _ x1 x2 _ 256 (um_at x3 hu) _ _ (off_eq i).2.1
  h3 := HI_init i _ x1 x2 _ 384 (um_at x3 hu) _ _ (off_eq i).2.2
  mx := rfl

include hu in
/-- The loop's sums at its end: each head's weighted sum over all the keys. -/
theorem fin_at : HD i (qh0 x0) x1 x2 0 (fin i x0 x1 x2 x3).a0 ∧ HD i (qh1 x0) x1 x2 128 (fin i x0 x1 x2 x3).a1 ∧
    HD i (qh2 x0) x1 x2 256 (fin i x0 x1 x2 x3).a2 ∧ HD i (qh3 x0) x1 x2 384 (fin i x0 x1 x2 x3).a3 :=
  loop_end i x1 x2 _ _ _ _ _ (um_at x3 hu) (n0 i) (n0_le i) le_rfl _ (inv_init i x0 x1 x2 x3 hu)

end

end Cert.SbIdeal.Frm

end
-- ==== Proof.SbV.Ref.lean ====
/- The reference's result read at an index: the normalised weighted sum of the values, keys as natural numbers. -/
module

public import proofs.«01_k».proof.Proof.Gen.SbRefIdeal.Run
public import proofs.«01_k».proof.Proof.SbV.Math
public import Idealize.ShloMosaic.Lib.Pointwise
public import Idealize.ShloMosaic.Lib.WordCmp

@[expose] public section

set_option maxRecDepth 16384

noncomputable section

namespace Cert.SbRefIdeal.Value

open Cert.SbRefIdeal Cert.SbRefIdeal.Gen Idealize.ShloMosaic Idealize.ShloMosaic.TcCoe Idealize.SL.Sem

/-- The eight query heads, the key heads, the value heads: columns of the projection. -/
def QF (X : FVec Ideal S8192x5632 .bf16) : FVec Ideal S8x8192x128 .f32 :=
  transpose S8x8192x128 [1, 0, 2] (shapeCast S8192x8x128 (extractStridedSlice S8192x1024 ![0, 2560] (extf .f32 X bitsLt_bf16_f32) slices_S8192x5632_S8192x1024_0_2560) shapeCasts_S8192x1024_S8192x8x128) transposes_S8192x8x128_S8x8192x128_1_0_2
def KF (X : FVec Ideal S8192x5632 .bf16) : FVec Ideal S8x8192x128 .f32 :=
  transpose S8x8192x128 [1, 0, 2] (shapeCast S8192x8x128 (extractStridedSlice S8192x1024 ![0, 3584] (extf .f32 X bitsLt_bf16_f32) slices_S8192x5632_S8192x1024_0_3584) shapeCasts_S8192x1024_S8192x8x128) transposes_S8192x8x128_S8x8192x128_1_0_2
def VF (X : FVec Ideal S8192x5632 .bf16) : FVec Ideal S8x8192x128 .f32 :=
  transpose S8x8192x128 [1, 0, 2] (shapeCast S8192x8x128 (extractStridedSlice S8192x1024 ![0, 4608] (extf .f32 X bitsLt_bf16_f32) slices_S8192x5632_S8192x1024_0_4608) shapeCasts_S8192x1024_S8192x8x128) transposes_S8192x8x128_S8x8192x128_1_0_2
/-- The scores. -/
def ZF (X : FVec Ideal S8192x5632 .bf16) : FVec Ideal S8x8192x8192 .f32 :=
  Host.dotGeneral dot_S8x8192x128_S8x8192x128_S8x8192x8192_2_2_1_1_0_0 none (QF X) (KF X)
/-- The causal mask. -/
def MF : IVec S8x8192x8192 1 :=
  broadcastInDim S8x8192x8192 ![0, 1, 2] bcast_S1x8192x8192_S8x8192x8192_0_1_2 (broadcastInDim S1x8192x8192 ![1, 2] bcast_S8192x8192_S1x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
/-- Minus the softplus. -/
def NSP (y : FVec Ideal S8x8192x8192 .f32) : FVec Ideal S8x8192x8192 .f32 :=
  Host.negf (select (cmpf .une (subf y (broadcastInDim S8x8192x8192 ![] bcast_S_S8x8192x8192 (constant S_ .f32 0x00000000#32))) (subf y (broadcastInDim S8x8192x8192 ![] bcast_S_S8x8192x8192 (constant S_ .f32 0x00000000#32)))) (addf y (broadcastInDim S8x8192x8192 ![] bcast_S_S8x8192x8192 (constant S_ .f32 0x00000000#32))) (addf (maximumf y (broadcastInDim S8x8192x8192 ![] bcast_S_S8x8192x8192 (constant S_ .f32 0x00000000#32))) (Host.log1p (Host.exp (Host.negf (Host.absf (subf y (broadcastInDim S8x8192x8192 ![] bcast_S_S8x8192x8192 (constant S_ .f32 0x00000000#32)))))))))
/-- The logs of what a key leaves, masked. -/
def LF (X : FVec Ideal S8192x5632 .bf16) : FVec Ideal S8x8192x8192 .f32 :=
  select MF (NSP (Host.negf (Host.negf (ZF X)))) (broadcastInDim S8x8192x8192 ![] bcast_S_S8x8192x8192 (id (constant S_ .f32 0x00000000#32)))
/-- Their sums from a key on. -/
def CF (X : FVec Ideal S8192x5632 .bf16) : FVec Ideal S8x8192x8192 .f32 :=
  Host.reduceWindowAdd ![1, 1, 8192] ![1, 1, 1] ![0, 0, 0] ![0, 0, 8191] (LF X) (broadcastInDim S_ ![] bcast_S_S_ (constant S_ .f32 0x00000000#32)) reduceWindows_S8x8192x8192_S8x8192x8192_w1s1p0_0_w1s1p0_0_w8192s1p0_8191 h_S_
/-- The weights. -/
def WF (X : FVec Ideal S8192x5632 .bf16) : FVec Ideal S8x8192x8192 .f32 :=
  select MF (Host.exp (addf (NSP (Host.negf (ZF X))) (subf (CF X) (LF X)))) (broadcastInDim S8x8192x8192 ![] bcast_S_S8x8192x8192 (id (constant S_ .f32 0x00000000#32)))
/-- The weighted sums. -/
def OF (X : FVec Ideal S8192x5632 .bf16) : FVec Ideal S8192x8x128 .f32 :=
  transpose S8192x8x128 [1, 0, 2] (Host.dotGeneral (φ₁ := .f32) dot_S8x8192x8192_S8x8192x128_S8x8192x128_2_1_1_2_0_0 none (WF X) (VF X)) transposes_S8x8192x128_S8192x8x128_1_0_2
/-- The normalised sums times the gains. -/
def REF (X : FVec Ideal S8192x5632 .bf16) (G : FVec Ideal S1x2048 .f32) : FVec Ideal S8192x1024 .bf16 :=
  truncf .bf16 (mulf (shapeCast S8192x1024 (mulf (OF X) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (OF X) (OF X)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) shapeCasts_S8192x8x128_S8192x1024) (broadcastInDim S8192x1024 ![0, 1] bcast_S1x1024_S8192x1024_0_1 (extractStridedSlice S1x1024 ![0, 1024] G slices_S1x2048_S1x1024_0_1024))) bitsLt_bf16_f32

theorem res_eq (m : (ℓ : Loc nD τ sig) → Buf (Elt Ideal) ℓ) (c : Dev nD) :
    res_main_v43 m c = REF (m ((c.tc : Thread nD τ).loc main_arg0)) (m ((c.tc : Thread nD τ).loc main_arg1)) := by
  unfold res_main_v43 REF OF WF CF LF NSP MF ZF QF KF VF; rfl

/-- An entry of the projection, nothing outside it. -/
def P (X : FVec Ideal S8192x5632 .bf16) (i j : ℕ) : EReal := if h : i < 8192 ∧ j < 5632 then X (ix2 ⟨i, h.1⟩ ⟨j, h.2⟩) else 0

/-- The score of key `k` for query `i` in head `h`. -/
def zf (X : FVec Ideal S8192x5632 .bf16) (h i : ℕ) (k : ℕ) : EReal :=
  ∑ d : Fin 128, P X i (2560 + h * 128 + d.val) * P X k (3584 + h * 128 + d.val)

/-- The weighted sum of the values. -/
def acc (X : FVec Ideal S8192x5632 .bf16) (h i d : ℕ) : EReal :=
  SbMath.A i (zf X h i) (fun k => P X k (4608 + h * 128 + d)) 0

/-- The result. -/
def out (X : FVec Ideal S8192x5632 .bf16) (G : FVec Ideal S1x2048 .f32) (i : ℕ) (c : Fin 1024) : EReal :=
  acc X (c.val / 128) i (c.val % 128) * Ideal.rsqrt (Ideal.div (∑ e : Fin 128, acc X (c.val / 128) i e.val * acc X (c.val / 128) i e.val) (Ideal.ofBits .f32 0x43000000#32) + Ideal.ofBits .f32 0x358637BD#32)
    * G (ix2 0 ⟨1024 + c.val, by omega⟩)

section
variable (X : FVec Ideal S8192x5632 .bf16) (G : FVec Ideal S1x2048 .f32) (h : Fin 8) (i k : Fin 8192) (d : Fin 128)

theorem P_of (i : Fin 8192) (j : ℕ) (hj : j < 5632) : P X i.val j = X (ix2 i ⟨j, hj⟩) := dif_pos ⟨i.isLt, hj⟩

theorem QF_at : QF X (ix3 h i d) = P X i (2560 + h.val * 128 + d.val) := by
  rw [P_of X i _ (by omega)]
  pointwise [QF]
  exact congrArg X (congrArg (ix2 i) (Fin.ext (Nat.add_assoc ..).symm))
theorem KF_at : KF X (ix3 h i d) = P X i (3584 + h.val * 128 + d.val) := by
  rw [P_of X i _ (by omega)]
  pointwise [KF]
  exact congrArg X (congrArg (ix2 i) (Fin.ext (Nat.add_assoc ..).symm))
theorem VF_at : VF X (ix3 h i d) = P X i (4608 + h.val * 128 + d.val) := by
  rw [P_of X i _ (by omega)]
  pointwise [VF]
  exact congrArg X (congrArg (ix2 i) (Fin.ext (Nat.add_assoc ..).symm))
theorem slt_eq (a b : ℕ) (ha : a < 2 ^ 31) (hb : b < 2 ^ 31) :
    IntOp.cmpi CmpIPredicate.slt (BitVec.ofNat 32 a) (BitVec.ofNat 32 b) = if a < b then 1#1 else 0#1 := by
  rw [WordCmp.cmpi_slt_ofNat (w := 32) ha hb]
  by_cases h : a < b <;> simp [h]
theorem MF_at : MF (ix3 h i k) = if k.val < i.val then 1#1 else 0#1 := by
  pointwise [MF]
  exact slt_eq k.val i.val (by omega) (by omega)
theorem NSP_at (y : FVec Ideal S8x8192x8192 .f32) : NSP y (ix3 h i k) = -(max (y (ix3 h i k)) 0 + Ideal.log1p (Ideal.exp (-(max (y (ix3 h i k) - 0) (-(y (ix3 h i k) - 0)))))) := by
  pointwise [NSP]
  rw [if_neg (fun h => h rfl)]; rfl
theorem ZF_at : ZF X (ix3 h i k) = zf X h i k := by
  unfold zf
  pointwise [ZF]
  exact Finset.sum_congr rfl fun d _ => by rw [QF_at, KF_at]
theorem LF_at : LF X (ix3 h i k) = SbMath.L i (zf X h i) k := by
  have e := NSP_at h i k (Host.negf (Host.negf (ZF X)))
  have e2 : Host.negf (Host.negf (ZF X)) (ix3 h i k) = zf X h i k := by
    pointwise; rw [ZF_at, neg_neg]
  rw [e2, SbMath.lg_host] at e
  have hm := MF_at h i k
  unfold LF
  pointwise [hm, e, id_eq]
  unfold SbMath.L
  by_cases hk : k.val < i.val
  · rw [if_pos hk, if_pos hk]; rfl
  · rw [if_neg hk, if_neg hk]; rfl

theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- An entry of the window of logs that starts at key `k`, nothing past the last key. -/
def win (w : (⟨3, ![1, 1, 8192]⟩ : Shape).Idx) : EReal :=
  if hin : ∀ a : Fin 3, ![0, 0, 0] a ≤ (ix3 h i k : S8x8192x8192.Idx) a * ![1, 1, 1] a + (w a).val
      ∧ (ix3 h i k : S8x8192x8192.Idx) a * ![1, 1, 1] a + (w a).val - ![0, 0, 0] a < ![8, 8192, 8192] a
    then LF X fun a => ⟨(ix3 h i k : S8x8192x8192.Idx) a * ![1, 1, 1] a + (w a).val - ![0, 0, 0] a, (hin a).2⟩ else 0

theorem win_at (c : Fin 8192) : win X h i k (ix3 0 0 c) = if k.val + c.val < 8192 then SbMath.L i (zf X h i) (k.val + c.val) else 0 := by
  unfold win
  by_cases hk : k.val + c.val < 8192
  · rw [if_pos hk, dif_pos]
    · rw [← LF_at X h i ⟨k.val + c.val, hk⟩]
      refine congrArg (LF X) (funext fun a => ?_)
      fin_cases a <;> exact Fin.ext (by simp)
    · intro a
      fin_cases a <;> simp <;> omega
  · rw [if_neg hk, dif_neg]
    intro hh
    have := (hh 2).2
    simp at this
    omega

theorem CF_at : CF X (ix3 h i k) = SbMath.S i (zf X h i) k := by
  unfold CF Host.reduceWindowAdd
  rw [Ideal.hostReduceWindowAdd_def]
  unfold Ideal.hostReduceWindowAdd Host.reduceWindow
  dsimp only
  rw [foldl_add, ← Fin.sum_univ_def]
  have h0 : (broadcastInDim S_ ![] bcast_S_S_ (constant (F := Ideal) S_ .f32 0x00000000#32) (Shape.Idx.first h_S_) : EReal) = 0 := by
    pointwise
  rw [h0, zero_add]
  refine Eq.trans (Finset.sum_congr rfl fun n _ => ?_) ((Equiv.sum_comp (Shape.rowMajor ⟨3, ![1, 1, 8192]⟩).symm (win X h i k)).trans ?_)
  · unfold win
    split
    · rename_i hin
      refine ((dif_pos ?_).trans ?_).symm
      · exact hin
      · rfl
    · rename_i hin
      rw [dif_neg]
      exact hin
  rw [sum_idx3, Fin.sum_univ_one, Fin.sum_univ_one]
  rw [Finset.sum_congr rfl fun c _ => win_at X h i k c]
  rw [Fin.sum_univ_eq_sum_range (fun c => if k.val + c < 8192 then SbMath.L i (zf X h i) (k.val + c) else 0) 8192]
  unfold SbMath.S
  rw [Finset.sum_Ico_eq_sum_range]
  rw [Finset.range_eq_Ico, ← Finset.sum_Ico_consecutive _ (show 0 ≤ 8192 - k.val by omega) (show 8192 - k.val ≤ 8192 by omega)]
  rw [Finset.sum_eq_zero (s := Finset.Ico (8192 - k.val) 8192) (fun c hc => if_neg (by have := Finset.mem_Ico.1 hc; omega)), add_zero,
    Finset.range_eq_Ico]
  exact Finset.sum_congr rfl fun c hc => if_pos (by have := Finset.mem_Ico.1 hc; omega)

theorem WF_at : WF X (ix3 h i k) = SbMath.W i (zf X h i) k := by
  have e := NSP_at h i k (Host.negf (ZF X))
  have e2 : Host.negf (ZF X) (ix3 h i k) = -zf X h i k := by
    pointwise; rw [ZF_at]
  rw [e2] at e
  have hm := MF_at h i k
  have hc := CF_at X h i k
  have hl := LF_at X h i k
  unfold WF
  pointwise [hm, e, id_eq, hc, hl]
  unfold SbMath.W
  by_cases hk : k.val < i.val
  · rw [if_pos hk, if_pos hk, SbMath.S_step _ _ _ k.isLt]
    have hL : SbMath.L i (zf X h i) k = SbMath.lg (zf X h i k) := if_pos hk
    rw [hL, ← SbMath.weight_eq _ _ (SbMath.S_ne_top _ _ _)]
    unfold SbMath.sg
    rw [sub_zero]
    rfl
  · rw [if_neg hk, if_neg hk]; rfl

theorem OF_at : OF X (ix3 i h d) = acc X h i d := by
  unfold acc SbMath.A
  pointwise [OF]
  rw [← Finset.range_eq_Ico, ← Fin.sum_univ_eq_sum_range (fun k => SbMath.W i (zf X h i) k * P X k (4608 + h * 128 + d)) 8192]
  exact Finset.sum_congr rfl fun k _ => by rw [WF_at, VF_at]

theorem REF_at (i : Fin 8192) (c : Fin 1024) : REF X G (ix2 i c) = out X G i c := by
  unfold out
  pointwise [REF, OF_at]

end

end Cert.SbRefIdeal.Value

end
-- ==== Proof.SbV.Value.lean ====
/- The kernel's result array: every block the pipeline writes back is the reference's block, so the array is the reference's result. -/
module

public import proofs.«01_k».proof.Proof.SbV.Inv
public import proofs.«01_k».proof.Proof.SbV.Ref
public import proofs.«01_k».proof.Proof.SbI.Frame
public import Idealize.ShloMosaic.Lib.Pipeline.ValueKit

@[expose] public section

set_option maxRecDepth 16384

noncomputable section

namespace Cert.SbIdeal.Frm

open Cert.SbIdeal Cert.SbIdeal.Gen
open Idealize.ShloMosaic Idealize.ShloMosaic.TcCoe Idealize.SL.Sem
open Idealize.ShloMosaic.Pipeline (Dat)

/-- A head's normalised columns at an index. -/
theorem nO_at (a : FVec Ideal S128x128 .f32) (g : Vec Ideal S1x128 .f32) (r d : Fin 128) :
    nO a g (ix2 r d) = a (ix2 r d) * Ideal.rsqrt (Ideal.div (∑ e : Fin 128, a (ix2 r e) * a (ix2 r e)) (Ideal.ofBits .f32 0x43000000#32) + Ideal.ofBits .f32 0x358637BD#32)
      * g (ix2 0 d) := by
  pointwise [nO, k0_pay86]

section

variable (i : grid0.Coords) (x0 : Vec Ideal S128x512 .bf16) (x1 x2 : Vec Ideal S8192x512 .bf16) (x3 : Vec Ideal S128x128 .bf16) (x4 : Vec Ideal S1x512 .f32)
variable (X : FVec Ideal Cert.SbRefIdeal.S8192x5632 .bf16) (G : FVec Ideal Cert.SbRefIdeal.S1x2048 .f32)

open Cert.SbRefIdeal.Value (P zf acc out)

theorem P_past (k j : ℕ) (h : ¬ k < 8192) : P X k j = 0 := dif_neg fun hh => h hh.1
theorem E_past (x : Vec Ideal S8192x512 .bf16) (k c : ℕ) (h : ¬ k < 8192) : E x k c = 0 := dif_neg fun hh => h hh.1

theorem E_eq (x : Vec Ideal S8192x512 .bf16) (b : ℕ) (hx : ∀ (k : Fin 8192) (c : Fin 512), x (ix2 k c) = P X k (b + c)) (k c : ℕ) (hc : c < 512) :
    E x k c = P X k (b + c) := by
  by_cases hk : k < 8192
  · exact (E_of x ⟨k, hk⟩ ⟨c, hc⟩).trans (hx ⟨k, hk⟩ ⟨c, hc⟩)
  · rw [E_past x k c hk, P_past X k _ hk]

variable (h1 : ∀ (k : Fin 8192) (c : Fin 512), x1 (ix2 k c) = P X k (3584 + 512 * (i 0).val + c))
variable (h2 : ∀ (k : Fin 8192) (c : Fin 512), x2 (ix2 k c) = P X k (4608 + 512 * (i 0).val + c))

include h1 h2 in
/-- A head's normalised columns are the reference's, from its sum over all the keys. -/
theorem head_eq (h : Fin 4) (q : Vec Ideal S128x128 .bf16) (a : FVec Ideal S128x128 .f32) (g : Vec Ideal S1x128 .f32)
    (hq : ∀ r d : Fin 128, q (ix2 r d) = P X (128 * (i 1).val + r) (2560 + 512 * (i 0).val + (128 * h.val + d)))
    (H : HD i q x1 x2 (128 * h.val) a) (r d : Fin 128) (cc : Fin 1024) (hcc : cc.val = 512 * (i 0).val + 128 * h.val + d.val)
    (hg : g (ix2 0 d) = G (ix2 0 ⟨1024 + cc.val, by omega⟩)) :
    nO a g (ix2 r d) = out X G (128 * (i 1).val + r) cc := by
  have hd1 : cc.val / 128 = 4 * (i 0).val + h.val := by omega
  have hd2 : cc.val % 128 = d.val := by omega
  have hz : zh q x1 (128 * h.val) r = zf X (4 * (i 0).val + h.val) (128 * (i 1).val + r) := by
    funext k
    refine Finset.sum_congr rfl fun e _ => ?_
    rw [hq, E_eq X x1 _ h1 _ _ (by omega)]
    congr 2 <;> omega
  have hv : ∀ e : Fin 128, vh x2 (128 * h.val) e = fun k => P X k (4608 + (4 * (i 0).val + h.val) * 128 + e.val) := by
    intro e
    funext k
    refine (E_eq X x2 _ h2 _ _ (by omega)).trans ?_
    congr 1; omega
  have ha : ∀ e : Fin 128, a (ix2 r e) = acc X (cc.val / 128) (128 * (i 1).val + r) e.val := by
    intro e
    rw [H r e, hz, hv, hd1]; rfl
  rw [nO_at, ha d, Finset.sum_congr rfl fun e _ => by rw [ha e], hg]
  unfold out
  rw [hd2]

variable (h0 : ∀ (r : Fin 128) (c : Fin 512), x0 (ix2 r c) = P X (128 * (i 1).val + r) (2560 + 512 * (i 0).val + c))
variable (h3 : ∀ x j : Fin 128, x3 (ix2 x j) = if j < x then 1 else 0)
variable (h4 : ∀ c : Fin 512, x4 (ix2 0 c) = G (ix2 0 ⟨1024 + 512 * (i 0).val + c.val, by have : (i 0).val < 2 := (i 0).isLt; omega⟩))

include h0 h1 h2 h3 h4 in
/-- The output block at an index is the reference's entry. -/
theorem outBlk_at (r : Fin 128) (c : Fin 512) :
    outBlk i x0 x1 x2 x3 x4 (ix2 r c) = out X G (128 * (i 1).val + r) ⟨512 * (i 0).val + c.val, by have : (i 0).val < 2 := (i 0).isLt; omega⟩ := by
  have hi : (i 0).val < 2 := (i 0).isLt
  have hf := fin_at i x0 x1 x2 x3 h3
  unfold outBlk
  rw [View.read_writes_eq_canon _ _ _ (cover i x0 x1 x2 x3 x4)]
  refine View.canon_eq_of_allAt _ _ _ (cover i x0 x1 x2 x3 x4 _) ?_
  unfold pieces
  have key : ∀ (h : Fin 4) (x : S128x128.Idx) (q : Vec Ideal S128x128 .bf16) (a : FVec Ideal S128x128 .f32) (g : Vec Ideal S1x128 .f32),
      r.val = (x 0).val → c.val = 128 * h.val + (x 1).val →
      (∀ r d : Fin 128, q (ix2 r d) = x0 (ix2 r ⟨128 * h.val + d.val, by omega⟩)) →
      HD i q x1 x2 (128 * h.val) a → (∀ d : Fin 128, g (ix2 0 d) = x4 (ix2 0 ⟨128 * h.val + d.val, by omega⟩)) →
      nO a g x = out X G (128 * (i 1).val + r) ⟨512 * (i 0).val + c.val, by omega⟩ := by
    intro h x q a g hr hc hq H hg
    obtain ⟨r', d, rfl⟩ : ∃ (r' d : Fin 128), x = ix2 r' d := ⟨x 0, x 1, by ext a; fin_cases a <;> rfl⟩
    obtain rfl : r = r' := Fin.ext hr
    refine head_eq i x1 x2 X G h1 h2 h q a g (fun r d => (hq r d).trans (h0 _ _)) H r d _ (by
      show 512 * (i 0).val + c.val = _
      rw [hc]; show _ = 512 * (i 0).val + 128 * h.val + d.val; show 512 * (i 0).val + (128 * h.val + d.val) = _; omega) ?_
    rw [hg, h4]
    refine congrArg G (congrArg (ix2 0) (Fin.ext ?_))
    show 1024 + 512 * (i 0).val + (128 * h.val + d.val) = 1024 + (512 * (i 0).val + c.val)
    rw [hc]; show _ = 1024 + (512 * (i 0).val + (128 * h.val + d.val)); omega
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · refine key 3 x (qh3 x0) (fin i x0 x1 x2 x3).a3 (gh x4 ![0, 384] inb_S1x512_S1x128_0_384) ((hx 0).trans (Nat.zero_add _)) (hx 1) (fun r d => ?_) hf.2.2.2 (fun d => ?_)
    · unfold qh3; pointwise
    · unfold gh; pointwise
  · refine key 2 x (qh2 x0) (fin i x0 x1 x2 x3).a2 (gh x4 ![0, 256] inb_S1x512_S1x128_0_256) ((hx 0).trans (Nat.zero_add _)) (hx 1) (fun r d => ?_) hf.2.2.1 (fun d => ?_)
    · unfold qh2; pointwise
    · unfold gh; pointwise
  · refine key 1 x (qh1 x0) (fin i x0 x1 x2 x3).a1 (gh x4 ![0, 128] inb_S1x512_S1x128_0_128) ((hx 0).trans (Nat.zero_add _)) (hx 1) (fun r d => ?_) hf.2.1 (fun d => ?_)
    · unfold qh1; pointwise
    · unfold gh; pointwise
  · refine key 0 x (qh0 x0) (fin i x0 x1 x2 x3).a0 (gh x4 ![0, 0] inb_S1x512_S1x128_0_0) ((hx 0).trans (Nat.zero_add _)) (hx 1) (fun r d => ?_) hf.1 (fun d => ?_)
    · unfold qh0; pointwise
    · unfold gh; pointwise

end

variable (m : (ℓ : Loc nD τ sig) → Buf (Elt Ideal) ℓ)

/-- The windows' block indices at every point, in the grid's coordinates. -/
theorem idx : ∀ t : Fin (cfg0 (F := Ideal)).N, win0_0.index t = ![(grid0.coords t 1).val, 5 + (grid0.coords t 0).val] ∧ win0_1.index t = ![0, 7 + (grid0.coords t 0).val]
    ∧ win0_2.index t = ![0, 9 + (grid0.coords t 0).val] ∧ win0_3.index t = ![0, 0] ∧ win0_4.index t = ![0, 2 + (grid0.coords t 0).val]
    ∧ win0_5.index t = ![(grid0.coords t 1).val, (grid0.coords t 0).val] :=
  (by decide +kernel : ∀ t : Fin grid0.N, _)

section

variable (c : Dev nD) (t : Fin (cfg0 (F := Ideal)).N)

open Cert.SbRefIdeal.Value (P zf acc out REF)

/-- The argument arrays, as the reference types them. -/
abbrev aX : FVec Ideal Cert.SbRefIdeal.S8192x5632 .bf16 := m ((c.tc : Thread nD τ).loc main_arg0)
abbrev aG : FVec Ideal Cert.SbRefIdeal.S1x2048 .f32 := m ((c.tc : Thread nD τ).loc main_arg1)

theorem blk0 (r : Fin 128) (j : Fin 512) : iblk m c 0 t (ix2 r j) = P (aX m c) (128 * (grid0.coords t 1).val + r) (2560 + 512 * (grid0.coords t 0).val + j) := by
  have hi : (grid0.coords t 0).val < 2 := (grid0.coords t 0).isLt
  have hj : (grid0.coords t 1).val < 64 := (grid0.coords t 1).isLt
  have := idx t
  refine Eq.trans ?_ (dif_pos ⟨by omega, by omega⟩ : P (aX m c) (128 * (grid0.coords t 1).val + r) (2560 + 512 * (grid0.coords t 0).val + j) = _).symm
  blk_point [iblk, V_main_arg0, idx t]
theorem blk1 (r : Fin 8192) (j : Fin 512) : iblk m c 1 t (ix2 r j) = P (aX m c) r (3584 + 512 * (grid0.coords t 0).val + j) := by
  have hi : (grid0.coords t 0).val < 2 := (grid0.coords t 0).isLt
  refine Eq.trans ?_ (dif_pos ⟨by omega, by omega⟩ : P (aX m c) r (3584 + 512 * (grid0.coords t 0).val + j) = _).symm
  blk_point [iblk, V_main_arg0, idx t]
theorem blk2 (r : Fin 8192) (j : Fin 512) : iblk m c 2 t (ix2 r j) = P (aX m c) r (4608 + 512 * (grid0.coords t 0).val + j) := by
  have hi : (grid0.coords t 0).val < 2 := (grid0.coords t 0).isLt
  refine Eq.trans ?_ (dif_pos ⟨by omega, by omega⟩ : P (aX m c) r (4608 + 512 * (grid0.coords t 0).val + j) = _).symm
  blk_point [iblk, V_main_arg0, idx t]
theorem v8_at (x j : Fin 128) : (V m c main_v8 : FVec Ideal S128x128 .bf16) (ix2 x j) = (if j < x then 1 else 0 : EReal) := by
  entry_read
  pointwise
  have h := slt_word (a := j.val) (b := x.val) (by omega) (by omega)
  have e : IntOp.cmpi .sgt (BitVec.ofNat 32 x.val) (BitVec.ofNat 32 j.val) = IntOp.cmpi .slt (BitVec.ofNat 32 j.val) (BitVec.ofNat 32 x.val) := rfl
  rw [e, h]
  by_cases hx : j < x
  · rw [if_pos hx, if_pos (show j.val < x.val from hx)]
    show (((1#1).toNat : ℝ) : EReal) = 1
    norm_num
  · rw [if_neg hx, if_neg (show ¬ j.val < x.val from hx)]
    show (((0#1).toNat : ℝ) : EReal) = 0
    norm_num
theorem blk3 (x j : Fin 128) : (iblk m c 3 t : FVec Ideal S128x128 .bf16) (ix2 x j) = (if j < x then 1 else 0 : EReal) := by
  rw [← v8_at m c]
  blk_ext [iblk, idx t]
theorem blk4 (j : Fin 512) : iblk m c 4 t (ix2 0 j) = aG m c (ix2 0 ⟨1024 + 512 * (grid0.coords t 0).val + j, by have : (grid0.coords t 0).val < 2 := (grid0.coords t 0).isLt; omega⟩) := by
  have hi : (grid0.coords t 0).val < 2 := (grid0.coords t 0).isLt
  blk_point [iblk, V_main_arg1, idx t]

/-- What the body leaves at a block index is the reference's entry at the array index. -/
theorem outsAt_at (r : Fin 128) (j : Fin 512) :
    outsAt0 m c t (ix2 r j) = REF (aX m c) (aG m c) (ix2 ⟨128 * (grid0.coords t 1).val + r, by have : (grid0.coords t 1).val < 64 := (grid0.coords t 1).isLt; omega⟩
      ⟨512 * (grid0.coords t 0).val + j, by have : (grid0.coords t 0).val < 2 := (grid0.coords t 0).isLt; omega⟩) := by
  rw [Cert.SbRefIdeal.Value.REF_at]
  exact outBlk_at (grid0.coords t) _ _ _ _ _ (aX m c) (aG m c) (blk1 m c t) (blk2 m c t) (blk0 m c t) (blk3 m c t) (blk4 m c t) r j

end

/-- The result array after the run is the reference's result. -/
theorem final (c : Dev nD) : (dats m 0 c).arrAt 5 (cfgs (F := Ideal) 0).N = Cert.SbRefIdeal.Value.REF (aX m c) (aG m c) := by
  refine (dats m 0 c).arrAt_eq_of_covers 5 _ (by decide +kernel) fun t _ y => ?_
  blk_simp
  rw [after0_5]
  obtain ⟨r, j, rfl⟩ : ∃ (r : Fin 128) (j : Fin 512), y = ix2 r j := ⟨y 0, y 1, by ext a; fin_cases a <;> rfl⟩
  refine (outsAt_at m c t r j).trans ?_
  blk_ext [idx t]

end Cert.SbIdeal.Frm

end
-- ==== Proof.SbV.Claims.lean ====
/- The value claims about the stick-breaking attention call. -/
module

public import proofs.«01_k».proof.Defs
public import proofs.«01_k».proof.Proof.Gen.Sb
public import proofs.«01_k».proof.Proof.SbV.Value
public import proofs.«01_k».proof.Proof.Gen.SbRefIdeal.Run
public import Idealize.ShloMosaic.Lib.Claim
public import Idealize.ShloMosaic.Lib.Quiescent

@[expose] public section

noncomputable section

namespace Cert.Proof.StickBreaking

open Idealize.ShloMosaic Idealize.SL.Sem

/-- Every run of the idealized kernel ends with the reference's result in its result array and its arguments as they were. -/
theorem run_kernel (m : (ℓ : Loc Cert.SbIdeal.nD Cert.SbIdeal.τ Cert.SbIdeal.sig) → Buf (Elt Ideal) ℓ) (g : Dev Cert.SbIdeal.nD → PrngReg) :
    θ_run (Cert.SbIdeal.defs (F := Ideal)) (onTc (τ := Cert.SbIdeal.τ) (Cert.SbIdeal.main (F := Ideal))) ⟨m, fun _ => 0, g⟩ (fun r => ∀ c : Dev Cert.SbIdeal.nD,
      r.2.mem ((c.tc : Thread Cert.SbIdeal.nD Cert.SbIdeal.τ).loc Cert.SbIdeal.main_v9) = Cert.SbRefIdeal.Value.REF (Cert.SbIdeal.Frm.aX m c) (Cert.SbIdeal.Frm.aG m c)
      ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)) :=
  (θ_run _ _ _).mono (fun _ h c => ⟨((h.1 c).1 5).trans (Cert.SbIdeal.Frm.final m c), (h.2 c).1, (h.2 c).2⟩)
    (θ_run_and (Cert.SbIdeal.Frm.run_main m g) (Cert.SbIdeal.Frm.unchanged m g))

/-- Every run of the idealized reference ends with its result in its result array and its arguments as they were. -/
theorem run_reference (m : (ℓ : Loc Cert.SbRefIdeal.nD Cert.SbRefIdeal.τ Cert.SbRefIdeal.sig) → Buf (Elt Ideal) ℓ) (g : Dev Cert.SbRefIdeal.nD → PrngReg) :
    θ_run (Cert.SbRefIdeal.defs (F := Ideal)) (onTc (τ := Cert.SbRefIdeal.τ) (Cert.SbRefIdeal.main (F := Ideal))) ⟨m, fun _ => 0, g⟩ (fun r => ∀ c : Dev Cert.SbRefIdeal.nD,
      r.2.mem ((c.tc : Thread Cert.SbRefIdeal.nD Cert.SbRefIdeal.τ).loc Cert.SbRefIdeal.main_v43) = Cert.SbRefIdeal.Value.REF (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))
      ∧ r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)) :=
  (θ_run _ _ _).mono (fun _ h c => ⟨(h c).1.trans (Cert.SbRefIdeal.Value.res_eq m c), (h c).2⟩) (Cert.SbRefIdeal.Value.run m g)

/-- The idealized kernel and the idealized reference end with the same result. -/
theorem algebraic : Cert.algebraic_SbIdeal_SbRefIdeal := fun m g m' g' _ hagree =>
  ⟨fun c => Cert.SbRefIdeal.Value.REF (Cert.SbIdeal.Frm.aX m c) (Cert.SbIdeal.Frm.aG m c), run_kernel m g,
    (θ_run _ _ _).mono (fun _ h c => ⟨(h c).1.trans (congrArg₂ Cert.SbRefIdeal.Value.REF (hagree c).1 (hagree c).2), (h c).2⟩)
      (run_reference m' g')⟩

/-- The idealized reference leaves its arguments and every counter as they were. -/
theorem frame_reference : Cert.quiescent_SbRefIdeal := by
  exact fun m g _ => (θ_run _ _ _).mono (fun r h => ⟨fun c => (h c).2, sem_eq_zero_of_no_sems rfl r.2⟩) (run_reference m g)

/-- The underflow threshold is the only constant the idealized kernel renames. -/
theorem preserves : Cert.preserves_Sb_SbIdeal :=
  IdealRules.named_const.statement _ _ .f32 _ ⊥ rfl

end Cert.Proof.StickBreaking

end
-- ==== Proof.MlpV.Math.lean ====
/- The feed-forward sum over the extended reals: a hidden unit, and the sum over the units tile by tile. -/
module

public import Idealize.ShloMosaic.PureOps.Ideal
public import Idealize.ShloMosaic.Lib.Pointwise

@[expose] public section

noncomputable section

namespace MlpMath

open Idealize.ShloMosaic

/-- A hidden unit: the gate times its logistic, times the other product. -/
def hid {n : ℕ} (x wg wu : Fin n → EReal) : EReal :=
  (∑ d, x d * wg d) * Ideal.logistic (∑ d, x d * wg d) * ∑ d, x d * wu d

/-- A row scaled by the reciprocal root of its mean square (over 2048 entries, with the small constant added), times a gain. -/
def rms {n : ℕ} (a g : Fin n → EReal) (e : Fin n) : EReal :=
  a e * Ideal.rsqrt (Ideal.div (∑ x, a x * a x) (Ideal.ofBits .f32 0x45000000#32) + Ideal.ofBits .f32 0x358637BD#32) * g e

/-- A function of the units as one of natural numbers, zero past the last. -/
def ext {N : ℕ} (f : Fin N → EReal) (k : ℕ) : EReal := if h : k < N then f ⟨k, h⟩ else 0

theorem ext_of {N : ℕ} (f : Fin N → EReal) (k : ℕ) (h : k < N) : ext f k = f ⟨k, h⟩ := dif_pos h

/-- A sum over tiles of `b` is the sum over all. -/
theorem sum_tiles (b : ℕ) (f : ℕ → EReal) (n : ℕ) : ∑ s ∈ Finset.range n, ∑ j : Fin b, f (b * s + j.val) = ∑ k ∈ Finset.range (b * n), f k := by
  induction n with
  | zero => simp
  | succ n ih => rw [Finset.sum_range_succ, ih, Nat.mul_succ, Finset.sum_range_add, Fin.sum_univ_eq_sum_range (fun j => f (b * n + j))]

theorem sum_ext {N : ℕ} (f : Fin N → EReal) : ∑ k ∈ Finset.range N, ext f k = ∑ k, f k := by
  rw [← Fin.sum_univ_eq_sum_range]
  exact Finset.sum_congr rfl fun k _ => ext_of f k.val k.isLt

end MlpMath

end
-- ==== Proof.FfnLastV.Ref.lean ====
/- The reference of the last layer's feed-forward call, which ends in the final normalisation, read at an index. -/
module

public import proofs.«01_k».proof.Proof.Gen.FfnLastRefIdeal.Run
public import proofs.«01_k».proof.Proof.MlpV.Math
public import Idealize.ShloMosaic.Lib.Pointwise

@[expose] public section

set_option maxRecDepth 16384

noncomputable section

namespace Cert.FfnLastRefIdeal.Value

open Cert.FfnLastRefIdeal Cert.FfnLastRefIdeal.Gen Idealize.ShloMosaic Idealize.ShloMosaic.TcCoe Idealize.SL.Sem

section

variable (X : FVec Ideal S8192x2048 .bf16) (H : FVec Ideal S8192x2048 .f32) (A B : FVec Ideal S2048x5632 .bf16) (D : FVec Ideal S5632x2048 .bf16)

/-- The gates, before the logistic. -/
def GATE : FVec Ideal S8192x5632 .f32 :=
  Host.dotGeneral dot_S8192x2048_S2048x5632_S8192x5632_1_0_0_1_n_n none (extf .f32 X bitsLt_bf16_f32) (extf .f32 A bitsLt_bf16_f32)
/-- The hidden units. -/
def HID : FVec Ideal S8192x5632 .f32 :=
  mulf (mulf (GATE X A) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (GATE X A)))))) (GATE X B)
/-- The residual stream plus the feed-forward output. -/
def SUM : FVec Ideal S8192x2048 .f32 :=
  addf H (Host.dotGeneral dot_S8192x5632_S5632x2048_S8192x2048_1_0_0_1_n_n none (HID X A B) (extf .f32 D bitsLt_bf16_f32))

/-- The mean-square normalisation of an array's rows. -/
def NRM (V : FVec Ideal S8192x2048 .f32) (G : FVec Ideal S1x2048 .f32) : FVec Ideal S8192x2048 .f32 :=
  mulf (mulf V (broadcastInDim S8192x2048 ![0, 1] bcast_S8192x1_S8192x2048_0_1 (Host.rsqrt (addf (Host.divf (broadcastInDim S8192x1 ![0] bcast_S8192_S8192x1_0 (Host.reduceAdd (mulf V V) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048)))
/-- The reference's result: the normalised sum. -/
def REF (G : FVec Ideal S1x2048 .f32) : FVec Ideal S8192x2048 .f32 := NRM (SUM X H A B D) G

theorem REF_eq (G : FVec Ideal S1x2048 .f32) : REF X H A B D G = mulf (mulf (addf H (Host.dotGeneral dot_S8192x5632_S5632x2048_S8192x2048_1_0_0_1_n_n none (mulf (mulf (Host.dotGeneral dot_S8192x2048_S2048x5632_S8192x5632_1_0_0_1_n_n none (extf .f32 X bitsLt_bf16_f32) (extf .f32 A bitsLt_bf16_f32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 X bitsLt_bf16_f32) (extf .f32 A bitsLt_bf16_f32))))))) (Host.dotGeneral dot_S8192x2048_S2048x5632_S8192x5632_1_0_0_1_n_n none (extf .f32 X bitsLt_bf16_f32) (extf .f32 B bitsLt_bf16_f32))) (extf .f32 D bitsLt_bf16_f32))) (broadcastInDim S8192x2048 ![0, 1] bcast_S8192x1_S8192x2048_0_1 (Host.rsqrt (addf (Host.divf (broadcastInDim S8192x1 ![0] bcast_S8192_S8192x1_0 (Host.reduceAdd (mulf (addf H (Host.dotGeneral dot_S8192x5632_S5632x2048_S8192x2048_1_0_0_1_n_n none (mulf (mulf (Host.dotGeneral dot_S8192x2048_S2048x5632_S8192x5632_1_0_0_1_n_n none (extf .f32 X bitsLt_bf16_f32) (extf .f32 A bitsLt_bf16_f32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 X bitsLt_bf16_f32) (extf .f32 A bitsLt_bf16_f32))))))) (Host.dotGeneral dot_S8192x2048_S2048x5632_S8192x5632_1_0_0_1_n_n none (extf .f32 X bitsLt_bf16_f32) (extf .f32 B bitsLt_bf16_f32))) (extf .f32 D bitsLt_bf16_f32))) (addf H (Host.dotGeneral dot_S8192x5632_S5632x2048_S8192x2048_1_0_0_1_n_n none (mulf (mulf (Host.dotGeneral dot_S8192x2048_S2048x5632_S8192x5632_1_0_0_1_n_n none (extf .f32 X bitsLt_bf16_f32) (extf .f32 A bitsLt_bf16_f32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 X bitsLt_bf16_f32) (extf .f32 A bitsLt_bf16_f32))))))) (Host.dotGeneral dot_S8192x2048_S2048x5632_S8192x5632_1_0_0_1_n_n none (extf .f32 X bitsLt_bf16_f32) (extf .f32 B bitsLt_bf16_f32))) (extf .f32 D bitsLt_bf16_f32)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048))) := by
  unfold REF NRM SUM HID GATE; rfl

theorem GATE_at (i : Fin 8192) (k : Fin 5632) : GATE X A (ix2 i k) = ∑ d : Fin 2048, X (ix2 i d) * A (ix2 d k) := by
  pointwise [GATE]

theorem HID_at (i : Fin 8192) (k : Fin 5632) :
    HID X A B (ix2 i k) = MlpMath.hid (fun d => X (ix2 i d)) (fun d => A (ix2 d k)) (fun d => B (ix2 d k)) := by
  have e1 := GATE_at X A i k
  have e2 := GATE_at X B i k
  unfold HID
  pointwise [e1, e2]
  rfl

/-- The sum's entry: the residual plus the sum over the hidden units. -/
theorem SUM_at (i : Fin 8192) (c : Fin 2048) :
    SUM X H A B D (ix2 i c) = H (ix2 i c) + ∑ k : Fin 5632, MlpMath.hid (fun d => X (ix2 i d)) (fun d => A (ix2 d k)) (fun d => B (ix2 d k)) * D (ix2 k c) := by
  unfold SUM
  pointwise
  exact congrArg (H (ix2 i c) + ·) (Finset.sum_congr rfl fun k _ => by rw [HID_at])

theorem NRM_at (V : FVec Ideal S8192x2048 .f32) (G : FVec Ideal S1x2048 .f32) (r : Fin 8192) (e : Fin 2048) :
    NRM V G (ix2 r e) = MlpMath.rms (fun x => V (ix2 r x)) (fun x => G (ix2 0 x)) e := by
  pointwise [NRM]
  rfl

/-- The reference's entry. -/
theorem REF_at (G : FVec Ideal S1x2048 .f32) (i : Fin 8192) (c : Fin 2048) :
    REF X H A B D G (ix2 i c) = MlpMath.rms (fun x => H (ix2 i x) + ∑ k : Fin 5632, MlpMath.hid (fun d => X (ix2 i d)) (fun d => A (ix2 d k)) (fun d => B (ix2 d k)) * D (ix2 k x)) (fun x => G (ix2 0 x)) c := by
  unfold REF
  rw [NRM_at]
  simp only [SUM_at]

end

end Cert.FfnLastRefIdeal.Value

end
-- ==== Proof.FfnLastV.Value.lean ====
/- The feed-forward call's result array: every block of rows ends with the normalised sum of the residual and all hidden units. -/
module

public import proofs.«01_k».proof.Proof.FfnLastV.Ref
public import proofs.«01_k».proof.Proof.Gen.FfnLastIdeal.Value
public import Idealize.ShloMosaic.Lib.Pipeline.ValueKit

@[expose] public section

set_option maxRecDepth 16384

noncomputable section

namespace Cert.FfnLastIdeal.Value

open Cert.FfnLastIdeal Cert.FfnLastIdeal.Gen Idealize.ShloMosaic Idealize.ShloMosaic.TcCoe Idealize.SL.Sem

/-- One step of the kernel at an index: what was there plus the sum over the tile's hidden units. -/
theorem pay1_at (x : Vec Ideal S512x2048 .bf16) (a b : Vec Ideal S2048x512 .bf16) (o : Vec Ideal S512x2048 .f32) (d : Vec Ideal S512x2048 .bf16) (r : Fin 512) (c : Fin 2048) :
    k0_pay1 x a b o d (ix2 r c) = o (ix2 r c) + ∑ j : Fin 512, MlpMath.hid (fun e => x (ix2 r e)) (fun e => a (ix2 e j)) (fun e => b (ix2 e j)) * d (ix2 j c) := by
  pointwise [k0_pay1]
  rfl

theorem pay2_at (v : Vec Ideal S512x2048 .f32) (g : Vec Ideal S1x2048 .f32) (r : Fin 512) (e : Fin 2048) :
    k0_pay2 v g (ix2 r e) = MlpMath.rms (fun x => v (ix2 r x)) (fun x => g (ix2 0 x)) e := by
  pointwise [k0_pay2]
  rfl

variable (m : (ℓ : Loc nD τ sig) → Buf (Elt Ideal) ℓ)

/-- The windows' block indices at every point. -/
theorem idx : ∀ t : Fin cfg0.N, win0_0.index t = ![t.val / 11, 0] ∧ win0_1.index t = ![t.val / 11, 0]
    ∧ win0_2.index t = ![0, t.val % 11] ∧ win0_3.index t = ![0, t.val % 11] ∧ win0_4.index t = ![t.val % 11, 0] ∧ win0_5.index t = ![0, 0] :=
  (by decide +kernel : ∀ t : Fin grid0.N, _)

section

variable (c : Dev nD)

/-- The argument arrays, as the reference types them. -/
abbrev aX : FVec Ideal Cert.FfnLastRefIdeal.S8192x2048 .bf16 := m ((c.tc : Thread nD τ).loc main_arg0)
abbrev aH : FVec Ideal Cert.FfnLastRefIdeal.S8192x2048 .f32 := m ((c.tc : Thread nD τ).loc main_arg1)
abbrev aA : FVec Ideal Cert.FfnLastRefIdeal.S2048x5632 .bf16 := m ((c.tc : Thread nD τ).loc main_arg2)
abbrev aB : FVec Ideal Cert.FfnLastRefIdeal.S2048x5632 .bf16 := m ((c.tc : Thread nD τ).loc main_arg3)
abbrev aD : FVec Ideal Cert.FfnLastRefIdeal.S5632x2048 .bf16 := m ((c.tc : Thread nD τ).loc main_arg4)

abbrev aG : FVec Ideal Cert.FfnLastRefIdeal.S1x2048 .f32 := m ((c.tc : Thread nD τ).loc main_arg5)

variable (t : Fin cfg0.N)

theorem row_lt (t : Fin cfg0.N) : t.val / 11 < 16 := by
  have h : t.val < 176 := lt_of_lt_of_eq t.isLt N_0
  omega

theorem blk0 (r : Fin 512) (e : Fin 2048) : iblk m c 0 t (ix2 r e) = aX m c (ix2 ⟨512 * (t.val / 11) + r.val, by have := row_lt t; omega⟩ e) := by
  have := row_lt t
  blk_point [iblk, V_main_arg0, idx t]
theorem blk1 (r : Fin 512) (e : Fin 2048) : iblk m c 1 t (ix2 r e) = aH m c (ix2 ⟨512 * (t.val / 11) + r.val, by have := row_lt t; omega⟩ e) := by
  have := row_lt t
  blk_point [iblk, V_main_arg1, idx t]
theorem blk2 (e : Fin 2048) (j : Fin 512) : iblk m c 2 t (ix2 e j) = aA m c (ix2 e ⟨512 * (t.val % 11) + j.val, by omega⟩) := by
  blk_point [iblk, V_main_arg2, idx t]
theorem blk3 (e : Fin 2048) (j : Fin 512) : iblk m c 3 t (ix2 e j) = aB m c (ix2 e ⟨512 * (t.val % 11) + j.val, by omega⟩) := by
  blk_point [iblk, V_main_arg3, idx t]
theorem blk4 (j : Fin 512) (e : Fin 2048) : iblk m c 4 t (ix2 j e) = aD m c (ix2 ⟨512 * (t.val % 11) + j.val, by omega⟩ e) := by
  blk_point [iblk, V_main_arg4, idx t]

theorem blk5 (z : Fin 1) (e : Fin 2048) : iblk m c 5 t (ix2 z e) = aG m c (ix2 z e) := by
  blk_point [iblk, V_main_arg5, idx t]

/-- What a hidden unit adds to the result's entry. -/
def unit (i : Fin 8192) (e : Fin 2048) (k : Fin 5632) : EReal :=
  MlpMath.hid (fun d => aX m c (ix2 i d)) (fun d => aA m c (ix2 d k)) (fun d => aB m c (ix2 d k)) * aD m c (ix2 k e)

/-- What a point adds to the block: its tile's hidden units. -/
def tile (n : ℕ) (r : Fin 512) (e : Fin 2048) : EReal :=
  if h : n / 11 < 16 then ∑ j : Fin 512, MlpMath.ext (unit m c ⟨512 * (n / 11) + r.val, by omega⟩ e) (512 * (n % 11) + j.val) else 0

theorem step_at (o : Vec Ideal S512x2048 .f32) (r : Fin 512) (e : Fin 2048) :
    k0_pay1 (iblk m c 0 t) (iblk m c 2 t) (iblk m c 3 t) o (iblk m c 4 t) (ix2 r e) = o (ix2 r e) + tile m c t.val r e := by
  rw [pay1_at]
  unfold tile
  rw [dif_pos (row_lt t)]
  refine congrArg (o (ix2 r e) + ·) (Finset.sum_congr rfl fun j _ => ?_)
  rw [MlpMath.ext_of _ _ (by omega)]
  unfold unit
  rw [blk4]
  simp only [blk0, blk2, blk3]

/-- A run's tiles together are all the hidden units. -/
theorem tiles (q : ℕ) (hq : q < 16) (r : Fin 512) (e : Fin 2048) :
    ∑ s ∈ Finset.range 11, tile m c (11 * q + s) r e = ∑ k : Fin 5632, unit m c ⟨512 * q + r.val, by omega⟩ e k := by
  rw [← MlpMath.sum_ext]
  refine Eq.trans ?_ (MlpMath.sum_tiles 512 (MlpMath.ext (unit m c ⟨512 * q + r.val, by omega⟩ e)) 11)
  refine Finset.sum_congr rfl fun s hs => ?_
  have hs' : s < 11 := Finset.mem_range.mp hs
  have e1 : (11 * q + s) / 11 = q := by omega
  have e2 : (11 * q + s) % 11 = s := by omega
  unfold tile
  rw [dif_pos (by omega)]
  simp only [e1, e2]

theorem reset_at (q : ℕ) (hq : q < 16) (h : 11 * q < cfg0.N) (r : Fin 512) (e : Fin 2048) :
    reset6 m c (11 * q) h (ix2 r e) = aH m c (ix2 ⟨512 * q + r.val, by omega⟩ e) + tile m c (11 * q) r e := by
  refine (step_at m c ⟨11 * q, h⟩ _ r e).trans (congrArg (· + tile m c (11 * q) r e) ?_)
  rw [blk1]
  refine congrArg (aH m c) (congrArg (ix2 · e) (Fin.ext ?_))
  show 512 * (11 * q / 11) + r.val = 512 * q + r.val
  omega

theorem step6_at (n : ℕ) (h : n < cfg0.N) (h0 : n % 11 ≠ 0) (hl : n % 11 ≠ 10) (acc : Vec Ideal S512x2048 .f32) (r : Fin 512) (e : Fin 2048) :
    step6 m c n h acc (ix2 r e) = acc (ix2 r e) + tile m c n r e := by
  unfold step6
  rw [if_pos ⟨h0, hl⟩]
  exact step_at m c ⟨n, h⟩ acc r e

theorem step6_last (n : ℕ) (h : n < cfg0.N) (hl : n % 11 = 10) (acc : Vec Ideal S512x2048 .f32) (r : Fin 512) (e : Fin 2048) :
    step6 m c n h acc (ix2 r e) = MlpMath.rms (fun x => acc (ix2 r x) + tile m c n r x) (fun x => aG m c (ix2 0 x)) e := by
  unfold step6
  rw [if_neg (fun hh => hh.2 hl), if_pos ⟨by omega, hl⟩, pay2_at]
  refine congrArg₂ (fun a g => MlpMath.rms a g e) (funext fun x => step_at m c ⟨n, h⟩ acc r x) (funext fun x => blk5 m c ⟨n, h⟩ 0 x)

/-- What the buffer holds after a point of a run. -/
theorem fold_upto (q : ℕ) (hq : q < 16) (r : Fin 512) (e : Fin 2048) (j : ℕ) (hj : j ≤ 9) (h : 11 * q + j < cfg0.N) :
    Pipeline.accAt (reset6 m c) (step6 m c) (11 * q) j h (ix2 r e)
      = aH m c (ix2 ⟨512 * q + r.val, by omega⟩ e) + ∑ s ∈ Finset.range (j + 1), tile m c (11 * q + s) r e := by
  induction j with
  | zero => rw [Pipeline.accAt_zero, Finset.sum_range_one]; exact reset_at m c q hq h r e
  | succ j ih =>
    rw [Pipeline.accAt_succ]
    refine Eq.trans (step6_at m c (11 * q + (j + 1)) h (by omega) (by omega) _ r e : _ = Pipeline.accAt (reset6 m c) (step6 m c) (11 * q) j (Nat.lt_of_succ_lt h) (ix2 r e) + tile m c (11 * q + (j + 1)) r e) ?_
    rw [ih (by omega) _, Finset.sum_range_succ _ (j + 1)]
    exact add_assoc _ _ _

/-- What the buffer holds after the run's last point. -/
theorem fold (q : ℕ) (hq : q < 16) (h : 11 * q + 10 < cfg0.N) (r : Fin 512) (e : Fin 2048) :
    Pipeline.accAt (reset6 m c) (step6 m c) (11 * q) 10 h (ix2 r e)
      = MlpMath.rms (fun x => aH m c (ix2 ⟨512 * q + r.val, by omega⟩ x) + ∑ k : Fin 5632, unit m c ⟨512 * q + r.val, by omega⟩ x k) (fun x => aG m c (ix2 0 x)) e := by
  refine (step6_last m c (11 * q + 10) h (by omega) (Pipeline.accAt (reset6 m c) (step6 m c) (11 * q) 9 (by omega)) r e).trans ?_
  refine congrArg (fun a => MlpMath.rms a (fun x => aG m c (ix2 0 x)) e) (funext fun x => ?_)
  rw [fold_upto m c q hq r x 9 le_rfl _, ← tiles m c q hq, Finset.sum_range_succ _ 10]
  exact add_assoc _ _ _

/-- The result array after the run is the reference's result. -/
theorem final : G6 m c = Cert.FfnLastRefIdeal.Value.REF (aX m c) (aH m c) (aA m c) (aB m c) (aD m c) (aG m c) := by
  funext i
  obtain ⟨r, e, rfl⟩ : ∃ (r : Fin 8192) (e : Fin 2048), i = ix2 r e := ⟨i 0, i 1, by ext a; fin_cases a <;> rfl⟩
  have hr : r.val < 8192 := r.isLt
  have he : e.val < 2048 := e.isLt
  have hq : run6Of (ix2 r e) = r.val / 512 := by
    show 1 * (r.val / 512 - 0) + 1 * (e.val / 2048 - 0) = _
    omega
  have hl : loc6Of (ix2 r e) = ix2 ⟨r.val % 512, by omega⟩ e := by
    ext a; fin_cases a
    · rfl
    · exact Nat.mod_eq_of_lt he
  have hN : 11 * run6Of (ix2 r e) + 10 < cfg0.N := lt_of_lt_of_eq (by omega : 11 * run6Of (ix2 r e) + 10 < 176) N_0.symm
  unfold G6
  rw [dif_pos hN, hl]
  rw [Cert.FfnLastRefIdeal.Value.REF_at]
  refine (fold m c _ (by omega) hN _ _).trans ?_
  have er : (⟨512 * run6Of (ix2 r e) + r.val % 512, by omega⟩ : Fin 8192) = r := Fin.ext (by show 512 * run6Of (ix2 r e) + r.val % 512 = r.val; omega)
  show MlpMath.rms (fun x => aH m c (ix2 ⟨512 * run6Of (ix2 r e) + r.val % 512, _⟩ x) + ∑ k : Fin 5632, unit m c ⟨512 * run6Of (ix2 r e) + r.val % 512, _⟩ x k) _ e = _
  rw [er]
  rfl

end

end Cert.FfnLastIdeal.Value

end
-- ==== Proof.FfnLastV.Claims.lean ====
/- The value claims about the last layer's feed-forward call. -/
module

public import proofs.«01_k».proof.Defs
public import proofs.«01_k».proof.Proof.Gen.FfnLast
public import proofs.«01_k».proof.Proof.FfnLastV.Value
public import proofs.«01_k».proof.Proof.Gen.FfnLastRefIdeal.Run
public import Idealize.ShloMosaic.Lib.Claim
public import Idealize.ShloMosaic.Lib.Quiescent

@[expose] public section

noncomputable section

namespace Cert.Proof.FfnLast

open Idealize.ShloMosaic Idealize.SL.Sem

/-- Every run of the idealized kernel ends with the reference's result and its arguments as they were. -/
theorem run_kernel (m : (ℓ : Loc Cert.FfnLastIdeal.nD Cert.FfnLastIdeal.τ Cert.FfnLastIdeal.sig) → Buf (Elt Ideal) ℓ) (g : Dev Cert.FfnLastIdeal.nD → PrngReg) :
    θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
      r.2.mem ((c.tc : Thread Cert.FfnLastIdeal.nD Cert.FfnLastIdeal.τ).loc Cert.FfnLastIdeal.main_v0) = Cert.FfnLastRefIdeal.Value.REF (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))
      ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)) :=
  (θ_run _ _ _).mono (fun r h c => ⟨((h c).1).trans (Cert.FfnLastIdeal.Value.final m c), (h c).2⟩) (Cert.FfnLastIdeal.Value.run m g)

/-- Every run of the idealized reference ends with its result and its arguments as they were. -/
theorem run_reference (m : (ℓ : Loc Cert.FfnLastRefIdeal.nD Cert.FfnLastRefIdeal.τ Cert.FfnLastRefIdeal.sig) → Buf (Elt Ideal) ℓ) (g : Dev Cert.FfnLastRefIdeal.nD → PrngReg) :
    θ_run (Cert.FfnLastRefIdeal.defs (F := Ideal)) (onTc (τ := Cert.FfnLastRefIdeal.τ) (Cert.FfnLastRefIdeal.main (F := Ideal))) ⟨m, fun _ => 0, g⟩ (fun r => ∀ c : Dev Cert.FfnLastRefIdeal.nD,
      r.2.mem ((c.tc : Thread Cert.FfnLastRefIdeal.nD Cert.FfnLastRefIdeal.τ).loc Cert.FfnLastRefIdeal.main_v23) = Cert.FfnLastRefIdeal.Value.REF (m ((c.tc : Thread Cert.FfnLastRefIdeal.nD Cert.FfnLastRefIdeal.τ).loc Cert.FfnLastRefIdeal.main_arg0)) (m ((c.tc : Thread Cert.FfnLastRefIdeal.nD Cert.FfnLastRefIdeal.τ).loc Cert.FfnLastRefIdeal.main_arg1)) (m ((c.tc : Thread Cert.FfnLastRefIdeal.nD Cert.FfnLastRefIdeal.τ).loc Cert.FfnLastRefIdeal.main_arg2)) (m ((c.tc : Thread Cert.FfnLastRefIdeal.nD Cert.FfnLastRefIdeal.τ).loc Cert.FfnLastRefIdeal.main_arg3)) (m ((c.tc : Thread Cert.FfnLastRefIdeal.nD Cert.FfnLastRefIdeal.τ).loc Cert.FfnLastRefIdeal.main_arg4)) (m ((c.tc : Thread Cert.FfnLastRefIdeal.nD Cert.FfnLastRefIdeal.τ).loc Cert.FfnLastRefIdeal.main_arg5))
      ∧ r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)) :=
  (θ_run _ _ _).mono (fun r h c => ⟨((h c).1).trans (Eq.symm (Cert.FfnLastRefIdeal.Value.REF_eq _ _ _ _ _ _)), (h c).2⟩) (Cert.FfnLastRefIdeal.Value.run m g)

/-- The idealized kernel and the idealized reference end with the same result. -/
theorem algebraic : Cert.algebraic_FfnLastIdeal_FfnLastRefIdeal := fun m g m' g' _ hagree =>
  ⟨fun c => Cert.FfnLastRefIdeal.Value.REF (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5)), run_kernel m g,
    (θ_run _ _ _).mono (fun r h c => ⟨((h c).1).trans (by rw [(hagree c).1, (hagree c).2.1, (hagree c).2.2.1, (hagree c).2.2.2.1, (hagree c).2.2.2.2.1, (hagree c).2.2.2.2.2]), (h c).2⟩) (run_reference m' g')⟩

/-- The idealized reference leaves its arguments and every counter as they were. -/
theorem frame_reference : Cert.quiescent_FfnLastRefIdeal := by
  exact fun m g _ => (θ_run _ _ _).mono (fun r h => ⟨fun c => (h c).2, sem_eq_zero_of_no_sems rfl r.2⟩) (run_reference m g)

/-- The idealized kernel is the kernel's own text. -/
theorem preserves : Cert.preserves_FfnLast_FfnLastIdeal := trivial

end Cert.Proof.FfnLast

end
-- ==== Proof.FfnV.Ref.lean ====
/- The reference of the feed-forward call read at an index. -/
module

public import proofs.«01_k».proof.Proof.Gen.FfnRefIdeal.Run
public import proofs.«01_k».proof.Proof.MlpV.Math
public import Idealize.ShloMosaic.Lib.Pointwise

@[expose] public section

set_option maxRecDepth 16384

noncomputable section

namespace Cert.FfnRefIdeal.Value

open Cert.FfnRefIdeal Cert.FfnRefIdeal.Gen Idealize.ShloMosaic Idealize.ShloMosaic.TcCoe Idealize.SL.Sem

section

variable (X : FVec Ideal S8192x2048 .bf16) (H : FVec Ideal S8192x2048 .f32) (A B : FVec Ideal S2048x5632 .bf16) (D : FVec Ideal S5632x2048 .bf16)

/-- The gates, before the logistic. -/
def GATE : FVec Ideal S8192x5632 .f32 :=
  Host.dotGeneral dot_S8192x2048_S2048x5632_S8192x5632_1_0_0_1_n_n none (extf .f32 X bitsLt_bf16_f32) (extf .f32 A bitsLt_bf16_f32)
/-- The hidden units. -/
def HID : FVec Ideal S8192x5632 .f32 :=
  mulf (mulf (GATE X A) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (GATE X A)))))) (GATE X B)
/-- The residual stream plus the feed-forward output. -/
def REF : FVec Ideal S8192x2048 .f32 :=
  addf H (Host.dotGeneral dot_S8192x5632_S5632x2048_S8192x2048_1_0_0_1_n_n none (HID X A B) (extf .f32 D bitsLt_bf16_f32))

theorem REF_eq : REF X H A B D = addf H (Host.dotGeneral dot_S8192x5632_S5632x2048_S8192x2048_1_0_0_1_n_n none (mulf (mulf (Host.dotGeneral dot_S8192x2048_S2048x5632_S8192x5632_1_0_0_1_n_n none (extf .f32 X bitsLt_bf16_f32) (extf .f32 A bitsLt_bf16_f32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 X bitsLt_bf16_f32) (extf .f32 A bitsLt_bf16_f32))))))) (Host.dotGeneral dot_S8192x2048_S2048x5632_S8192x5632_1_0_0_1_n_n none (extf .f32 X bitsLt_bf16_f32) (extf .f32 B bitsLt_bf16_f32))) (extf .f32 D bitsLt_bf16_f32)) := by
  unfold REF HID GATE; rfl

theorem GATE_at (i : Fin 8192) (k : Fin 5632) : GATE X A (ix2 i k) = ∑ d : Fin 2048, X (ix2 i d) * A (ix2 d k) := by
  pointwise [GATE]

theorem HID_at (i : Fin 8192) (k : Fin 5632) :
    HID X A B (ix2 i k) = MlpMath.hid (fun d => X (ix2 i d)) (fun d => A (ix2 d k)) (fun d => B (ix2 d k)) := by
  have e1 := GATE_at X A i k
  have e2 := GATE_at X B i k
  unfold HID
  pointwise [e1, e2]
  rfl

/-- The reference's entry: the residual plus the sum over the hidden units. -/
theorem REF_at (i : Fin 8192) (c : Fin 2048) :
    REF X H A B D (ix2 i c) = H (ix2 i c) + ∑ k : Fin 5632, MlpMath.hid (fun d => X (ix2 i d)) (fun d => A (ix2 d k)) (fun d => B (ix2 d k)) * D (ix2 k c) := by
  unfold REF
  pointwise
  exact congrArg (H (ix2 i c) + ·) (Finset.sum_congr rfl fun k _ => by rw [HID_at])

end

end Cert.FfnRefIdeal.Value

end
-- ==== Proof.FfnV.Value.lean ====
/- The feed-forward call's result array: every block of rows ends with the residual plus the sum over all hidden units. -/
module

public import proofs.«01_k».proof.Proof.FfnV.Ref
public import proofs.«01_k».proof.Proof.Gen.FfnIdeal.Value
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem

/-- One step of the kernel at an index: what was there plus the sum over the tile's hidden units. -/
theorem pay1_at (x : Vec Ideal S512x2048 .bf16) (a b : Vec Ideal S2048x512 .bf16) (o : Vec Ideal S512x2048 .f32) (d : Vec Ideal S512x2048 .bf16) (r : Fin 512) (c : Fin 2048) :
    k0_pay1 x a b o d (ix2 r c) = o (ix2 r c) + ∑ j : Fin 512, MlpMath.hid (fun e => x (ix2 r e)) (fun e => a (ix2 e j)) (fun e => b (ix2 e j)) * d (ix2 j c) := by
  pointwise [k0_pay1]
  rfl

variable (m : (ℓ : Loc nD τ sig) → Buf (Elt Ideal) ℓ)

/-- The windows' block indices at every point. -/
theorem idx : ∀ t : Fin cfg0.N, win0_0.index t = ![t.val / 11, 0] ∧ win0_1.index t = ![t.val / 11, 0]
    ∧ win0_2.index t = ![0, t.val % 11] ∧ win0_3.index t = ![0, t.val % 11] ∧ win0_4.index t = ![t.val % 11, 0] ∧ win0_5.index t = ![0, 0] :=
  (by decide +kernel : ∀ t : Fin grid0.N, _)

section

variable (c : Dev nD)

/-- The argument arrays, as the reference types them. -/
abbrev aX : FVec Ideal Cert.FfnRefIdeal.S8192x2048 .bf16 := m ((c.tc : Thread nD τ).loc main_arg0)
abbrev aH : FVec Ideal Cert.FfnRefIdeal.S8192x2048 .f32 := m ((c.tc : Thread nD τ).loc main_arg1)
abbrev aA : FVec Ideal Cert.FfnRefIdeal.S2048x5632 .bf16 := m ((c.tc : Thread nD τ).loc main_arg2)
abbrev aB : FVec Ideal Cert.FfnRefIdeal.S2048x5632 .bf16 := m ((c.tc : Thread nD τ).loc main_arg3)
abbrev aD : FVec Ideal Cert.FfnRefIdeal.S5632x2048 .bf16 := m ((c.tc : Thread nD τ).loc main_arg4)

variable (t : Fin cfg0.N)

theorem row_lt (t : Fin cfg0.N) : t.val / 11 < 16 := by
  have h : t.val < 176 := lt_of_lt_of_eq t.isLt N_0
  omega

theorem blk0 (r : Fin 512) (e : Fin 2048) : iblk m c 0 t (ix2 r e) = aX m c (ix2 ⟨512 * (t.val / 11) + r.val, by have := row_lt t; omega⟩ e) := by
  have := row_lt t
  blk_point [iblk, V_main_arg0, idx t]
theorem blk1 (r : Fin 512) (e : Fin 2048) : iblk m c 1 t (ix2 r e) = aH m c (ix2 ⟨512 * (t.val / 11) + r.val, by have := row_lt t; omega⟩ e) := by
  have := row_lt t
  blk_point [iblk, V_main_arg1, idx t]
theorem blk2 (e : Fin 2048) (j : Fin 512) : iblk m c 2 t (ix2 e j) = aA m c (ix2 e ⟨512 * (t.val % 11) + j.val, by omega⟩) := by
  blk_point [iblk, V_main_arg2, idx t]
theorem blk3 (e : Fin 2048) (j : Fin 512) : iblk m c 3 t (ix2 e j) = aB m c (ix2 e ⟨512 * (t.val % 11) + j.val, by omega⟩) := by
  blk_point [iblk, V_main_arg3, idx t]
theorem blk4 (j : Fin 512) (e : Fin 2048) : iblk m c 4 t (ix2 j e) = aD m c (ix2 ⟨512 * (t.val % 11) + j.val, by omega⟩ e) := by
  blk_point [iblk, V_main_arg4, idx t]

/-- What a hidden unit adds to the result's entry. -/
def unit (i : Fin 8192) (e : Fin 2048) (k : Fin 5632) : EReal :=
  MlpMath.hid (fun d => aX m c (ix2 i d)) (fun d => aA m c (ix2 d k)) (fun d => aB m c (ix2 d k)) * aD m c (ix2 k e)

/-- What a point adds to the block: its tile's hidden units. -/
def tile (n : ℕ) (r : Fin 512) (e : Fin 2048) : EReal :=
  if h : n / 11 < 16 then ∑ j : Fin 512, MlpMath.ext (unit m c ⟨512 * (n / 11) + r.val, by omega⟩ e) (512 * (n % 11) + j.val) else 0

theorem step_at (o : Vec Ideal S512x2048 .f32) (r : Fin 512) (e : Fin 2048) :
    k0_pay1 (iblk m c 0 t) (iblk m c 2 t) (iblk m c 3 t) o (iblk m c 4 t) (ix2 r e) = o (ix2 r e) + tile m c t.val r e := by
  rw [pay1_at]
  unfold tile
  rw [dif_pos (row_lt t)]
  refine congrArg (o (ix2 r e) + ·) (Finset.sum_congr rfl fun j _ => ?_)
  rw [MlpMath.ext_of _ _ (by omega)]
  unfold unit
  rw [blk4]
  simp only [blk0, blk2, blk3]

/-- A run's tiles together are all the hidden units. -/
theorem tiles (q : ℕ) (hq : q < 16) (r : Fin 512) (e : Fin 2048) :
    ∑ s ∈ Finset.range 11, tile m c (11 * q + s) r e = ∑ k : Fin 5632, unit m c ⟨512 * q + r.val, by omega⟩ e k := by
  rw [← MlpMath.sum_ext]
  refine Eq.trans ?_ (MlpMath.sum_tiles 512 (MlpMath.ext (unit m c ⟨512 * q + r.val, by omega⟩ e)) 11)
  refine Finset.sum_congr rfl fun s hs => ?_
  have hs' : s < 11 := Finset.mem_range.mp hs
  have e1 : (11 * q + s) / 11 = q := by omega
  have e2 : (11 * q + s) % 11 = s := by omega
  unfold tile
  rw [dif_pos (by omega)]
  simp only [e1, e2]

theorem reset_at (q : ℕ) (hq : q < 16) (h : 11 * q < cfg0.N) (r : Fin 512) (e : Fin 2048) :
    reset6 m c (11 * q) h (ix2 r e) = aH m c (ix2 ⟨512 * q + r.val, by omega⟩ e) + tile m c (11 * q) r e := by
  refine (step_at m c ⟨11 * q, h⟩ _ r e).trans (congrArg (· + tile m c (11 * q) r e) ?_)
  rw [blk1]
  refine congrArg (aH m c) (congrArg (ix2 · e) (Fin.ext ?_))
  show 512 * (11 * q / 11) + r.val = 512 * q + r.val
  omega

/-- What the buffer holds after a point of a run. -/
theorem fold_upto (q : ℕ) (hq : q < 16) (r : Fin 512) (e : Fin 2048) (j : ℕ) (hj : j ≤ 10) (h : 11 * q + j < cfg0.N) :
    Pipeline.accAt (reset6 m c) (step6 m c) (11 * q) j h (ix2 r e)
      = aH m c (ix2 ⟨512 * q + r.val, by omega⟩ e) + ∑ s ∈ Finset.range (j + 1), tile m c (11 * q + s) r e := by
  induction j with
  | zero => rw [Pipeline.accAt_zero, Finset.sum_range_one]; exact reset_at m c q hq h r e
  | succ j ih =>
    rw [Pipeline.accAt_succ]
    refine Eq.trans (step_at m c ⟨11 * q + (j + 1), h⟩ _ r e : _ = Pipeline.accAt (reset6 m c) (step6 m c) (11 * q) j (Nat.lt_of_succ_lt h) (ix2 r e) + tile m c (11 * q + (j + 1)) r e) ?_
    rw [ih (by omega) _, Finset.sum_range_succ _ (j + 1)]
    exact add_assoc _ _ _

/-- What the buffer holds after the run's last point. -/
theorem fold (q : ℕ) (hq : q < 16) (h : 11 * q + 10 < cfg0.N) (r : Fin 512) (e : Fin 2048) :
    Pipeline.accAt (reset6 m c) (step6 m c) (11 * q) 10 h (ix2 r e)
      = aH m c (ix2 ⟨512 * q + r.val, by omega⟩ e) + ∑ k : Fin 5632, unit m c ⟨512 * q + r.val, by omega⟩ e k := by
  rw [fold_upto m c q hq r e 10 le_rfl h, tiles m c q hq]

/-- The result array after the run is the reference's result. -/
theorem final : G6 m c = Cert.FfnRefIdeal.Value.REF (aX m c) (aH m c) (aA m c) (aB m c) (aD m c) := by
  funext i
  obtain ⟨r, e, rfl⟩ : ∃ (r : Fin 8192) (e : Fin 2048), i = ix2 r e := ⟨i 0, i 1, by ext a; fin_cases a <;> rfl⟩
  have hr : r.val < 8192 := r.isLt
  have he : e.val < 2048 := e.isLt
  have hq : run6Of (ix2 r e) = r.val / 512 := by
    show 1 * (r.val / 512 - 0) + 1 * (e.val / 2048 - 0) = _
    omega
  have hl : loc6Of (ix2 r e) = ix2 ⟨r.val % 512, by omega⟩ e := by
    ext a; fin_cases a
    · rfl
    · exact Nat.mod_eq_of_lt he
  have hN : 11 * run6Of (ix2 r e) + 10 < cfg0.N := lt_of_lt_of_eq (by omega : 11 * run6Of (ix2 r e) + 10 < 176) N_0.symm
  unfold G6
  rw [dif_pos hN, hl]
  rw [Cert.FfnRefIdeal.Value.REF_at]
  refine (fold m c _ (by omega) hN _ _).trans ?_
  have er : (⟨512 * run6Of (ix2 r e) + r.val % 512, by omega⟩ : Fin 8192) = r := Fin.ext (by show 512 * run6Of (ix2 r e) + r.val % 512 = r.val; omega)
  show aH m c (ix2 ⟨512 * run6Of (ix2 r e) + r.val % 512, _⟩ e) + ∑ k : Fin 5632, unit m c ⟨512 * run6Of (ix2 r e) + r.val % 512, _⟩ e k = _
  rw [er]
  rfl

end

end Cert.FfnIdeal.Value

end
-- ==== Proof.FfnV.Claims.lean ====
/- The value claims about the feed-forward call of the layers but the last. -/
module

public import proofs.«01_k».proof.Defs
public import proofs.«01_k».proof.Proof.Gen.Ffn
public import proofs.«01_k».proof.Proof.FfnV.Value
public import proofs.«01_k».proof.Proof.Gen.FfnRefIdeal.Run
public import Idealize.ShloMosaic.Lib.Claim
public import Idealize.ShloMosaic.Lib.Quiescent

@[expose] public section

noncomputable section

namespace Cert.Proof.Ffn

open Idealize.ShloMosaic Idealize.SL.Sem

/-- Every run of the idealized kernel ends with the reference's result and its arguments as they were. -/
theorem run_kernel (m : (ℓ : Loc Cert.FfnIdeal.nD Cert.FfnIdeal.τ Cert.FfnIdeal.sig) → Buf (Elt Ideal) ℓ) (g : Dev Cert.FfnIdeal.nD → PrngReg) :
    θ_run (Cert.FfnIdeal.defs (F := Ideal)) (onTc (τ := Cert.FfnIdeal.τ) (Cert.FfnIdeal.main (F := Ideal))) ⟨m, fun _ => 0, g⟩ (fun r => ∀ c : Dev Cert.FfnIdeal.nD,
      r.2.mem ((c.tc : Thread Cert.FfnIdeal.nD Cert.FfnIdeal.τ).loc Cert.FfnIdeal.main_v0) = Cert.FfnRefIdeal.Value.REF (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))
      ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)) :=
  (θ_run _ _ _).mono (fun r h c => ⟨((h c).1).trans (Cert.FfnIdeal.Value.final m c), (h c).2⟩) (Cert.FfnIdeal.Value.run m g)

/-- Every run of the idealized reference ends with its result and its arguments as they were. -/
theorem run_reference (m : (ℓ : Loc Cert.FfnRefIdeal.nD Cert.FfnRefIdeal.τ Cert.FfnRefIdeal.sig) → Buf (Elt Ideal) ℓ) (g : Dev Cert.FfnRefIdeal.nD → PrngReg) :
    θ_run (Cert.FfnRefIdeal.defs (F := Ideal)) (onTc (τ := Cert.FfnRefIdeal.τ) (Cert.FfnRefIdeal.main (F := Ideal))) ⟨m, fun _ => 0, g⟩ (fun r => ∀ c : Dev Cert.FfnRefIdeal.nD,
      r.2.mem ((c.tc : Thread Cert.FfnRefIdeal.nD Cert.FfnRefIdeal.τ).loc Cert.FfnRefIdeal.main_v9) = Cert.FfnRefIdeal.Value.REF (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))
      ∧ r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)) :=
  (θ_run _ _ _).mono (fun r h c => ⟨((h c).1).trans (Eq.symm (Cert.FfnRefIdeal.Value.REF_eq _ _ _ _ _)), (h c).2⟩) (Cert.FfnRefIdeal.Value.run m g)

/-- The idealized kernel and the idealized reference end with the same result. -/
theorem algebraic : Cert.algebraic_FfnIdeal_FfnRefIdeal := fun m g m' g' _ hagree =>
  ⟨fun c => Cert.FfnRefIdeal.Value.REF (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)), run_kernel m g,
    (θ_run _ _ _).mono (fun r h c => ⟨((h c).1).trans (by rw [(hagree c).1, (hagree c).2.1, (hagree c).2.2.1, (hagree c).2.2.2.1, (hagree c).2.2.2.2.1]), (h c).2⟩) (run_reference m' g')⟩

/-- The idealized reference leaves its arguments and every counter as they were. -/
theorem frame_reference : Cert.quiescent_FfnRefIdeal := by
  exact fun m g _ => (θ_run _ _ _).mono (fun r h => ⟨fun c => (h c).2, sem_eq_zero_of_no_sems rfl r.2⟩) (run_reference m g)

/-- The idealized kernel is the kernel's own text. -/
theorem preserves : Cert.preserves_Ffn_FfnIdeal := trivial

end Cert.Proof.Ffn

end
-- ==== Proof.OutProjV.Ref.lean ====
/- The reference of the output projection's call read at an index. -/
module

public import proofs.«01_k».proof.Proof.Gen.OutProjRefIdeal.Run
public import proofs.«01_k».proof.Proof.MlpV.Math
public import Idealize.ShloMosaic.Lib.Pointwise

@[expose] public section

set_option maxRecDepth 16384

noncomputable section

namespace Cert.OutProjRefIdeal.Value

open Cert.OutProjRefIdeal Cert.OutProjRefIdeal.Gen Idealize.ShloMosaic Idealize.ShloMosaic.TcCoe Idealize.SL.Sem

section

variable (H : FVec Ideal S8192x2048 .f32) (A B : FVec Ideal S8192x1024 .bf16) (W : FVec Ideal S2048x2048 .bf16)

/-- The residual stream plus the projection of the two attentions side by side. -/
def REF : FVec Ideal S8192x2048 .f32 :=
  addf H (Host.dotGeneral dot_S8192x2048_S2048x2048_S8192x2048_1_0_0_1_n_n none (extf .f32 (concatenate S8192x2048 1 [⟨S8192x1024, A⟩, ⟨S8192x1024, B⟩] concatenates_S8192x1024_S8192x1024_S8192x2048_d1) bitsLt_bf16_f32) (extf .f32 W bitsLt_bf16_f32))

theorem REF_eq : REF H A B W = addf H (Host.dotGeneral dot_S8192x2048_S2048x2048_S8192x2048_1_0_0_1_n_n none (extf .f32 (concatenate S8192x2048 1 [⟨S8192x1024, A⟩, ⟨S8192x1024, B⟩] concatenates_S8192x1024_S8192x1024_S8192x2048_d1) bitsLt_bf16_f32) (extf .f32 W bitsLt_bf16_f32)) := by
  unfold REF; rfl

/-- The reference's entry: the sum over the joined columns, first half and second half. -/
theorem REF_at (r : Fin 8192) (e : Fin 2048) :
    REF H A B W (ix2 r e) = H (ix2 r e) + ((∑ k : Fin 1024, A (ix2 r k) * W (ix2 ⟨k.val, by omega⟩ e)) + ∑ k : Fin 1024, B (ix2 r k) * W (ix2 ⟨1024 + k.val, by omega⟩ e)) := by
  unfold REF
  pointwise

end

end Cert.OutProjRefIdeal.Value

end
-- ==== Proof.OutProjV.Value.lean ====
/- The output projection's result array. -/
module

public import proofs.«01_k».proof.Proof.OutProjV.Ref
public import proofs.«01_k».proof.Proof.Gen.OutProjIdeal.Value
public import Idealize.ShloMosaic.Lib.Pipeline.ValueKit

@[expose] public section

set_option maxRecDepth 16384

noncomputable section

namespace Cert.OutProjIdeal.Value

open Cert.OutProjIdeal Cert.OutProjIdeal.Gen Idealize.ShloMosaic Idealize.ShloMosaic.TcCoe Idealize.SL.Sem

variable (m : (ℓ : Loc nD τ sig) → Buf (Elt Ideal) ℓ)

/-- The windows' block indices at every point. -/
theorem idx : ∀ t : Fin cfg0.N, win0_0.index t = ![t.val / 4, t.val % 4] ∧ win0_1.index t = ![t.val / 4, 0] ∧ win0_2.index t = ![t.val / 4, 0]
    ∧ win0_3.index t = ![0, t.val % 4] ∧ win0_4.index t = ![1, t.val % 4] ∧ win0_5.index t = ![t.val / 4, t.val % 4] :=
  (by decide +kernel : ∀ t : Fin grid0.N, _)

theorem pay1_at (h : Vec Ideal S1024x512 .f32) (a : Vec Ideal S1024x1024 .bf16) (u : Vec Ideal S1024x512 .bf16) (b : Vec Ideal S1024x1024 .bf16) (w : Vec Ideal S1024x512 .bf16) (r : Fin 1024) (e : Fin 512) :
    k0_pay1 h a u b w (ix2 r e) = h (ix2 r e) + (∑ k : Fin 1024, a (ix2 r k) * u (ix2 k e)) + ∑ k : Fin 1024, b (ix2 r k) * w (ix2 k e) := by
  pointwise [k0_pay1]

section

variable (c : Dev nD)

/-- The argument arrays, as the reference types them. -/
abbrev aH : FVec Ideal Cert.OutProjRefIdeal.S8192x2048 .f32 := m ((c.tc : Thread nD τ).loc main_arg0)
abbrev aA : FVec Ideal Cert.OutProjRefIdeal.S8192x1024 .bf16 := m ((c.tc : Thread nD τ).loc main_arg1)
abbrev aB : FVec Ideal Cert.OutProjRefIdeal.S8192x1024 .bf16 := m ((c.tc : Thread nD τ).loc main_arg2)
abbrev aW : FVec Ideal Cert.OutProjRefIdeal.S2048x2048 .bf16 := m ((c.tc : Thread nD τ).loc main_arg3)

variable (t : Fin cfg0.N)

theorem row_lt (t : Fin cfg0.N) : t.val / 4 < 8 := by
  have h : t.val < 32 := lt_of_lt_of_eq t.isLt N_0
  omega

theorem blk0 (r : Fin 1024) (e : Fin 512) : iblk m c 0 t (ix2 r e) = aH m c (ix2 ⟨1024 * (t.val / 4) + r.val, by have := row_lt t; omega⟩ ⟨512 * (t.val % 4) + e.val, by omega⟩) := by
  have := row_lt t
  blk_point [iblk, V_main_arg0, idx t]
theorem blk1 (r : Fin 1024) (k : Fin 1024) : iblk m c 1 t (ix2 r k) = aA m c (ix2 ⟨1024 * (t.val / 4) + r.val, by have := row_lt t; omega⟩ k) := by
  have := row_lt t
  blk_point [iblk, V_main_arg1, idx t]
theorem blk2 (r : Fin 1024) (k : Fin 1024) : iblk m c 2 t (ix2 r k) = aB m c (ix2 ⟨1024 * (t.val / 4) + r.val, by have := row_lt t; omega⟩ k) := by
  have := row_lt t
  blk_point [iblk, V_main_arg2, idx t]
theorem blk3 (k : Fin 1024) (e : Fin 512) : iblk m c 3 t (ix2 k e) = aW m c (ix2 ⟨k.val, by omega⟩ ⟨512 * (t.val % 4) + e.val, by omega⟩) := by
  blk_point [iblk, V_main_arg3, idx t]
theorem blk4 (k : Fin 1024) (e : Fin 512) : iblk m c 4 t (ix2 k e) = aW m c (ix2 ⟨1024 + k.val, by omega⟩ ⟨512 * (t.val % 4) + e.val, by omega⟩) := by
  blk_point [iblk, V_main_arg3, idx t]

/-- The block's entries are the reference's. -/
theorem out_at (r : Fin 1024) (e : Fin 512) :
    k0_pay1 (iblk m c 0 t) (iblk m c 1 t) (iblk m c 3 t) (iblk m c 2 t) (iblk m c 4 t) (ix2 r e)
      = Cert.OutProjRefIdeal.Value.REF (aH m c) (aA m c) (aB m c) (aW m c) (ix2 ⟨1024 * (t.val / 4) + r.val, by have := row_lt t; omega⟩ ⟨512 * (t.val % 4) + e.val, by omega⟩) := by
  rw [pay1_at, Cert.OutProjRefIdeal.Value.REF_at]
  simp only [blk0, blk1, blk2, blk3, blk4]
  exact add_assoc _ _ _

/-- The result array after the run is the reference's result. -/
theorem final : (dats m 0 c).arrAt 5 cfg0.N = Cert.OutProjRefIdeal.Value.REF (aH m c) (aA m c) (aB m c) (aW m c) := by
  refine (dats m 0 c).arrAt_eq_of_covers 5 _ (by decide +kernel) fun t _ y => ?_
  blk_simp
  rw [after0_5]
  unfold out0_5
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  obtain ⟨r, j, rfl⟩ : ∃ (r : Fin 1024) (j : Fin 512), y = ix2 r j := ⟨y 0, y 1, by ext a; fin_cases a <;> rfl⟩
  refine (out_at m c t r j).trans ?_
  have := row_lt t
  blk_ext [idx t]

end

end Cert.OutProjIdeal.Value

end
-- ==== Proof.OutProjV.Claims.lean ====
/- The value claims about the output projection's call. -/
module

public import proofs.«01_k».proof.Defs
public import proofs.«01_k».proof.Proof.Gen.OutProj
public import proofs.«01_k».proof.Proof.OutProjV.Value
public import proofs.«01_k».proof.Proof.Gen.OutProjRefIdeal.Run
public import Idealize.ShloMosaic.Lib.Claim
public import Idealize.ShloMosaic.Lib.Quiescent

@[expose] public section

noncomputable section

namespace Cert.Proof.OutProj

open Idealize.ShloMosaic Idealize.SL.Sem

/-- Every run of the idealized kernel ends with the reference's result and its arguments as they were. -/
theorem run_kernel (m : (ℓ : Loc Cert.OutProjIdeal.nD Cert.OutProjIdeal.τ Cert.OutProjIdeal.sig) → Buf (Elt Ideal) ℓ) (g : Dev Cert.OutProjIdeal.nD → PrngReg) :
    θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
      r.2.mem ((c.tc : Thread Cert.OutProjIdeal.nD Cert.OutProjIdeal.τ).loc Cert.OutProjIdeal.main_v0) = Cert.OutProjRefIdeal.Value.REF (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3))
      ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)) :=
  (θ_run _ _ _).mono (fun r h c => ⟨((h c).1).trans (Cert.OutProjIdeal.Value.final m c), (h c).2⟩) (Cert.OutProjIdeal.Value.run_blocks m g)

/-- Every run of the idealized reference ends with its result and its arguments as they were. -/
theorem run_reference (m : (ℓ : Loc Cert.OutProjRefIdeal.nD Cert.OutProjRefIdeal.τ Cert.OutProjRefIdeal.sig) → Buf (Elt Ideal) ℓ) (g : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, g⟩ (fun r => ∀ c : Dev Cert.OutProjRefIdeal.nD,
      r.2.mem ((c.tc : Thread Cert.OutProjRefIdeal.nD Cert.OutProjRefIdeal.τ).loc Cert.OutProjRefIdeal.main_v4) = Cert.OutProjRefIdeal.Value.REF (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3))
      ∧ r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)) :=
  (θ_run _ _ _).mono (fun r h c => ⟨((h c).1).trans (Eq.symm (Cert.OutProjRefIdeal.Value.REF_eq _ _ _ _)), (h c).2⟩) (Cert.OutProjRefIdeal.Value.run m g)

/-- The idealized kernel and the idealized reference end with the same result. -/
theorem algebraic : Cert.algebraic_OutProjIdeal_OutProjRefIdeal := fun m g m' g' _ hagree =>
  ⟨fun c => Cert.OutProjRefIdeal.Value.REF (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)), run_kernel m g,
    (θ_run _ _ _).mono (fun r h c => ⟨((h c).1).trans (by rw [(hagree c).1, (hagree c).2.1, (hagree c).2.2.1, (hagree c).2.2.2]), (h c).2⟩) (run_reference m' g')⟩

/-- The idealized reference leaves its arguments and every counter as they were. -/
theorem frame_reference : Cert.quiescent_OutProjRefIdeal := by
  exact fun m g _ => (θ_run _ _ _).mono (fun r h => ⟨fun c => (h c).2, sem_eq_zero_of_no_sems rfl r.2⟩) (run_reference m g)

/-- The idealized kernel is the kernel's own text. -/
theorem preserves : Cert.preserves_OutProj_OutProjIdeal := trivial

end Cert.Proof.OutProj

end
-- ==== Proof.ProjV.Math.lean ====
/- The rotary embedding of one head over the extended reals, as the reference writes it and as the kernel computes it. -/
module

public import Idealize.ShloMosaic.PureOps.Ideal
public import Idealize.ShloMosaic.Lib.Pointwise

@[expose] public section

set_option maxRecDepth 16384

noncomputable section

namespace RotMath

open Idealize.ShloMosaic

/-- A head's entry after the rotation of its first 32 entries, 16 against 16. -/
def rot (x : Fin 128 → EReal) (cs sn : Fin 16 → EReal) (d : Fin 128) : EReal :=
  if h : d.val < 16 then x d * cs ⟨d.val, h⟩ - x ⟨d.val + 16, by omega⟩ * sn ⟨d.val, h⟩
  else if h' : d.val < 32 then x d * cs ⟨d.val - 16, by omega⟩ + x ⟨d.val - 16, by omega⟩ * sn ⟨d.val - 16, by omega⟩
  else x d

/-- The tables the kernel multiplies by: the entry itself, the entry 16 to the right, the entry 16 to the left. -/
def tc (cs : Fin 16 → EReal) (d : Fin 128) : EReal :=
  if h : d.val < 16 then cs ⟨d.val, h⟩ else if h' : d.val < 32 then cs ⟨d.val - 16, by omega⟩ else 1
def ta (sn : Fin 16 → EReal) (d : Fin 128) : EReal := if h : d.val < 16 then -sn ⟨d.val, h⟩ else 0
def tb (sn : Fin 16 → EReal) (d : Fin 128) : EReal :=
  if h : d.val < 16 then 0 else if h' : d.val < 32 then sn ⟨d.val - 16, by omega⟩ else 0

/-- The kernel's three products are the rotation: where a table is zero it does not matter what stands there. -/
theorem rot_eq (x : Fin 128 → EReal) (cs sn : Fin 16 → EReal) (d : Fin 128) (a b : EReal)
    (ha : ∀ h : d.val < 16, a = x ⟨d.val + 16, by omega⟩) (hb : ∀ h : 16 ≤ d.val, b = x ⟨d.val - 16, by omega⟩) :
    x d * tc cs d + a * ta sn d + b * tb sn d = rot x cs sn d := by
  unfold tc ta tb rot
  by_cases h : d.val < 16
  · simp only [dif_pos h]
    rw [ha h, mul_zero, add_zero, mul_neg, sub_eq_add_neg]
  · by_cases h' : d.val < 32
    · simp only [dif_neg h, dif_pos h']
      rw [hb (by omega), mul_zero, add_zero]
    · simp only [dif_neg h, dif_neg h']
      rw [mul_zero, mul_zero, add_zero, add_zero, mul_one]

/-- The angle of a position at a frequency. -/
def ang (p : BitVec 32) (f : Fin 16) : EReal :=
  (FloatOps.sitofp FTy.f32 p : Ideal .f32) * Ideal.pow (Ideal.ofBits .f32 0x48F42400#32) (Ideal.div (-(Ideal.ofBits .f32 0x40000000#32 * (FloatOps.sitofp FTy.f32 (BitVec.ofNat 32 f.val) : Ideal .f32))) (Ideal.ofBits .f32 0x42000000#32))

end RotMath

end
-- ==== Proof.ProjV.Ref.lean ====
/- The reference of the input projection's call read at an index. -/
module

public import proofs.«01_k».proof.Proof.Gen.ProjRefIdeal.Run
public import proofs.«01_k».proof.Proof.ProjV.Math
public import Idealize.ShloMosaic.Lib.Pointwise

@[expose] public section

set_option maxRecDepth 16384

noncomputable section

namespace Cert.ProjRefIdeal.Value

open Cert.ProjRefIdeal Cert.ProjRefIdeal.Gen Idealize.ShloMosaic Idealize.ShloMosaic.TcCoe Idealize.SL.Sem

section

variable (cs sn : FVec Ideal S8192x1x16 .f32)

/-- The rotation of eight heads. -/
def ROT8 (y : FVec Ideal S8192x8x128 .f32) : FVec Ideal S8192x8x128 .f32 :=
  concatenate S8192x8x128 2 [⟨S8192x8x16, ((subf (mulf (extractStridedSlice S8192x8x16 ![0, 0, 0] y slices_S8192x8x128_S8192x8x16_0_0_0) (broadcastInDim S8192x8x16 ![0, 1, 2] bcast_S8192x1x16_S8192x8x16_0_1_2 cs)) (mulf (extractStridedSlice S8192x8x16 ![0, 0, 16] y slices_S8192x8x128_S8192x8x16_0_0_16) (broadcastInDim S8192x8x16 ![0, 1, 2] bcast_S8192x1x16_S8192x8x16_0_1_2 sn))))⟩, ⟨S8192x8x16, ((addf (mulf (extractStridedSlice S8192x8x16 ![0, 0, 16] y slices_S8192x8x128_S8192x8x16_0_0_16) (broadcastInDim S8192x8x16 ![0, 1, 2] bcast_S8192x1x16_S8192x8x16_0_1_2 cs)) (mulf (extractStridedSlice S8192x8x16 ![0, 0, 0] y slices_S8192x8x128_S8192x8x16_0_0_0) (broadcastInDim S8192x8x16 ![0, 1, 2] bcast_S8192x1x16_S8192x8x16_0_1_2 sn))))⟩, ⟨S8192x8x96, ((extractStridedSlice S8192x8x96 ![0, 0, 32] y slices_S8192x8x128_S8192x8x96_0_0_32))⟩] concatenates_S8192x8x16_S8192x8x16_S8192x8x96_S8192x8x128_d2
/-- The rotation of two heads. -/
def ROT2 (y : FVec Ideal S8192x2x128 .f32) : FVec Ideal S8192x2x128 .f32 :=
  concatenate S8192x2x128 2 [⟨S8192x2x16, ((subf (mulf (extractStridedSlice S8192x2x16 ![0, 0, 0] y slices_S8192x2x128_S8192x2x16_0_0_0) (broadcastInDim S8192x2x16 ![0, 1, 2] bcast_S8192x1x16_S8192x2x16_0_1_2 cs)) (mulf (extractStridedSlice S8192x2x16 ![0, 0, 16] y slices_S8192x2x128_S8192x2x16_0_0_16) (broadcastInDim S8192x2x16 ![0, 1, 2] bcast_S8192x1x16_S8192x2x16_0_1_2 sn))))⟩, ⟨S8192x2x16, ((addf (mulf (extractStridedSlice S8192x2x16 ![0, 0, 16] y slices_S8192x2x128_S8192x2x16_0_0_16) (broadcastInDim S8192x2x16 ![0, 1, 2] bcast_S8192x1x16_S8192x2x16_0_1_2 cs)) (mulf (extractStridedSlice S8192x2x16 ![0, 0, 0] y slices_S8192x2x128_S8192x2x16_0_0_0) (broadcastInDim S8192x2x16 ![0, 1, 2] bcast_S8192x1x16_S8192x2x16_0_1_2 sn))))⟩, ⟨S8192x2x96, ((extractStridedSlice S8192x2x96 ![0, 0, 32] y slices_S8192x2x128_S8192x2x96_0_0_32))⟩] concatenates_S8192x2x16_S8192x2x16_S8192x2x96_S8192x2x128_d2
/-- All heads, those of the queries and keys rotated, those of the queries scaled. -/
def CAT (x : FVec Ideal S8192x44x128 .f32) : FVec Ideal S8192x44x128 .f32 :=
  ((concatenate S8192x44x128 1 [⟨S8192x8x128, ((mulf (ROT8 cs sn (extractStridedSlice S8192x8x128 ![0, 0, 0] x slices_S8192x44x128_S8192x8x128_0_0_0) ) (broadcastInDim S8192x8x128 ![] bcast_S_S8192x8x128 (constant S_ .f32 0x3DB504F3#32))))⟩, ⟨S8192x4x128, ((extractStridedSlice S8192x4x128 ![0, 8, 0] x slices_S8192x44x128_S8192x4x128_0_8_0))⟩, ⟨S8192x2x128, ((ROT2 cs sn (extractStridedSlice S8192x2x128 ![0, 12, 0] x slices_S8192x44x128_S8192x2x128_0_12_0) ))⟩, ⟨S8192x2x128, ((extractStridedSlice S8192x2x128 ![0, 14, 0] x slices_S8192x44x128_S8192x2x128_0_14_0))⟩, ⟨S8192x2x128, ((ROT2 cs sn (extractStridedSlice S8192x2x128 ![0, 16, 0] x slices_S8192x44x128_S8192x2x128_0_16_0) ))⟩, ⟨S8192x2x128, ((extractStridedSlice S8192x2x128 ![0, 18, 0] x slices_S8192x44x128_S8192x2x128_0_18_0))⟩, ⟨S8192x8x128, ((mulf (extractStridedSlice S8192x8x128 ![0, 20, 0] x slices_S8192x44x128_S8192x8x128_0_20_0) (broadcastInDim S8192x8x128 ![] bcast_S_S8192x8x128 (constant S_ .f32 0x3DB504F3#32))))⟩, ⟨S8192x16x128, ((extractStridedSlice S8192x16x128 ![0, 28, 0] x slices_S8192x44x128_S8192x16x128_0_28_0))⟩] concatenates_S8192x8x128_S8192x4x128_S8192x2x128_S8192x2x128_S8192x2x128_S8192x2x128_S8192x8x128_S8192x16x128_S8192x44x128_d1))

theorem ROT8_at (y : FVec Ideal S8192x8x128 .f32) (i : Fin 8192) (h : Fin 8) (d : Fin 128) :
    ROT8 cs sn y (ix3 i h d) = RotMath.rot (fun e => y (ix3 i h e)) (fun f => cs (ix3 i 0 f)) (fun f => sn (ix3 i 0 f)) d := by
  unfold ROT8 RotMath.rot
  pointwise
  by_cases h1 : d.val < 16
  · rw [dif_pos h1, dif_pos h1]
    exact congrArg (fun e => _ - y (ix3 i h e) * _) (Fin.ext (Nat.add_comm 16 d.val))
  · rw [dif_neg h1, dif_neg h1]
    by_cases h2 : d.val < 32
    · rw [dif_pos (show d.val - 16 < 16 by omega), dif_pos h2]
      exact congrArg (fun e => y (ix3 i h e) * _ + _) (Fin.ext (show 16 + (d.val - 16) = d.val by omega))
    · rw [dif_neg (show ¬ d.val - 16 < 16 by omega), dif_neg h2]
      exact congrArg (fun e => y (ix3 i h e)) (Fin.ext (show 32 + (d.val - 16 - 16) = d.val by omega))

theorem ROT2_at (y : FVec Ideal S8192x2x128 .f32) (i : Fin 8192) (h : Fin 2) (d : Fin 128) :
    ROT2 cs sn y (ix3 i h d) = RotMath.rot (fun e => y (ix3 i h e)) (fun f => cs (ix3 i 0 f)) (fun f => sn (ix3 i 0 f)) d := by
  unfold ROT2 RotMath.rot
  pointwise
  by_cases h1 : d.val < 16
  · rw [dif_pos h1, dif_pos h1]
    exact congrArg (fun e => _ - y (ix3 i h e) * _) (Fin.ext (Nat.add_comm 16 d.val))
  · rw [dif_neg h1, dif_neg h1]
    by_cases h2 : d.val < 32
    · rw [dif_pos (show d.val - 16 < 16 by omega), dif_pos h2]
      exact congrArg (fun e => y (ix3 i h e) * _ + _) (Fin.ext (show 16 + (d.val - 16) = d.val by omega))
    · rw [dif_neg (show ¬ d.val - 16 < 16 by omega), dif_neg h2]
      exact congrArg (fun e => y (ix3 i h e)) (Fin.ext (show 32 + (d.val - 16 - 16) = d.val by omega))

/-- A query head of the sparse attention: rotated and scaled. -/
theorem CAT_q (x : FVec Ideal S8192x44x128 .f32) (i : Fin 8192) (h : Fin 44) (d : Fin 128) (hh : h.val < 8) :
    CAT cs sn x (ix3 i h d) = RotMath.rot (fun e => x (ix3 i h e)) (fun f => cs (ix3 i 0 f)) (fun f => sn (ix3 i 0 f)) d * Ideal.ofBits .f32 0x3DB504F3#32 := by
  unfold CAT
  pointwise
  skip
  rw [dif_pos (show h.val  < 8 by omega)]
  rw [ROT8_at]
  refine congrArg (fun z => RotMath.rot z _ _ d * Ideal.ofBits .f32 0x3DB504F3#32) (funext fun e => ?_)
  pointwise

/-- A key head: rotated. -/
theorem CAT_k (x : FVec Ideal S8192x44x128 .f32) (i : Fin 8192) (h : Fin 44) (d : Fin 128) (hh : h.val = 12 ∨ h.val = 13 ∨ h.val = 16 ∨ h.val = 17) :
    CAT cs sn x (ix3 i h d) = RotMath.rot (fun e => x (ix3 i h e)) (fun f => cs (ix3 i 0 f)) (fun f => sn (ix3 i 0 f)) d := by
  unfold CAT
  pointwise
  by_cases hk : h.val < 14
  · rw [dif_neg (show ¬ h.val  < 8 by omega), dif_neg (show ¬ h.val - 8 < 4 by omega), dif_pos (show h.val - 8 - 4 < 2 by omega)]
    rw [ROT2_at]
    refine congrArg (fun z => RotMath.rot z _ _ d) (funext fun e => ?_)
    pointwise
    exact congrArg (fun z => x (ix3 i z e)) (Fin.ext (show 12 + (h.val - 8 - 4) = h.val by omega))
  · rw [dif_neg (show ¬ h.val  < 8 by omega), dif_neg (show ¬ h.val - 8 < 4 by omega), dif_neg (show ¬ h.val - 8 - 4 < 2 by omega), dif_neg (show ¬ h.val - 8 - 4 - 2 < 2 by omega), dif_pos (show h.val - 8 - 4 - 2 - 2 < 2 by omega)]
    rw [ROT2_at]
    refine congrArg (fun z => RotMath.rot z _ _ d) (funext fun e => ?_)
    pointwise
    exact congrArg (fun z => x (ix3 i z e)) (Fin.ext (show 16 + (h.val - 8 - 4 - 2 - 2) = h.val by omega))

/-- A query head of the stick-breaking attention: scaled. -/
theorem CAT_s (x : FVec Ideal S8192x44x128 .f32) (i : Fin 8192) (h : Fin 44) (d : Fin 128) (h1 : 20 ≤ h.val) (h2 : h.val < 28) :
    CAT cs sn x (ix3 i h d) = x (ix3 i h d) * Ideal.ofBits .f32 0x3DB504F3#32 := by
  unfold CAT
  pointwise
  rw [dif_neg (show ¬ h.val  < 8 by omega), dif_neg (show ¬ h.val - 8 < 4 by omega), dif_neg (show ¬ h.val - 8 - 4 < 2 by omega), dif_neg (show ¬ h.val - 8 - 4 - 2 < 2 by omega), dif_neg (show ¬ h.val - 8 - 4 - 2 - 2 < 2 by omega), dif_neg (show ¬ h.val - 8 - 4 - 2 - 2 - 2 < 2 by omega), dif_pos (show h.val - 8 - 4 - 2 - 2 - 2 - 2 < 8 by omega)]
  exact congrArg (fun e => x (ix3 i e d) * Ideal.ofBits .f32 0x3DB504F3#32) (Fin.ext (show 20 + (h.val - 8 - 4 - 2 - 2 - 2 - 2) = h.val by omega))

/-- Every other head: as it is. -/
theorem CAT_c (x : FVec Ideal S8192x44x128 .f32) (i : Fin 8192) (h : Fin 44) (d : Fin 128)
    (hh : (8 ≤ h.val ∧ h.val < 12) ∨ h.val = 14 ∨ h.val = 15 ∨ h.val = 18 ∨ h.val = 19 ∨ 28 ≤ h.val) :
    CAT cs sn x (ix3 i h d) = x (ix3 i h d) := by
  unfold CAT
  pointwise
  rcases (by omega : (8 ≤ h.val ∧ h.val < 12) ∨ (14 ≤ h.val ∧ h.val < 16) ∨ (18 ≤ h.val ∧ h.val < 20) ∨ 28 ≤ h.val) with h0 | h0 | h0 | h0
  · rw [dif_neg (show ¬ h.val  < 8 by omega), dif_pos (show h.val - 8 < 4 by omega)]
    exact congrArg (fun e => x (ix3 i e d)) (Fin.ext (show 8 + (h.val - 8) = h.val by omega))
  · rw [dif_neg (show ¬ h.val  < 8 by omega), dif_neg (show ¬ h.val - 8 < 4 by omega), dif_neg (show ¬ h.val - 8 - 4 < 2 by omega), dif_pos (show h.val - 8 - 4 - 2 < 2 by omega)]
    exact congrArg (fun e => x (ix3 i e d)) (Fin.ext (show 14 + (h.val - 8 - 4 - 2) = h.val by omega))
  · rw [dif_neg (show ¬ h.val  < 8 by omega), dif_neg (show ¬ h.val - 8 < 4 by omega), dif_neg (show ¬ h.val - 8 - 4 < 2 by omega), dif_neg (show ¬ h.val - 8 - 4 - 2 < 2 by omega), dif_neg (show ¬ h.val - 8 - 4 - 2 - 2 < 2 by omega), dif_pos (show h.val - 8 - 4 - 2 - 2 - 2 < 2 by omega)]
    exact congrArg (fun e => x (ix3 i e d)) (Fin.ext (show 18 + (h.val - 8 - 4 - 2 - 2 - 2) = h.val by omega))
  · rw [dif_neg (show ¬ h.val  < 8 by omega), dif_neg (show ¬ h.val - 8 < 4 by omega), dif_neg (show ¬ h.val - 8 - 4 < 2 by omega), dif_neg (show ¬ h.val - 8 - 4 - 2 < 2 by omega), dif_neg (show ¬ h.val - 8 - 4 - 2 - 2 < 2 by omega), dif_neg (show ¬ h.val - 8 - 4 - 2 - 2 - 2 < 2 by omega), dif_neg (show ¬ h.val - 8 - 4 - 2 - 2 - 2 - 2 < 8 by omega)]
    exact congrArg (fun e => x (ix3 i e d)) (Fin.ext (show 28 + (h.val - 8 - 4 - 2 - 2 - 2 - 2 - 8) = h.val by omega))

variable (X : FVec Ideal S8192x2048 .bf16) (W : FVec Ideal S2048x5632 .bf16) (P : IVec S8192 32)

/-- The angles. -/
def ANG : FVec Ideal S8192x16 .f32 :=
  mulf (broadcastInDim S8192x16 ![0, 1] bcast_S8192x1_S8192x16_0_1 (broadcastInDim S8192x1 ![0] bcast_S8192_S8192x1_0 (sitofp .f32 P))) (broadcastInDim S8192x16 ![0, 1] bcast_S1x16_S8192x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))
/-- Their cosines and sines, with an axis of one head. -/
def COS : FVec Ideal S8192x1x16 .f32 := broadcastInDim S8192x1x16 ![0, 2] bcast_S8192x16_S8192x1x16_0_2 (Host.cos (ANG P))
def SIN : FVec Ideal S8192x1x16 .f32 := broadcastInDim S8192x1x16 ![0, 2] bcast_S8192x16_S8192x1x16_0_2 (Host.sin (ANG P))
/-- The product, by heads. -/
def PROD : FVec Ideal S8192x44x128 .f32 :=
  shapeCast _ (Host.dotGeneral dot_S8192x2048_S2048x5632_S8192x5632_1_0_0_1_n_n none (extf .f32 X bitsLt_bf16_f32) (extf .f32 W bitsLt_bf16_f32)) shapeCasts_S8192x5632_S8192x44x128
/-- The reference's result. -/
def REF : FVec Ideal S8192x5632 .bf16 :=
  truncf .bf16 (shapeCast _ (CAT (COS P) (SIN P) (PROD X W)) shapeCasts_S8192x44x128_S8192x5632) bitsLt_bf16_f32

theorem COS_at (i : Fin 8192) (f : Fin 16) : COS P (ix3 i 0 f) = Ideal.cos (RotMath.ang (P (ix1 i)) f) := by
  unfold COS ANG RotMath.ang
  pointwise
theorem SIN_at (i : Fin 8192) (f : Fin 16) : SIN P (ix3 i 0 f) = Ideal.sin (RotMath.ang (P (ix1 i)) f) := by
  unfold SIN ANG RotMath.ang
  pointwise
theorem PROD_at (i : Fin 8192) (h : Fin 44) (d : Fin 128) :
    PROD X W (ix3 i h d) = ∑ k : Fin 2048, X (ix2 i k) * W (ix2 k ⟨h.val * 128 + d.val, by omega⟩) := by
  unfold PROD
  pointwise
theorem REF_at (i : Fin 8192) (n : Fin 5632) :
    REF X W P (ix2 i n) = CAT (COS P) (SIN P) (PROD X W) (ix3 i ⟨n.val / 128, by omega⟩ ⟨n.val % 128, by omega⟩) := by
  unfold REF
  pointwise

/-- The run's term is the reference's result. -/
theorem res_eq (m : (ℓ : Loc nD τ sig) → Buf (Elt Ideal) ℓ) (c : Dev nD) :
    res_main_v80 m c = REF (m ((c.tc : Thread nD τ).loc main_arg0)) (m ((c.tc : Thread nD τ).loc main_arg1)) (m ((c.tc : Thread nD τ).loc main_arg2)) := by
  unfold res_main_v80 REF CAT ROT8 ROT2 COS SIN ANG PROD
  rfl

end

end Cert.ProjRefIdeal.Value

end
-- ==== Proof.ProjV.Value.lean ====
/- The input projection's result array. -/
module

public import proofs.«01_k».proof.Proof.ProjV.Ref
public import proofs.«01_k».proof.Proof.Gen.ProjIdeal.Value
public import Idealize.ShloMosaic.Lib.Pipeline.ValueKit

@[expose] public section

set_option maxRecDepth 16384

noncomputable section

namespace Cert.ProjIdeal.Value

open Cert.ProjIdeal Cert.ProjIdeal.Gen Idealize.ShloMosaic Idealize.ShloMosaic.TcCoe Idealize.SL.Sem

variable (m : (ℓ : Loc nD τ sig) → Buf (Elt Ideal) ℓ)

/-- The windows' block indices at every point. -/
theorem idx : ∀ t : Fin cfg0.N, win0_0.index t = ![t.val / 11, 0] ∧ win0_1.index t = ![0, t.val % 11] ∧ win0_2.index t = ![t.val / 11, 0]
    ∧ win0_3.index t = ![t.val / 11, 0] ∧ win0_4.index t = ![t.val / 11, 0] ∧ win0_5.index t = ![t.val / 11, t.val % 11] :=
  (by decide +kernel : ∀ t : Fin grid0.N, _)

section

variable (a : Vec Ideal S1024x2048 .bf16) (w : Vec Ideal S2048x512 .bf16) (v3 v5 v7 : Vec Ideal S1024x128 .f32) (r : Fin 1024)

theorem pay1_at (e : Fin 512) : k0_pay1 a w (ix2 r e) = ∑ k : Fin 2048, a (ix2 r k) * w (ix2 k e) := by
  pointwise [k0_pay1]
theorem pay9_at (e : Fin 512) : k0_pay9 a w (ix2 r e) = k0_pay1 a w (ix2 r e) := by
  pointwise [k0_pay9]
theorem pay8_at (e : Fin 512) : k0_pay8 a w (ix2 r e) = k0_pay1 a w (ix2 r e) * Ideal.ofBits .f32 0x3DB504F3#32 := by
  pointwise [k0_pay8]
theorem pay7_at (e : Fin 256) : k0_pay7 a w (ix2 r e) = k0_pay1 a w (ix2 r ⟨256 + e.val, by omega⟩) := by
  pointwise [k0_pay7]
theorem pay6_at (e : Fin 256) : k0_pay6 a w v3 v5 v7 (ix2 r e)
    = k0_pay1 a w (ix2 r ⟨e.val, by omega⟩) * v3 (ix2 r ⟨e.val % 128, by omega⟩)
      + k0_pay1 a w (ix2 r ⟨(e.val + 256 - 240) % 256, by omega⟩) * v5 (ix2 r ⟨e.val % 128, by omega⟩)
      + k0_pay1 a w (ix2 r ⟨(e.val + 256 - 16) % 256, by omega⟩) * v7 (ix2 r ⟨e.val % 128, by omega⟩) := by
  pointwise [k0_pay6, k0_pay2, k0_pay3, k0_pay4]
  blk_point []
theorem pay5_at (e : Fin 512) : k0_pay5 a w v3 v5 v7 (ix2 r e)
    = (k0_pay1 a w (ix2 r e) * v3 (ix2 r ⟨e.val % 128, by omega⟩)
      + k0_pay1 a w (ix2 r ⟨(e.val + 512 - 496) % 512, by omega⟩) * v5 (ix2 r ⟨e.val % 128, by omega⟩)
      + k0_pay1 a w (ix2 r ⟨(e.val + 512 - 16) % 512, by omega⟩) * v7 (ix2 r ⟨e.val % 128, by omega⟩)) * Ideal.ofBits .f32 0x3DB504F3#32 := by
  pointwise [k0_pay5, k0_pay2, k0_pay3, k0_pay4]
  blk_point []

end

section

variable (c : Dev nD)

/-- The argument arrays, as the reference types them. -/
abbrev aX : FVec Ideal Cert.ProjRefIdeal.S8192x2048 .bf16 := m ((c.tc : Thread nD τ).loc main_arg0)
abbrev aW : FVec Ideal Cert.ProjRefIdeal.S2048x5632 .bf16 := m ((c.tc : Thread nD τ).loc main_arg1)
abbrev aP : IVec Cert.ProjRefIdeal.S8192 32 := m ((c.tc : Thread nD τ).loc main_arg2)

variable (t : Fin cfg0.N)

theorem row_lt (t : Fin cfg0.N) : t.val / 11 < 8 := by
  have h : t.val < 88 := lt_of_lt_of_eq t.isLt N_0
  omega

/-- The array row of a block's row. -/
abbrev row (r : Fin 1024) : Fin 8192 := ⟨1024 * (t.val / 11) + r.val, by have := row_lt t; omega⟩

theorem blk0 (r : Fin 1024) (k : Fin 2048) : iblk m c 0 t (ix2 r k) = aX m c (ix2 (row t r) k) := by
  have := row_lt t
  blk_point [iblk, V_main_arg0, idx t]
theorem blk1 (k : Fin 2048) (e : Fin 512) : iblk m c 1 t (ix2 k e) = aW m c (ix2 k ⟨512 * (t.val % 11) + e.val, by omega⟩) := by
  have := row_lt t
  blk_point [iblk, V_main_arg1, idx t]

theorem ang_at (i : Fin 8192) (f : Fin 16) : Cert.ProjRefIdeal.Value.ANG (aP m c) (ix2 i f) = RotMath.ang (aP m c (ix1 i)) f := by
  unfold Cert.ProjRefIdeal.Value.ANG RotMath.ang
  pointwise

/-- The three tables' arrays. -/
theorem tabC_arr : (V m c main_v19 : FVec Ideal S8192x128 .f32) = concatenate S8192x128 1 [⟨S8192x16, Host.cos (Cert.ProjRefIdeal.Value.ANG (aP m c))⟩, ⟨S8192x16, Host.cos (Cert.ProjRefIdeal.Value.ANG (aP m c))⟩, ⟨S8192x96, broadcastInDim S8192x96 ![] bcast_S_S8192x96 (constant S_ .f32 0x3F800000#32)⟩] concatenates_S8192x16_S8192x16_S8192x96_S8192x128_d1 := by
  show StableHlo.after hostOps0 (fun b => m (c, b)) main_v19 = _
  after_results_simp <;> (try dsimp only [Matrix.cons_val]) <;> (try after_results_simp) <;> (try dsimp only [Matrix.cons_val]) <;> (try after_results_simp) <;> rfl
theorem tabC (i : Fin 8192) (d : Fin 128) : V m c main_v19 (ix2 i d) = RotMath.tc (fun f => Ideal.cos (RotMath.ang (aP m c (ix1 i)) f)) d := by
  refine (congrFun (tabC_arr m c) _).trans ?_
  unfold RotMath.tc
  simp only [← ang_at]
  generalize Cert.ProjRefIdeal.Value.ANG (aP m c) = A
  pointwise
  by_cases h1 : d.val < 16
  · rw [dif_pos h1, dif_pos h1]
  · rw [dif_neg h1, dif_neg h1]
    by_cases h2 : d.val < 32
    · rw [dif_pos (show d.val - 16 < 16 by omega), dif_pos h2]
    · rw [dif_neg (show ¬ d.val - 16 < 16 by omega), dif_neg h2]
theorem tabA_arr : (V m c main_v22 : FVec Ideal S8192x128 .f32) = concatenate S8192x128 1 [⟨S8192x16, Host.negf (Host.sin (Cert.ProjRefIdeal.Value.ANG (aP m c)))⟩, ⟨S8192x112, broadcastInDim S8192x112 ![] bcast_S_S8192x112 (constant S_ .f32 0x00000000#32)⟩] concatenates_S8192x16_S8192x112_S8192x128_d1 := by
  show StableHlo.after hostOps0 (fun b => m (c, b)) main_v22 = _
  after_results_simp <;> (try dsimp only [Matrix.cons_val]) <;> (try after_results_simp) <;> (try dsimp only [Matrix.cons_val]) <;> (try after_results_simp) <;> rfl
theorem tabA (i : Fin 8192) (d : Fin 128) : V m c main_v22 (ix2 i d) = RotMath.ta (fun f => Ideal.sin (RotMath.ang (aP m c (ix1 i)) f)) d := by
  refine (congrFun (tabA_arr m c) _).trans ?_
  unfold RotMath.ta
  simp only [← ang_at]
  generalize Cert.ProjRefIdeal.Value.ANG (aP m c) = A
  pointwise
theorem tabB_arr : (V m c main_v25 : FVec Ideal S8192x128 .f32) = concatenate S8192x128 1 [⟨S8192x16, broadcastInDim S8192x16 ![] bcast_S_S8192x16 (constant S_ .f32 0x00000000#32)⟩, ⟨S8192x16, Host.sin (Cert.ProjRefIdeal.Value.ANG (aP m c))⟩, ⟨S8192x96, broadcastInDim S8192x96 ![] bcast_S_S8192x96 (constant S_ .f32 0x00000000#32)⟩] concatenates_S8192x16_S8192x16_S8192x96_S8192x128_d1 := by
  show StableHlo.after hostOps0 (fun b => m (c, b)) main_v25 = _
  after_results_simp <;> (try dsimp only [Matrix.cons_val]) <;> (try after_results_simp) <;> (try dsimp only [Matrix.cons_val]) <;> (try after_results_simp) <;> rfl
theorem tabB (i : Fin 8192) (d : Fin 128) : V m c main_v25 (ix2 i d) = RotMath.tb (fun f => Ideal.sin (RotMath.ang (aP m c (ix1 i)) f)) d := by
  refine (congrFun (tabB_arr m c) _).trans ?_
  unfold RotMath.tb
  simp only [← ang_at]
  generalize Cert.ProjRefIdeal.Value.ANG (aP m c) = A
  pointwise
  by_cases h1 : d.val < 16
  · rw [dif_pos h1, dif_pos h1]
  · rw [dif_neg h1, dif_neg h1]
    by_cases h2 : d.val < 32
    · rw [dif_pos (show d.val - 16 < 16 by omega), dif_pos h2]
    · rw [dif_neg (show ¬ d.val - 16 < 16 by omega), dif_neg h2]
theorem blk2 (r : Fin 1024) (d : Fin 128) : iblk m c 2 t (ix2 r d) = V m c main_v19 (ix2 (row t r) d) := by
  have := row_lt t
  blk_point [iblk, idx t]
theorem blk3 (r : Fin 1024) (d : Fin 128) : iblk m c 3 t (ix2 r d) = V m c main_v22 (ix2 (row t r) d) := by
  have := row_lt t
  blk_point [iblk, idx t]
theorem blk4 (r : Fin 1024) (d : Fin 128) : iblk m c 4 t (ix2 r d) = V m c main_v25 (ix2 (row t r) d) := by
  have := row_lt t
  blk_point [iblk, idx t]

/-- The kernel's product at an entry of the block is the reference's, at the head and the entry it belongs to. -/
theorem acc_at (r : Fin 1024) (e : Fin 512) (h : Fin 44) (d : Fin 128) (hd : h.val * 128 + d.val = 512 * (t.val % 11) + e.val) :
    k0_pay1 (iblk m c 0 t) (iblk m c 1 t) (ix2 r e) = Cert.ProjRefIdeal.Value.PROD (aX m c) (aW m c) (ix3 (row t r) h d) := by
  rw [pay1_at, Cert.ProjRefIdeal.Value.PROD_at]
  simp only [blk0, blk1, hd]

/-- The queries' blocks. -/
theorem out5_at (ht : t.val % 11 ≤ 1) (r : Fin 1024) (e : Fin 512) :
    k0_pay5 (iblk m c 0 t) (iblk m c 1 t) (iblk m c 2 t) (iblk m c 3 t) (iblk m c 4 t) (ix2 r e) = Cert.ProjRefIdeal.Value.REF (aX m c) (aW m c) (aP m c) (ix2 (row t r) ⟨512 * (t.val % 11) + e.val, by omega⟩) := by
  have hd : (⟨e.val % 128, by omega⟩ : Fin 128) = ⟨(512 * (t.val % 11) + e.val) % 128, by omega⟩ := Fin.ext (by dsimp only; omega)
  rw [pay5_at, Cert.ProjRefIdeal.Value.REF_at, Cert.ProjRefIdeal.Value.CAT_q _ _ _ _ _ _ (by dsimp only; omega)]
  refine congrArg (fun z : EReal => z * Ideal.ofBits .f32 0x3DB504F3#32) ?_
  rw [blk2, blk3, blk4, tabC, tabA, tabB, hd]
  simp only [Cert.ProjRefIdeal.Value.COS_at, Cert.ProjRefIdeal.Value.SIN_at]
  rw [acc_at m c t r e ⟨(512 * (t.val % 11) + e.val) / 128, by omega⟩ ⟨(512 * (t.val % 11) + e.val) % 128, by omega⟩ (by dsimp only; omega)]
  exact RotMath.rot_eq (fun d => Cert.ProjRefIdeal.Value.PROD (aX m c) (aW m c) (ix3 (row t r) ⟨(512 * (t.val % 11) + e.val) / 128, by omega⟩ d)) _ _ _ _ _
    (fun hd => acc_at m c t r _ _ _ (by dsimp only at hd ⊢; omega)) (fun hd => acc_at m c t r _ _ _ (by dsimp only at hd ⊢; omega))

/-- The first half of a block of keys and values: the keys. -/
theorem out6_at (ht : 3 ≤ t.val % 11 ∧ t.val % 11 ≤ 4) (r : Fin 1024) (e : Fin 256) :
    k0_pay6 (iblk m c 0 t) (iblk m c 1 t) (iblk m c 2 t) (iblk m c 3 t) (iblk m c 4 t) (ix2 r e) = Cert.ProjRefIdeal.Value.REF (aX m c) (aW m c) (aP m c) (ix2 (row t r) ⟨512 * (t.val % 11) + e.val, by omega⟩) := by
  have hd : (⟨e.val % 128, by omega⟩ : Fin 128) = ⟨(512 * (t.val % 11) + e.val) % 128, by omega⟩ := Fin.ext (by dsimp only; omega)
  rw [pay6_at, Cert.ProjRefIdeal.Value.REF_at, Cert.ProjRefIdeal.Value.CAT_k _ _ _ _ _ _ (by dsimp only; omega)]

  rw [blk2, blk3, blk4, tabC, tabA, tabB, hd]
  simp only [Cert.ProjRefIdeal.Value.COS_at, Cert.ProjRefIdeal.Value.SIN_at]
  rw [acc_at m c t r ⟨e.val, by omega⟩ ⟨(512 * (t.val % 11) + e.val) / 128, by omega⟩ ⟨(512 * (t.val % 11) + e.val) % 128, by omega⟩ (by dsimp only; omega)]
  exact RotMath.rot_eq (fun d => Cert.ProjRefIdeal.Value.PROD (aX m c) (aW m c) (ix3 (row t r) ⟨(512 * (t.val % 11) + e.val) / 128, by omega⟩ d)) _ _ _ _ _
    (fun hd => acc_at m c t r _ _ _ (by dsimp only at hd ⊢; omega)) (fun hd => acc_at m c t r _ _ _ (by dsimp only at hd ⊢; omega))

/-- Its second half: the values. -/
theorem out7_at (ht : 3 ≤ t.val % 11 ∧ t.val % 11 ≤ 4) (r : Fin 1024) (e : Fin 256) :
    k0_pay7 (iblk m c 0 t) (iblk m c 1 t) (ix2 r e) = Cert.ProjRefIdeal.Value.REF (aX m c) (aW m c) (aP m c) (ix2 (row t r) ⟨512 * (t.val % 11) + (256 + e.val), by omega⟩) := by
  rw [pay7_at, Cert.ProjRefIdeal.Value.REF_at, Cert.ProjRefIdeal.Value.CAT_c _ _ _ _ _ _ (by dsimp only; omega)]
  exact acc_at m c t r _ _ _ (by dsimp only; omega)
/-- The blocks of the stick-breaking attention's queries. -/
theorem out8_at (ht : 5 ≤ t.val % 11 ∧ t.val % 11 ≤ 6) (r : Fin 1024) (e : Fin 512) :
    k0_pay8 (iblk m c 0 t) (iblk m c 1 t) (ix2 r e) = Cert.ProjRefIdeal.Value.REF (aX m c) (aW m c) (aP m c) (ix2 (row t r) ⟨512 * (t.val % 11) + e.val, by omega⟩) := by
  rw [pay8_at, Cert.ProjRefIdeal.Value.REF_at, Cert.ProjRefIdeal.Value.CAT_s _ _ _ _ _ _ (by dsimp only; omega) (by dsimp only; omega)]
  exact congrArg (fun z : EReal => z * Ideal.ofBits .f32 0x3DB504F3#32) (acc_at m c t r _ _ _ (by dsimp only; omega))
/-- The other blocks. -/
theorem out9_at (ht : t.val % 11 = 2 ∨ t.val % 11 = 7 ∨ t.val % 11 = 8 ∨ t.val % 11 = 9 ∨ t.val % 11 = 10) (r : Fin 1024) (e : Fin 512) :
    k0_pay9 (iblk m c 0 t) (iblk m c 1 t) (ix2 r e) = Cert.ProjRefIdeal.Value.REF (aX m c) (aW m c) (aP m c) (ix2 (row t r) ⟨512 * (t.val % 11) + e.val, by omega⟩) := by
  rw [pay9_at, Cert.ProjRefIdeal.Value.REF_at, Cert.ProjRefIdeal.Value.CAT_c _ _ _ _ _ _ (by dsimp only; omega)]
  exact acc_at m c t r _ _ _ (by dsimp only; omega)

/-- The result array after the run is the reference's result. -/
theorem final : (dats m 0 c).arrAt 5 cfg0.N = Cert.ProjRefIdeal.Value.REF (aX m c) (aW m c) (aP m c) := by
  refine (dats m 0 c).arrAt_eq_of_covers 5 _ (by decide +kernel) fun t _ y => ?_
  blk_simp
  rw [after0_5]
  have := row_lt t
  rcases (by omega : t.val % 11 ≤ 1 ∨ (3 ≤ t.val % 11 ∧ t.val % 11 ≤ 4) ∨ (5 ≤ t.val % 11 ∧ t.val % 11 ≤ 6) ∨ (t.val % 11 = 2 ∨ t.val % 11 = 7 ∨ t.val % 11 = 8 ∨ t.val % 11 = 9 ∨ t.val % 11 = 10)) with ht | ht | ht | ht
  · rw [outsAt0_A m c t ht (by omega) (by omega) (by omega)]
    frame_out
    obtain ⟨r, j, rfl⟩ : ∃ (r : Fin 1024) (j : Fin 512), y = ix2 r j := ⟨y 0, y 1, by ext a; fin_cases a <;> rfl⟩
    refine (out5_at m c t ht r j).trans ?_
    blk_ext [idx t]
  · rw [outsAt0_C m c t (by omega) ht (by omega) (by omega)]
    frame_out
    canon_tiles x h
    · obtain ⟨r, j, rfl⟩ : ∃ (r : Fin 1024) (j : Fin 256), x = ix2 r j := ⟨x 0, x 1, by ext a; fin_cases a <;> rfl⟩
      have g0 : (y 0 : ℕ) = r.val := h0
      have g1 : (y 1 : ℕ) = 256 + j.val := h1
      refine (out7_at m c t ht r j).trans ?_
      blk_ext [idx t]
    · obtain ⟨r, j, rfl⟩ : ∃ (r : Fin 1024) (j : Fin 256), x = ix2 r j := ⟨x 0, x 1, by ext a; fin_cases a <;> rfl⟩
      have g0 : (y 0 : ℕ) = r.val := h0
      have g1 : (y 1 : ℕ) = j.val := h1
      refine (out6_at m c t ht r j).trans ?_
      blk_ext [idx t]
  · rw [outsAt0_D m c t (by omega) (by omega) ht (by omega)]
    frame_out
    obtain ⟨r, j, rfl⟩ : ∃ (r : Fin 1024) (j : Fin 512), y = ix2 r j := ⟨y 0, y 1, by ext a; fin_cases a <;> rfl⟩
    refine (out8_at m c t ht r j).trans ?_
    blk_ext [idx t]
  · rw [outsAt0_B m c t (by omega) (by omega) (by omega) ht]
    frame_out
    obtain ⟨r, j, rfl⟩ : ∃ (r : Fin 1024) (j : Fin 512), y = ix2 r j := ⟨y 0, y 1, by ext a; fin_cases a <;> rfl⟩
    refine (out9_at m c t ht r j).trans ?_
    blk_ext [idx t]

end

end Cert.ProjIdeal.Value

end
-- ==== Proof.ProjV.Claims.lean ====
/- The value claims about the input projection's call. -/
module

public import proofs.«01_k».proof.Defs
public import proofs.«01_k».proof.Proof.Gen.Proj
public import proofs.«01_k».proof.Proof.ProjV.Value
public import proofs.«01_k».proof.Proof.Gen.ProjRefIdeal.Run
public import Idealize.ShloMosaic.Lib.Claim
public import Idealize.ShloMosaic.Lib.Quiescent

@[expose] public section

noncomputable section

namespace Cert.Proof.Proj

open Idealize.ShloMosaic Idealize.SL.Sem

/-- Every run of the idealized kernel ends with the reference's result and its arguments as they were. -/
theorem run_kernel (m : (ℓ : Loc Cert.ProjIdeal.nD Cert.ProjIdeal.τ Cert.ProjIdeal.sig) → Buf (Elt Ideal) ℓ) (g : Dev Cert.ProjIdeal.nD → PrngReg) :
    θ_run (Cert.ProjIdeal.defs (F := Ideal)) (onTc (τ := Cert.ProjIdeal.τ) (Cert.ProjIdeal.main (F := Ideal))) ⟨m, fun _ => 0, g⟩ (fun r => ∀ c : Dev Cert.ProjIdeal.nD,
      r.2.mem ((c.tc : Thread Cert.ProjIdeal.nD Cert.ProjIdeal.τ).loc Cert.ProjIdeal.main_v26) = Cert.ProjRefIdeal.Value.REF (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)) :=
  (θ_run _ _ _).mono (fun r h c => ⟨((h c).1).trans (Cert.ProjIdeal.Value.final m c), (h c).2⟩) (Cert.ProjIdeal.Value.run_blocks m g)

/-- Every run of the idealized reference ends with its result and its arguments as they were. -/
theorem run_reference (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => ∀ c : Dev Cert.ProjRefIdeal.nD,
      r.2.mem ((c.tc : Thread Cert.ProjRefIdeal.nD Cert.ProjRefIdeal.τ).loc Cert.ProjRefIdeal.main_v80) = Cert.ProjRefIdeal.Value.REF (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)) :=
  (θ_run _ _ _).mono (fun r h c => ⟨((h c).1).trans (Cert.ProjRefIdeal.Value.res_eq m c), (h c).2⟩) (Cert.ProjRefIdeal.Value.run m g)

/-- The idealized kernel and the idealized reference end with the same result. -/
theorem algebraic : Cert.algebraic_ProjIdeal_ProjRefIdeal := fun m g m' g' _ hagree =>
  ⟨fun c => Cert.ProjRefIdeal.Value.REF (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), run_kernel m g,
    (θ_run _ _ _).mono (fun r h c => ⟨((h c).1).trans (by rw [(hagree c).1, (hagree c).2.1, (hagree c).2.2]), (h c).2⟩) (run_reference m' g')⟩

/-- The idealized reference leaves its arguments and every counter as they were. -/
theorem frame_reference : Cert.quiescent_ProjRefIdeal := by
  exact fun m g _ => (θ_run _ _ _).mono (fun r h => ⟨fun c => (h c).2, sem_eq_zero_of_no_sems rfl r.2⟩) (run_reference m g)

/-- The idealized kernel is the kernel's own text. -/
theorem preserves : Cert.preserves_Proj_ProjIdeal := trivial

end Cert.Proof.Proj

end
-- ==== Proof.NormV.Ref.lean ====
/- The reference of the normalisation's call read at an index. -/
module

public import proofs.«01_k».proof.Proof.Gen.NormRefIdeal.Run
public import proofs.«01_k».proof.Proof.MlpV.Math
public import Idealize.ShloMosaic.Lib.Pointwise

@[expose] public section

set_option maxRecDepth 16384

noncomputable section

namespace Cert.NormRefIdeal.Value

open Cert.NormRefIdeal Cert.NormRefIdeal.Gen Idealize.ShloMosaic Idealize.ShloMosaic.TcCoe Idealize.SL.Sem

section

variable (V : FVec Ideal S8192x2048 .f32) (G : FVec Ideal S1x2048 .f32)

/-- The mean-square normalisation of an array's rows. -/
def NRM : FVec Ideal S8192x2048 .f32 :=
  mulf (mulf V (broadcastInDim S8192x2048 ![0, 1] bcast_S8192x1_S8192x2048_0_1 (Host.rsqrt (addf (Host.divf (broadcastInDim S8192x1 ![0] bcast_S8192_S8192x1_0 (Host.reduceAdd (mulf V V) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048)))
/-- The reference's normalised rows. -/
def REF : FVec Ideal S8192x2048 .bf16 := truncf .bf16 (NRM V G) bitsLt_bf16_f32

theorem REF_eq : REF V G = truncf .bf16 (mulf (mulf V (broadcastInDim S8192x2048 ![0, 1] bcast_S8192x1_S8192x2048_0_1 (Host.rsqrt (addf (Host.divf (broadcastInDim S8192x1 ![0] bcast_S8192_S8192x1_0 (Host.reduceAdd (mulf V V) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048)))) bitsLt_bf16_f32 := by
  unfold REF NRM; rfl

theorem NRM_at (r : Fin 8192) (e : Fin 2048) :
    NRM V G (ix2 r e) = MlpMath.rms (fun x => V (ix2 r x)) (fun x => G (ix2 0 x)) e := by
  pointwise [NRM]
  rfl

/-- The normalised entry. -/
theorem REF_at (r : Fin 8192) (e : Fin 2048) :
    REF V G (ix2 r e) = MlpMath.rms (fun x => V (ix2 r x)) (fun x => G (ix2 0 x)) e :=
  NRM_at V G r e

end

end Cert.NormRefIdeal.Value

end
-- ==== Proof.NormV.Value.lean ====
/- The normalisation's result array: every block of rows ends with the normalised rows. -/
module

public import proofs.«01_k».proof.Proof.NormV.Ref
public import proofs.«01_k».proof.Proof.Gen.NormIdeal.Value
public import Idealize.ShloMosaic.Lib.Pipeline.ValueKit

@[expose] public section

set_option maxRecDepth 16384

noncomputable section

namespace Cert.NormIdeal.Value

open Cert.NormIdeal Cert.NormIdeal.Gen Idealize.ShloMosaic Idealize.ShloMosaic.TcCoe Idealize.SL.Sem

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![t.val, 0] :=
  (by decide +kernel : ∀ t : Fin grid0.N, _)

theorem pay1_at (v : Vec Ideal S512x2048 .f32) (g : Vec Ideal S1x2048 .f32) (r : Fin 512) (e : Fin 2048) :
    k0_pay1 v g (ix2 r e) = MlpMath.rms (fun x => v (ix2 r x)) (fun x => g (ix2 0 x)) e := by
  pointwise [k0_pay1]
  rfl

section

variable (c : Dev nD)

/-- The argument arrays, as the reference types them. -/
abbrev aH : FVec Ideal Cert.NormRefIdeal.S8192x2048 .f32 := m ((c.tc : Thread nD τ).loc main_arg0)
abbrev aG : FVec Ideal Cert.NormRefIdeal.S1x2048 .f32 := m ((c.tc : Thread nD τ).loc main_arg1)

variable (t : Fin cfg0.N)

theorem row_lt (t : Fin cfg0.N) : t.val < 16 := lt_of_lt_of_eq t.isLt N_0

theorem blk0 (r : Fin 512) (e : Fin 2048) : iblk m c 0 t (ix2 r e) = aH m c (ix2 ⟨512 * t.val + r.val, by have := row_lt t; omega⟩ e) := by
  have := row_lt t
  blk_point [iblk, V_main_arg0, idx t]
theorem blk1 (z : Fin 1) (e : Fin 2048) : iblk m c 1 t (ix2 z e) = aG m c (ix2 z e) := by
  blk_point [iblk, V_main_arg1, idx t]

/-- The block's rows are the reference's rows. -/
theorem out_at (r : Fin 512) (e : Fin 2048) :
    k0_pay1 (iblk m c 0 t) (iblk m c 1 t) (ix2 r e) = Cert.NormRefIdeal.Value.REF (aH m c) (aG m c) (ix2 ⟨512 * t.val + r.val, by have := row_lt t; omega⟩ e) := by
  rw [pay1_at, Cert.NormRefIdeal.Value.REF_at]
  exact congrArg₂ (fun a g => MlpMath.rms a g e) (funext fun x => blk0 m c t r x) (funext fun x => blk1 m c t 0 x)

/-- The array of normalised rows after the run is the reference's. -/
theorem final : (dats m 0 c).arrAt 2 cfg0.N = Cert.NormRefIdeal.Value.REF (aH m c) (aG m c) := by
  refine (dats m 0 c).arrAt_eq_of_covers 2 _ (by decide +kernel) fun t _ y => ?_
  blk_simp
  rw [after0_2]
  unfold out0_2
  rw [View.canon_cons_unit_lit _ _ _ (by decide), View.ld_unit_lit _ _ (by decide), View.ld_unit_lit _ _ (by decide)]
  obtain ⟨r, j, rfl⟩ : ∃ (r : Fin 512) (j : Fin 2048), y = ix2 r j := ⟨y 0, y 1, by ext a; fin_cases a <;> rfl⟩
  refine (out_at m c t r j).trans ?_
  have := row_lt t
  blk_ext [idx t]

end

end Cert.NormIdeal.Value

end
-- ==== Proof.NormV.Claims.lean ====
/- The value claims about the normalisation's call. -/
module

public import proofs.«01_k».proof.Defs
public import proofs.«01_k».proof.Proof.Gen.Norm
public import proofs.«01_k».proof.Proof.NormV.Value
public import proofs.«01_k».proof.Proof.Gen.NormRefIdeal.Run
public import Idealize.ShloMosaic.Lib.Claim
public import Idealize.ShloMosaic.Lib.Quiescent

@[expose] public section

noncomputable section

namespace Cert.Proof.Norm

open Idealize.ShloMosaic Idealize.SL.Sem

/-- Every run of the idealized kernel ends with the reference's result and its arguments as they were. -/
theorem run_kernel (m : (ℓ : Loc Cert.NormIdeal.nD Cert.NormIdeal.τ Cert.NormIdeal.sig) → Buf (Elt Ideal) ℓ) (g : Dev Cert.NormIdeal.nD → PrngReg) :
    θ_run (Cert.NormIdeal.defs (F := Ideal)) (onTc (τ := Cert.NormIdeal.τ) (Cert.NormIdeal.main (F := Ideal))) ⟨m, fun _ => 0, g⟩ (fun r => ∀ c : Dev Cert.NormIdeal.nD,
      r.2.mem ((c.tc : Thread Cert.NormIdeal.nD Cert.NormIdeal.τ).loc Cert.NormIdeal.main_v0) = Cert.NormRefIdeal.Value.REF (m ((c.tc : Thread Cert.NormIdeal.nD Cert.NormIdeal.τ).loc Cert.NormIdeal.main_arg0)) (m ((c.tc : Thread Cert.NormIdeal.nD Cert.NormIdeal.τ).loc Cert.NormIdeal.main_arg1))
      ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)) :=
  (θ_run _ _ _).mono (fun r h c => ⟨((h c).1).trans (Cert.NormIdeal.Value.final m c), (h c).2⟩) (Cert.NormIdeal.Value.run_blocks m g)

/-- Every run of the idealized reference ends with its result and its arguments as they were. -/
theorem run_reference (m : (ℓ : Loc Cert.NormRefIdeal.nD Cert.NormRefIdeal.τ Cert.NormRefIdeal.sig) → Buf (Elt Ideal) ℓ) (g : Dev Cert.NormRefIdeal.nD → PrngReg) :
    θ_run (Cert.NormRefIdeal.defs (F := Ideal)) (onTc (τ := Cert.NormRefIdeal.τ) (Cert.NormRefIdeal.main (F := Ideal))) ⟨m, fun _ => 0, g⟩ (fun r => ∀ c : Dev Cert.NormRefIdeal.nD,
      r.2.mem ((c.tc : Thread Cert.NormRefIdeal.nD Cert.NormRefIdeal.τ).loc Cert.NormRefIdeal.main_v14) = Cert.NormRefIdeal.Value.REF (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1))
      ∧ r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)) :=
  (θ_run _ _ _).mono (fun r h c => ⟨((h c).1).trans (Eq.symm (Cert.NormRefIdeal.Value.REF_eq _ _)), (h c).2⟩) (Cert.NormRefIdeal.Value.run m g)

/-- The idealized kernel and the idealized reference end with the same result. -/
theorem algebraic : Cert.algebraic_NormIdeal_NormRefIdeal := fun m g m' g' _ hagree =>
  ⟨fun c => Cert.NormRefIdeal.Value.REF (m ((c.tc : Thread Cert.NormIdeal.nD Cert.NormIdeal.τ).loc Cert.NormIdeal.main_arg0)) (m ((c.tc : Thread Cert.NormIdeal.nD Cert.NormIdeal.τ).loc Cert.NormIdeal.main_arg1)), run_kernel m g,
    (θ_run _ _ _).mono (fun r h c => ⟨((h c).1).trans (by rw [(hagree c).1, (hagree c).2]), (h c).2⟩) (run_reference m' g')⟩

/-- The idealized reference leaves its arguments and every counter as they were. -/
theorem frame_reference : Cert.quiescent_NormRefIdeal := by
  exact fun m g _ => (θ_run _ _ _).mono (fun r h => ⟨fun c => (h c).2, sem_eq_zero_of_no_sems rfl r.2⟩) (run_reference m g)

/-- The idealized kernel is the kernel's own text. -/
theorem preserves : Cert.preserves_Norm_NormIdeal := trivial

end Cert.Proof.Norm

end
-- ==== Proof.NormGateV.Ref.lean ====
/- The reference of the normalisation and gate call read at an index. -/
module

public import proofs.«01_k».proof.Proof.Gen.NormGateRefIdeal.Run
public import proofs.«01_k».proof.Proof.MlpV.Math
public import Idealize.ShloMosaic.Lib.Pointwise

@[expose] public section

set_option maxRecDepth 16384

noncomputable section

namespace Cert.NormGateRefIdeal.Value

open Cert.NormGateRefIdeal Cert.NormGateRefIdeal.Gen Idealize.ShloMosaic Idealize.ShloMosaic.TcCoe Idealize.SL.Sem

section

variable (V : FVec Ideal S8192x2048 .f32) (G : FVec Ideal S1x2048 .f32)

/-- The mean-square normalisation of an array's rows. -/
def NRM : FVec Ideal S8192x2048 .f32 :=
  mulf (mulf V (broadcastInDim S8192x2048 ![0, 1] bcast_S8192x1_S8192x2048_0_1 (Host.rsqrt (addf (Host.divf (broadcastInDim S8192x1 ![0] bcast_S8192_S8192x1_0 (Host.reduceAdd (mulf V V) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048)))
/-- The reference's normalised rows. -/
def REF : FVec Ideal S8192x2048 .bf16 := truncf .bf16 (NRM V G) bitsLt_bf16_f32

theorem REF_eq : REF V G = truncf .bf16 (mulf (mulf V (broadcastInDim S8192x2048 ![0, 1] bcast_S8192x1_S8192x2048_0_1 (Host.rsqrt (addf (Host.divf (broadcastInDim S8192x1 ![0] bcast_S8192_S8192x1_0 (Host.reduceAdd (mulf V V) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048)))) bitsLt_bf16_f32 := by
  unfold REF NRM; rfl

theorem NRM_at (r : Fin 8192) (e : Fin 2048) :
    NRM V G (ix2 r e) = MlpMath.rms (fun x => V (ix2 r x)) (fun x => G (ix2 0 x)) e := by
  pointwise [NRM]
  rfl

/-- The normalised entry. -/
theorem REF_at (r : Fin 8192) (e : Fin 2048) :
    REF V G (ix2 r e) = MlpMath.rms (fun x => V (ix2 r x)) (fun x => G (ix2 0 x)) e :=
  NRM_at V G r e

variable (W : FVec Ideal S2048x128 .bf16) (B : FVec Ideal S1x128 .f32)

/-- The reference's gates. -/
def GREF : FVec Ideal S8192x128 .f32 :=
  Host.divf (broadcastInDim S8192x128 ![] bcast_S_S8192x128 (constant S_ .f32 0x3F800000#32)) (addf (broadcastInDim S8192x128 ![] bcast_S_S8192x128 (constant S_ .f32 0x3F800000#32)) (Host.exp (Host.negf (addf (Host.dotGeneral dot_S8192x2048_S2048x128_S8192x128_1_0_0_1_n_n none (NRM V G) (extf .f32 W bitsLt_bf16_f32)) (broadcastInDim S8192x128 ![0, 1] bcast_S1x128_S8192x128_0_1 (broadcastInDim S1x128 ![1] bcast_S128_S1x128_1 (shapeCast _ B shapeCasts_S1x128_S128)))))))

theorem GREF_eq : GREF V G W B = Host.divf (broadcastInDim S8192x128 ![] bcast_S_S8192x128 (constant S_ .f32 0x3F800000#32)) (addf (broadcastInDim S8192x128 ![] bcast_S_S8192x128 (constant S_ .f32 0x3F800000#32)) (Host.exp (Host.negf (addf (Host.dotGeneral dot_S8192x2048_S2048x128_S8192x128_1_0_0_1_n_n none (mulf (mulf V (broadcastInDim S8192x2048 ![0, 1] bcast_S8192x1_S8192x2048_0_1 (Host.rsqrt (addf (Host.divf (broadcastInDim S8192x1 ![0] bcast_S8192_S8192x1_0 (Host.reduceAdd (mulf V V) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048)))) (extf .f32 W bitsLt_bf16_f32)) (broadcastInDim S8192x128 ![0, 1] bcast_S1x128_S8192x128_0_1 (broadcastInDim S1x128 ![1] bcast_S128_S1x128_1 (shapeCast _ B shapeCasts_S1x128_S128))))))) := by
  unfold GREF NRM; rfl

/-- A gate: the logistic of the normalised row's product with a column, plus the bias. -/
theorem GREF_at (r : Fin 8192) (e : Fin 128) :
    GREF V G W B (ix2 r e) = Ideal.logistic ((∑ x : Fin 2048, MlpMath.rms (fun x => V (ix2 r x)) (fun x => G (ix2 0 x)) x * W (ix2 x e)) + B (ix2 0 e)) := by
  pointwise [GREF]
  simp only [NRM_at]
  rfl

end

end Cert.NormGateRefIdeal.Value

end
-- ==== Proof.NormGateV.Value.lean ====
/- The normalisation and gate call's result arrays. -/
module

public import proofs.«01_k».proof.Proof.NormGateV.Ref
public import proofs.«01_k».proof.Proof.Gen.NormGateIdeal.Value
public import Idealize.ShloMosaic.Lib.Pipeline.ValueKit

@[expose] public section

set_option maxRecDepth 16384

noncomputable section

namespace Cert.NormGateIdeal.Value

open Cert.NormGateIdeal Cert.NormGateIdeal.Gen Idealize.ShloMosaic Idealize.ShloMosaic.TcCoe Idealize.SL.Sem

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, _)

theorem pay1_at (v : Vec Ideal S512x2048 .f32) (g : Vec Ideal S1x2048 .f32) (r : Fin 512) (e : Fin 2048) :
    k0_pay1 v g (ix2 r e) = MlpMath.rms (fun x => v (ix2 r x)) (fun x => g (ix2 0 x)) e := by
  pointwise [k0_pay1]
  rfl

section

variable (c : Dev nD)

/-- The argument arrays, as the reference types them. -/
abbrev aH : FVec Ideal Cert.NormGateRefIdeal.S8192x2048 .f32 := m ((c.tc : Thread nD τ).loc main_arg0)
abbrev aG : FVec Ideal Cert.NormGateRefIdeal.S1x2048 .f32 := m ((c.tc : Thread nD τ).loc main_arg1)
abbrev aW : FVec Ideal Cert.NormGateRefIdeal.S2048x128 .bf16 := m ((c.tc : Thread nD τ).loc main_arg2)
abbrev aB : FVec Ideal Cert.NormGateRefIdeal.S1x128 .f32 := m ((c.tc : Thread nD τ).loc main_arg3)

variable (t : Fin cfg0.N)

theorem row_lt (t : Fin cfg0.N) : t.val < 16 := lt_of_lt_of_eq t.isLt N_0

theorem blk0 (r : Fin 512) (e : Fin 2048) : iblk m c 0 t (ix2 r e) = aH m c (ix2 ⟨512 * t.val + r.val, by have := row_lt t; omega⟩ e) := by
  have := row_lt t
  blk_point [iblk, V_main_arg0, idx t]
theorem blk1 (z : Fin 1) (e : Fin 2048) : iblk m c 1 t (ix2 z e) = aG m c (ix2 z e) := by
  blk_point [iblk, V_main_arg1, idx t]

/-- The block's rows are the reference's rows. -/
theorem out_at (r : Fin 512) (e : Fin 2048) :
    k0_pay1 (iblk m c 0 t) (iblk m c 1 t) (ix2 r e) = Cert.NormGateRefIdeal.Value.REF (aH m c) (aG m c) (ix2 ⟨512 * t.val + r.val, by have := row_lt t; omega⟩ e) := by
  rw [pay1_at, Cert.NormGateRefIdeal.Value.REF_at]
  exact congrArg₂ (fun a g => MlpMath.rms a g e) (funext fun x => blk0 m c t r x) (funext fun x => blk1 m c t 0 x)

/-- The array of normalised rows after the run is the reference's. -/
theorem final4 : (dats m 0 c).arrAt 4 cfg0.N = Cert.NormGateRefIdeal.Value.REF (aH m c) (aG m c) := by
  refine (dats m 0 c).arrAt_eq_of_covers 4 _ (by decide +kernel) fun t _ y => ?_
  blk_simp
  rw [after0_4]
  unfold out0_4
  rw [View.canon_cons_unit_lit _ _ _ (by decide), View.ld_unit_lit _ _ (by decide), View.ld_unit_lit _ _ (by decide)]
  obtain ⟨r, j, rfl⟩ : ∃ (r : Fin 512) (j : Fin 2048), y = ix2 r j := ⟨y 0, y 1, by ext a; fin_cases a <;> rfl⟩
  refine (out_at m c t r j).trans ?_
  have := row_lt t
  blk_ext [idx t]

theorem pay2_at (v : Vec Ideal S512x2048 .f32) (g : Vec Ideal S1x2048 .f32) (w : Vec Ideal S2048x128 .bf16) (b : Vec Ideal S1x128 .f32) (r : Fin 512) (e : Fin 128) :
    k0_pay2 v g w b (ix2 r e) = Ideal.logistic ((∑ x : Fin 2048, MlpMath.rms (fun x => v (ix2 r x)) (fun x => g (ix2 0 x)) x * w (ix2 x e)) + b (ix2 0 e)) := by
  pointwise [k0_pay2]
  simp only [pay1_at]

theorem blk2 (x : Fin 2048) (e : Fin 128) : iblk m c 2 t (ix2 x e) = aW m c (ix2 x e) := by
  blk_point [iblk, V_main_arg2, idx t]
theorem blk3 (z : Fin 1) (e : Fin 128) : iblk m c 3 t (ix2 z e) = aB m c (ix2 z e) := by
  blk_point [iblk, V_main_arg3, idx t]

/-- The block's gates are the reference's. -/
theorem gate_at (r : Fin 512) (e : Fin 128) :
    k0_pay2 (iblk m c 0 t) (iblk m c 1 t) (iblk m c 2 t) (iblk m c 3 t) (ix2 r e) = Cert.NormGateRefIdeal.Value.GREF (aH m c) (aG m c) (aW m c) (aB m c) (ix2 ⟨512 * t.val + r.val, by have := row_lt t; omega⟩ e) := by
  rw [pay2_at, Cert.NormGateRefIdeal.Value.GREF_at]
  simp only [blk0, blk1, blk2, blk3]

/-- The array of gates after the run is the reference's. -/
theorem final5 : (dats m 0 c).arrAt 5 cfg0.N = Cert.NormGateRefIdeal.Value.GREF (aH m c) (aG m c) (aW m c) (aB m c) := by
  refine (dats m 0 c).arrAt_eq_of_covers 5 _ (by decide +kernel) fun t _ y => ?_
  blk_simp
  rw [after0_5]
  unfold out0_5
  rw [View.canon_cons_unit_lit _ _ _ (by decide), View.ld_unit_lit _ _ (by decide), View.ld_unit_lit _ _ (by decide), View.ld_unit_lit _ _ (by decide), View.ld_unit_lit _ _ (by decide)]
  obtain ⟨r, j, rfl⟩ : ∃ (r : Fin 512) (j : Fin 128), y = ix2 r j := ⟨y 0, y 1, by ext a; fin_cases a <;> rfl⟩
  refine (gate_at m c t r j).trans ?_
  have := row_lt t
  blk_ext [idx t]

end

end Cert.NormGateIdeal.Value

end
-- ==== Proof.NormGateV.Claims.lean ====
/- The value claims about the normalisation and gate call. -/
module

public import proofs.«01_k».proof.Defs
public import proofs.«01_k».proof.Proof.Gen.NormGate
public import proofs.«01_k».proof.Proof.NormGateV.Value
public import proofs.«01_k».proof.Proof.Gen.NormGateRefIdeal.Run
public import Idealize.ShloMosaic.Lib.Claim
public import Idealize.ShloMosaic.Lib.Quiescent

@[expose] public section

noncomputable section

namespace Cert.Proof.NormGate

open Idealize.ShloMosaic Idealize.SL.Sem

/-- Every run of the idealized kernel ends with the reference's result and its arguments as they were. -/
theorem run_kernel (m : (ℓ : Loc Cert.NormGateIdeal.nD Cert.NormGateIdeal.τ Cert.NormGateIdeal.sig) → Buf (Elt Ideal) ℓ) (g : Dev Cert.NormGateIdeal.nD → PrngReg) :
    θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
      r.2.mem ((c.tc : Thread Cert.NormGateIdeal.nD Cert.NormGateIdeal.τ).loc Cert.NormGateIdeal.main_v0_0) = Cert.NormGateRefIdeal.Value.REF (m ((c.tc : Thread Cert.NormGateIdeal.nD Cert.NormGateIdeal.τ).loc Cert.NormGateIdeal.main_arg0)) (m ((c.tc : Thread Cert.NormGateIdeal.nD Cert.NormGateIdeal.τ).loc Cert.NormGateIdeal.main_arg1))
      ∧ r.2.mem ((c.tc : Thread Cert.NormGateIdeal.nD Cert.NormGateIdeal.τ).loc Cert.NormGateIdeal.main_v0_1) = Cert.NormGateRefIdeal.Value.GREF (m ((c.tc : Thread Cert.NormGateIdeal.nD Cert.NormGateIdeal.τ).loc Cert.NormGateIdeal.main_arg0)) (m ((c.tc : Thread Cert.NormGateIdeal.nD Cert.NormGateIdeal.τ).loc Cert.NormGateIdeal.main_arg1)) (m ((c.tc : Thread Cert.NormGateIdeal.nD Cert.NormGateIdeal.τ).loc Cert.NormGateIdeal.main_arg2)) (m ((c.tc : Thread Cert.NormGateIdeal.nD Cert.NormGateIdeal.τ).loc Cert.NormGateIdeal.main_arg3))
      ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
      ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)) :=
  (θ_run _ _ _).mono (fun r h c => ⟨((h c).1).trans (Cert.NormGateIdeal.Value.final4 m c), ((h c).2.1).trans (Cert.NormGateIdeal.Value.final5 m c), (h c).2.2⟩) (Cert.NormGateIdeal.Value.run_blocks m g)

/-- Every run of the idealized reference ends with its result and its arguments as they were. -/
theorem run_reference (m : (ℓ : Loc Cert.NormGateRefIdeal.nD Cert.NormGateRefIdeal.τ Cert.NormGateRefIdeal.sig) → Buf (Elt Ideal) ℓ) (g : Dev Cert.NormGateRefIdeal.nD → PrngReg) :
    θ_run (Cert.NormGateRefIdeal.defs (F := Ideal)) (onTc (τ := Cert.NormGateRefIdeal.τ) (Cert.NormGateRefIdeal.main (F := Ideal))) ⟨m, fun _ => 0, g⟩ (fun r => ∀ c : Dev Cert.NormGateRefIdeal.nD,
      r.2.mem ((c.tc : Thread Cert.NormGateRefIdeal.nD Cert.NormGateRefIdeal.τ).loc Cert.NormGateRefIdeal.main_v14) = Cert.NormGateRefIdeal.Value.REF (m ((c.tc : Thread Cert.NormGateRefIdeal.nD Cert.NormGateRefIdeal.τ).loc Cert.NormGateRefIdeal.main_arg0)) (m ((c.tc : Thread Cert.NormGateRefIdeal.nD Cert.NormGateRefIdeal.τ).loc Cert.NormGateRefIdeal.main_arg1))
      ∧ r.2.mem ((c.tc : Thread Cert.NormGateRefIdeal.nD Cert.NormGateRefIdeal.τ).loc Cert.NormGateRefIdeal.main_v26) = Cert.NormGateRefIdeal.Value.GREF (m ((c.tc : Thread Cert.NormGateRefIdeal.nD Cert.NormGateRefIdeal.τ).loc Cert.NormGateRefIdeal.main_arg0)) (m ((c.tc : Thread Cert.NormGateRefIdeal.nD Cert.NormGateRefIdeal.τ).loc Cert.NormGateRefIdeal.main_arg1)) (m ((c.tc : Thread Cert.NormGateRefIdeal.nD Cert.NormGateRefIdeal.τ).loc Cert.NormGateRefIdeal.main_arg2)) (m ((c.tc : Thread Cert.NormGateRefIdeal.nD Cert.NormGateRefIdeal.τ).loc Cert.NormGateRefIdeal.main_arg3))
      ∧ r.2.mem ((c.tc : Thread Cert.NormGateRefIdeal.nD Cert.NormGateRefIdeal.τ).loc Cert.NormGateRefIdeal.main_arg0) = m ((c.tc : Thread Cert.NormGateRefIdeal.nD Cert.NormGateRefIdeal.τ).loc Cert.NormGateRefIdeal.main_arg0)
      ∧ r.2.mem ((c.tc : Thread Cert.NormGateRefIdeal.nD Cert.NormGateRefIdeal.τ).loc Cert.NormGateRefIdeal.main_arg1) = m ((c.tc : Thread Cert.NormGateRefIdeal.nD Cert.NormGateRefIdeal.τ).loc Cert.NormGateRefIdeal.main_arg1)
      ∧ r.2.mem ((c.tc : Thread Cert.NormGateRefIdeal.nD Cert.NormGateRefIdeal.τ).loc Cert.NormGateRefIdeal.main_arg2) = m ((c.tc : Thread Cert.NormGateRefIdeal.nD Cert.NormGateRefIdeal.τ).loc Cert.NormGateRefIdeal.main_arg2)
      ∧ r.2.mem ((c.tc : Thread Cert.NormGateRefIdeal.nD Cert.NormGateRefIdeal.τ).loc Cert.NormGateRefIdeal.main_arg3) = m ((c.tc : Thread Cert.NormGateRefIdeal.nD Cert.NormGateRefIdeal.τ).loc Cert.NormGateRefIdeal.main_arg3)) :=
  (θ_run _ _ _).mono (fun r h c => ⟨((h c).1).trans (Eq.symm (Cert.NormGateRefIdeal.Value.REF_eq _ _)), ((h c).2.1).trans (Eq.symm (Cert.NormGateRefIdeal.Value.GREF_eq _ _ _ _)), (h c).2.2⟩) (Cert.NormGateRefIdeal.Value.run m g)

/-- The idealized kernel and the idealized reference end with the same result. -/
theorem algebraic : Cert.algebraic_NormGateIdeal_NormGateRefIdeal := fun m g m' g' _ hagree =>
  ⟨fun c => Cert.NormGateRefIdeal.Value.REF (m ((c.tc : Thread Cert.NormGateIdeal.nD Cert.NormGateIdeal.τ).loc Cert.NormGateIdeal.main_arg0)) (m ((c.tc : Thread Cert.NormGateIdeal.nD Cert.NormGateIdeal.τ).loc Cert.NormGateIdeal.main_arg1)), fun c => Cert.NormGateRefIdeal.Value.GREF (m ((c.tc : Thread Cert.NormGateIdeal.nD Cert.NormGateIdeal.τ).loc Cert.NormGateIdeal.main_arg0)) (m ((c.tc : Thread Cert.NormGateIdeal.nD Cert.NormGateIdeal.τ).loc Cert.NormGateIdeal.main_arg1)) (m ((c.tc : Thread Cert.NormGateIdeal.nD Cert.NormGateIdeal.τ).loc Cert.NormGateIdeal.main_arg2)) (m ((c.tc : Thread Cert.NormGateIdeal.nD Cert.NormGateIdeal.τ).loc Cert.NormGateIdeal.main_arg3)), run_kernel m g,
    (θ_run _ _ _).mono (fun r h c => ⟨((h c).1).trans (by rw [(hagree c).1, (hagree c).2.1]), ((h c).2.1).trans (by rw [(hagree c).1, (hagree c).2.1, (hagree c).2.2.1, (hagree c).2.2.2]), (h c).2.2⟩) (run_reference m' g')⟩

/-- The idealized reference leaves its arguments and every counter as they were. -/
theorem frame_reference : Cert.quiescent_NormGateRefIdeal := by
  exact fun m g _ => (θ_run _ _ _).mono (fun r h => ⟨fun c => (h c).2.2, sem_eq_zero_of_no_sems rfl r.2⟩) (run_reference m g)

/-- The idealized kernel is the kernel's own text. -/
theorem preserves : Cert.preserves_NormGate_NormGateIdeal := trivial

end Cert.Proof.NormGate

end
-- ==== Proof.NsaV.Math.lean ====
/- Softmax over the extended reals, keys as natural numbers: the running maximum and the running weighted sum over the keys below a
   number, and how they pass from one block of keys to the next. -/
module

public import Idealize.ShloMosaic.PureOps.Ideal

@[expose] public section

noncomputable section

namespace Cert.NsaMath

open Idealize.ShloMosaic

/-- The largest score below `n`. -/
def mx (s : ℕ → EReal) (n : ℕ) : EReal := (Finset.range n).sup s

/-- The sum of the values below `n`, weighted by the exponential of the score less the largest one. -/
def ac (s v : ℕ → EReal) (n : ℕ) : EReal := ∑ k ∈ Finset.range n, Ideal.exp (s k - mx s n) * v k

theorem exp_nonneg (x : EReal) : 0 ≤ Ideal.exp x := by
  induction x with
  | bot => simp
  | top => simp
  | coe r => rw [Ideal.exp_coe]; exact EReal.coe_nonneg.2 (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {a b : EReal} (h : a ≤ b) : a - b ≠ ⊤ := by
  induction b with
  | bot => rw [le_bot_iff.1 h]; simp
  | top => simp
  | coe r =>
    induction a with
    | bot => simp
    | top => simp at h
    | coe q => rw [← EReal.coe_sub]; exact EReal.coe_ne_top _

/-- Rescaling a weight from one maximum to a larger one. -/
theorem exp_comp {s m n : EReal} (h : s ≤ m) (h' : m ≤ n) : Ideal.exp (m - n) * Ideal.exp (s - m) = Ideal.exp (s - n) := by
  induction s with
  | bot => simp
  | top =>
    obtain rfl := top_le_iff.1 h
    obtain rfl := top_le_iff.1 h'
    simp
  | coe a =>
    induction n with
    | bot => obtain rfl := le_bot_iff.1 h'; simp at h
    | top => simp
    | coe c =>
      induction m with
      | bot => simp at h
      | top => simp at h'
      | coe b =>
        rw [← EReal.coe_sub, ← EReal.coe_sub, ← EReal.coe_sub, Ideal.exp_coe, Ideal.exp_coe, Ideal.exp_coe, ← EReal.coe_mul, ← Real.exp_add]
        congr 2; ring

theorem mul_sum {ι : Type} (t : Finset ι) (f : ι → EReal) {c : EReal} (h : 0 ≤ c) (h' : c ≠ ⊤) : c * ∑ i ∈ t, f i = ∑ i ∈ t, c * f i := by
  classical
  induction t using Finset.induction_on with
  | empty => simp
  | insert a t ha ih => rw [Finset.sum_insert ha, Finset.sum_insert ha, EReal.left_distrib_of_nonneg_of_ne_top h h', ih]

theorem mx_mono (s : ℕ → EReal) {n n' : ℕ} (h : n ≤ n') : mx s n ≤ mx s n' := Finset.sup_mono (Finset.range_mono h)

theorem le_mx (s : ℕ → EReal) {k n : ℕ} (h : k < n) : s k ≤ mx s n := Finset.le_sup (f := s) (Finset.mem_range.2 h)

theorem mx_zero (s : ℕ → EReal) : mx s 0 = ⊥ := rfl
theorem ac_zero (s v : ℕ → EReal) : ac s v 0 = 0 := rfl

theorem fold_eq_sup {n : ℕ} (f : Fin n → EReal) : Finset.fold max ⊥ f Finset.univ = Finset.univ.sup f := rfl

/-- The maximum over one more block. -/
theorem mx_add (s : ℕ → EReal) (n b : ℕ) : mx s (n + b) = max (mx s n) (Finset.fold max ⊥ (fun j : Fin b => s (n + j.val)) Finset.univ) := by
  rw [fold_eq_sup]
  refine le_antisymm (Finset.sup_le fun k hk => ?_) (max_le (mx_mono s (Nat.le_add_right ..)) (Finset.sup_le fun j _ => le_mx s (by omega)))
  have hk := Finset.mem_range.1 hk
  by_cases h : k < n
  · exact le_max_of_le_left (le_mx s h)
  · refine le_max_of_le_right ?_
    have e := Finset.le_sup (f := fun j : Fin b => s (n + j.val)) (Finset.mem_univ (⟨k - n, by omega⟩ : Fin b))
    have e2 : n + (k - n) = k := by omega
    simpa only [e2] using e

/-- The weighted sum over one more block. -/
theorem ac_add (s v : ℕ → EReal) (n b : ℕ) :
    ac s v (n + b) = Ideal.exp (mx s n - mx s (n + b)) * ac s v n + ∑ j : Fin b, Ideal.exp (s (n + j.val) - mx s (n + b)) * v (n + j.val) := by
  have hm := mx_mono s (Nat.le_add_right n b)
  unfold ac
  rw [mul_sum _ _ (exp_nonneg _) (exp_ne_top (sub_ne_top hm)), Finset.sum_range_add,
    Fin.sum_univ_eq_sum_range (fun j => Ideal.exp (s (n + j) - mx s (n + b)) * v (n + j)) b]
  congr 1
  exact Finset.sum_congr rfl fun k hk => by
    rw [← mul_assoc, exp_comp (le_mx s (Finset.mem_range.1 hk)) hm]

/-- Masked keys past `n` change nothing. -/
theorem mx_tail (s : ℕ → EReal) {n n' : ℕ} (h : n ≤ n') (hs : ∀ k, n ≤ k → k < n' → s k = ⊥) : mx s n' = mx s n := by
  refine le_antisymm (Finset.sup_le fun k hk => ?_) (mx_mono s h)
  by_cases hk' : k < n
  · exact le_mx s hk'
  · rw [hs k (by omega) (Finset.mem_range.1 hk)]; exact bot_le

theorem ac_tail (s v : ℕ → EReal) {n n' : ℕ} (h : n ≤ n') (hs : ∀ k, n ≤ k → k < n' → s k = ⊥) : ac s v n' = ac s v n := by
  unfold ac
  rw [mx_tail s h hs, ← Finset.sum_range_add_sum_Ico _ h, Finset.sum_eq_zero (s := Finset.Ico n n'), add_zero]
  intro k hk
  have hk := Finset.mem_Ico.1 hk
  rw [hs k hk.1 hk.2]; simp

/-- A window outside which every key is masked: the maximum. -/
theorem mx_window (s : ℕ → EReal) {a b n : ℕ} (h : a + b ≤ n) (hs : ∀ k, k < n → ¬ (a ≤ k ∧ k < a + b) → s k = ⊥) :
    Finset.fold max ⊥ (fun j : Fin b => s (a + j.val)) Finset.univ = mx s n := by
  have e0 : mx s a = ⊥ := by
    refine le_bot_iff.1 (Finset.sup_le fun k hk => ?_)
    have hk := Finset.mem_range.1 hk
    rw [hs k (by omega) (by omega)]
  rw [mx_tail s h fun k h1 h2 => hs k h2 (by omega), mx_add, e0, max_eq_right bot_le]

/-- A window outside which every key is masked: the weighted sum. -/
theorem ac_window (s v : ℕ → EReal) {a b n : ℕ} (h : a + b ≤ n) (hs : ∀ k, k < n → ¬ (a ≤ k ∧ k < a + b) → s k = ⊥) :
    ∑ j : Fin b, Ideal.exp (s (a + j.val) - mx s n) * v (a + j.val) = ac s v n := by
  unfold ac
  rw [Fin.sum_univ_eq_sum_range (fun j => Ideal.exp (s (a + j) - mx s n) * v (a + j)) b]
  rw [← Finset.sum_range_add_sum_Ico _ h, Finset.sum_range_add, Finset.sum_eq_zero (s := Finset.range a), Finset.sum_eq_zero (s := Finset.Ico (a + b) n), add_zero, zero_add]
  · intro k hk
    have hk := Finset.mem_Ico.1 hk
    rw [hs k hk.2 (by omega)]; simp
  · intro k hk
    have hk := Finset.mem_range.1 hk
    rw [hs k (by omega) (by omega)]; simp

/-- The maximum over all keys, as one fold. -/
theorem fold_all (s : ℕ → EReal) (n : ℕ) : Finset.fold max ⊥ (fun j : Fin n => s j.val) Finset.univ = mx s n := by
  have := mx_add s 0 n
  rw [mx_zero, max_eq_right bot_le] at this
  simpa only [Nat.zero_add] using this.symm

/-- A branch: the weighted sum of the values over the sum of the weights. -/
def br (s v : ℕ → EReal) : EReal := Ideal.div (ac s v 8192) (ac s (fun _ => 1) 8192)

/-- An entry of a head's row over the root of the mean square of the row, times a gain. -/
def nrm (f : Fin 128 → EReal) (d : Fin 128) (w : EReal) : EReal :=
  f d * Ideal.rsqrt (Ideal.div (∑ e : Fin 128, f e * f e) (Ideal.ofBits .f32 0x43000000#32) + Ideal.ofBits .f32 0x358637BD#32) * w

theorem toInt_nat (a : ℕ) (ha : a < 8192) : (BitVec.ofNat 32 a).toInt = (a : Int) := by
  rw [BitVec.toInt_eq_toNat_cond, BitVec.toNat_ofNat]
  split <;> omega

theorem sge_eq (a b : ℕ) (ha : a < 8192) (hb : b < 8192) :
    IntOp.cmpi CmpIPredicate.sge (IntOp.subi (BitVec.ofNat 32 a) (BitVec.ofNat 32 b)) 0#32 = if b ≤ a then 1#1 else 0#1 := by
  have e : (BitVec.ofNat 32 a - BitVec.ofNat 32 b).toInt = (a : Int) - b := by
    rw [BitVec.toInt_sub, toInt_nat a ha, toInt_nat b hb]; simp only [Int.bmod]; omega
  show IntOp.cmpi CmpIPredicate.sge (BitVec.ofNat 32 a - BitVec.ofNat 32 b) 0#32 = _
  generalize BitVec.ofNat 32 a - BitVec.ofNat 32 b = z at e
  have e0 : BitVec.toInt 0#32 = 0 := by decide
  unfold IntOp.cmpi
  by_cases h : b ≤ a
  · rw [if_pos h]; show BitVec.ofBool (BitVec.sle _ _) = _; unfold BitVec.sle; rw [e, e0, decide_eq_true (by omega)]; rfl
  · rw [if_neg h]; show BitVec.ofBool (BitVec.sle _ _) = _; unfold BitVec.sle; rw [e, e0, decide_eq_false (by omega)]; rfl

theorem slt_eq (a b : ℕ) (ha : a < 8192) (hb : b < 8192) :
    IntOp.cmpi CmpIPredicate.slt (IntOp.subi (BitVec.ofNat 32 a) (BitVec.ofNat 32 b)) 512#32 = if a < b + 512 then 1#1 else 0#1 := by
  have e : (BitVec.ofNat 32 a - BitVec.ofNat 32 b).toInt = (a : Int) - b := by
    rw [BitVec.toInt_sub, toInt_nat a ha, toInt_nat b hb]; simp only [Int.bmod]; omega
  show IntOp.cmpi CmpIPredicate.slt (BitVec.ofNat 32 a - BitVec.ofNat 32 b) 512#32 = _
  generalize BitVec.ofNat 32 a - BitVec.ofNat 32 b = z at e
  have e0 : BitVec.toInt 512#32 = 512 := by decide
  unfold IntOp.cmpi
  by_cases h : a < b + 512
  · rw [if_pos h]; show BitVec.ofBool (BitVec.slt _ _) = _; unfold BitVec.slt; rw [e, e0, decide_eq_true (by omega)]; rfl
  · rw [if_neg h]; show BitVec.ofBool (BitVec.slt _ _) = _; unfold BitVec.slt; rw [e, e0, decide_eq_false (by omega)]; rfl

end Cert.NsaMath
-- ==== Proof.NsaV.Tile.lean ====
/- One tile of the selected branch: its scores, and the step of the running maximum and of the running sums. -/
module

public import proofs.«01_k».proof.Proof.Gen.NsaIdeal.Value
public import proofs.«01_k».proof.Proof.NsaV.Math
public import Idealize.ShloMosaic.Lib.Pointwise
public import Idealize.ShloMosaic.Lib.WordCmp
public import Idealize.ShloMosaic.Lib.Pipeline.ValueKit

@[expose] public section

set_option maxRecDepth 16384

noncomputable section

namespace Cert.NsaIdeal.NsaV

open Cert.NsaIdeal Cert.NsaIdeal.Gen
open Idealize.ShloMosaic Idealize.ShloMosaic.TcCoe Idealize.SL.Sem

/-- The named constant is minus infinity. -/
theorem masked_eq : (Named.named (F := Ideal) κ "masked" 0xF149F2CA#32 : Ideal .f32) = ⊥ := by rfl

theorem neg_inf : (Ideal.ofBits FTy.f32 4286578688#32 : EReal) = ⊥ := by rfl

theorem pay15_at (s : FVec Ideal S1024x256 .f32) (m : FVec Ideal S1024x1 .f32) (R : Fin 1024) :
    k0_pay15 s m (ix2 R 0) = max (m (ix2 R 0)) (Finset.fold max ⊥ (fun j : Fin 256 => s (ix2 R j)) Finset.univ) := by
  pointwise [k0_pay15]
  rw [neg_inf]

theorem pay16_lo (s : FVec Ideal S1024x256 .f32) (m : FVec Ideal S1024x1 .f32) (acc : FVec Ideal S1024x256 .f32) (v : FVec Ideal S256x128 .bf16) (R : Fin 1024) (d : Fin 128) :
    k0_pay16 k0_pay12 s m acc v (ix2 R ⟨d.val, by omega⟩)
      = Ideal.exp (m (ix2 R 0) - k0_pay15 s m (ix2 R 0)) * acc (ix2 R ⟨d.val, by omega⟩) + ∑ j : Fin 256, Ideal.exp (s (ix2 R j) - k0_pay15 s m (ix2 R 0)) * v (ix2 j d) := by
  generalize h : k0_pay15 s m = M
  unfold k0_pay16
  rw [h]
  pointwise

theorem pay16_hi (s : FVec Ideal S1024x256 .f32) (m : FVec Ideal S1024x1 .f32) (acc : FVec Ideal S1024x256 .f32) (v : FVec Ideal S256x128 .bf16) (R : Fin 1024) (d : Fin 128) :
    k0_pay16 k0_pay12 s m acc v (ix2 R ⟨128 + d.val, by omega⟩)
      = Ideal.exp (m (ix2 R 0) - k0_pay15 s m (ix2 R 0)) * acc (ix2 R ⟨128 + d.val, by omega⟩) + ∑ j : Fin 256, Ideal.exp (s (ix2 R j) - k0_pay15 s m (ix2 R 0)) * 1 := by
  generalize h : k0_pay15 s m = M
  unfold k0_pay16
  rw [h]
  pointwise [k0_pay12]

/-- At row `R` and column `d` the running maximum and the running sums are those over the first `n` keys. -/
structure Good (s v : ℕ → EReal) (R : Fin 1024) (d : Fin 128) (n : ℕ) (m : FVec Ideal S1024x1 .f32) (a : FVec Ideal S1024x256 .f32) : Prop where
  max : m (ix2 R 0) = NsaMath.mx s n
  lo : a (ix2 R ⟨d.val, by omega⟩) = NsaMath.ac s v n
  hi : a (ix2 R ⟨128 + d.val, by omega⟩) = NsaMath.ac s (fun _ => 1) n

theorem good_zero (s v : ℕ → EReal) (R : Fin 1024) (d : Fin 128) : Good s v R d 0 k0_pay13 k0_pay14 := by
  refine ⟨?_, ?_, ?_⟩
  · pointwise [k0_pay13]
    rfl
  · rw [NsaMath.ac_zero]; pointwise [k0_pay14]
  · rw [NsaMath.ac_zero]; pointwise [k0_pay14]

/-- One tile of 256 keys. -/
theorem Good.step {s v : ℕ → EReal} {R : Fin 1024} {d : Fin 128} {n : ℕ} {m : FVec Ideal S1024x1 .f32} {a : FVec Ideal S1024x256 .f32} (h : Good s v R d n m a)
    {sc : FVec Ideal S1024x256 .f32} {vv : FVec Ideal S256x128 .bf16} (hs : ∀ j : Fin 256, sc (ix2 R j) = s (n + j.val)) (hv : ∀ j : Fin 256, vv (ix2 j d) = v (n + j.val)) :
    Good s v R d (n + 256) (k0_pay15 sc m) (k0_pay16 k0_pay12 sc m a vv) := by
  have e : k0_pay15 sc m (ix2 R 0) = NsaMath.mx s (n + 256) := by
    rw [pay15_at, h.max, NsaMath.mx_add]; simp only [hs]
  refine ⟨e, ?_, ?_⟩
  · rw [pay16_lo, e, h.lo, h.max, NsaMath.ac_add]; simp only [hs, hv]
  · rw [pay16_hi, e, h.hi, h.max, NsaMath.ac_add]; simp only [hs]

theorem pay11_lo (q1 q2 q3 q4 : Vec Ideal S256x128 .bf16) (sb : Vec Ideal S1x256x128 .bf16) (R : Fin 1024) (d : Fin 128) :
    k0_pay11 q1 q2 q3 q4 sb (ix2 R ⟨d.val, by omega⟩) = k0_pay10 q1 q2 q3 q4 (ix2 R d) := by
  pointwise [k0_pay11]

theorem pay11_hi (q1 q2 q3 q4 : Vec Ideal S256x128 .bf16) (sb : Vec Ideal S1x256x128 .bf16) (R : Fin 1024) (d : Fin 128) :
    k0_pay11 q1 q2 q3 q4 sb (ix2 R ⟨128 + d.val, by omega⟩) = sb (ix3 0 ⟨R.val % 256, by omega⟩ d) := by
  pointwise [k0_pay11]
  by_cases h1 : R.val < 256
  · rw [dif_pos h1]; exact congrArg (fun x => sb (ix3 0 x d)) (Fin.ext (by simp; omega))
  rw [dif_neg h1]
  by_cases h2 : R.val - 256 < 256
  · rw [dif_pos h2]; exact congrArg (fun x => sb (ix3 0 x d)) (Fin.ext (by simp; omega))
  rw [dif_neg h2]
  by_cases h3 : R.val - 256 - 256 < 256
  · rw [dif_pos h3]; exact congrArg (fun x => sb (ix3 0 x d)) (Fin.ext (by simp; omega))
  · rw [dif_neg h3]; exact congrArg (fun x => sb (ix3 0 x d)) (Fin.ext (by simp; omega))

/-- The scores of a tile: the product with the keys plus the product of the biases with the block columns. -/
theorem score_at (q1 q2 q3 q4 : Vec Ideal S256x128 .bf16) (sb : Vec Ideal S1x256x128 .bf16) (a b : FVec Ideal S256x128 .bf16) (R : Fin 1024) (j : Fin 256) :
    k0_pay2 (k0_pay11 q1 q2 q3 q4 sb) a b (ix2 R j) = ∑ x : Fin 128, k0_pay10 q1 q2 q3 q4 (ix2 R x) * a (ix2 j x)
      + ∑ x : Fin 128, sb (ix3 0 ⟨R.val % 256, by omega⟩ x) * b (ix2 j x) := by
  pointwise [k0_pay2, pay11_lo, pay11_hi]

theorem row_word (R : Fin 1024) : IntOp.andi (BitVec.ofNat 32 R.val) 255#32 = BitVec.ofNat 32 (R.val % 256) := by
  revert R; decide +kernel

theorem pay20_eq (v9 : FVec Ideal S1024x256 .bf16) (a b : Vec Ideal S256x128 .bf16) : k0_pay20 v9 a b = k0_pay2 v9 a b := rfl

theorem addi_nat (a b : ℕ) : IntOp.addi (BitVec.ofNat 32 a) (BitVec.ofNat 32 b) = BitVec.ofNat 32 (a + b) := (BitVec.ofNat_add ..).symm

theorem sle_nat (a b : ℕ) (ha : a < 8448) (hb : b < 8448) : IntOp.cmpi CmpIPredicate.sle (BitVec.ofNat 32 a) (BitVec.ofNat 32 b) = if a ≤ b then 1#1 else 0#1 := by
  rw [WordCmp.cmpi_sle_ofNat (w := 32) (by omega) (by omega)]
  by_cases h : a ≤ b <;> simp [h]

/-- The first half of the last tile, later keys masked. -/
theorem pay19_at (v0 v27 : BitVec 32) (a n : ℕ) (h0 : v0 = BitVec.ofNat 32 a) (h1 : Scalar.addi (Scalar.muli v27 512#32) 0#32 = BitVec.ofNat 32 n) (ha : a < 8192) (hn : n < 8192)
    (v9 : FVec Ideal S1024x256 .bf16) (x y : Vec Ideal S256x128 .bf16) (R : Fin 1024) (j : Fin 256) :
    k0_pay19 v0 v9 v27 x y (ix2 R j) = if n + j.val ≤ a + R.val % 256 then k0_pay2 v9 x y (ix2 R j) else ⊥ := by
  have e : k0_pay19 v0 v9 v27 x y = select (cmpi .sle (addi (broadcast S1024x256 (Scalar.addi (Scalar.muli v27 512#32) 0#32)) (iota .tc S1024x256 32 [1] iota_S1024x256_d1_w32)) (addi (broadcast S1024x256 v0) (andi (iota .tc S1024x256 32 [0] iota_S1024x256_d0_w32) (broadcast S1024x256 255#32)))) (k0_pay2 v9 x y) k0_pay22 := rfl
  rw [e]
  pointwise [row_word, k0_pay22]
  rw [h1, h0, addi_nat, addi_nat, sle_nat _ _ (by omega) (by omega), masked_eq]
  by_cases h : n + j.val ≤ a + R.val % 256
  · rw [if_pos h, if_pos h]; rfl
  · rw [if_neg h, if_neg h]; rfl

/-- The second half of the last tile, later keys masked. -/
theorem pay21_at (v0 v27 : BitVec 32) (a n : ℕ) (h0 : v0 = BitVec.ofNat 32 a) (h1 : Scalar.addi (Scalar.muli v27 512#32) 256#32 = BitVec.ofNat 32 n) (ha : a < 8192) (hn : n < 8192)
    (s : FVec Ideal S1024x256 .f32) (R : Fin 1024) (j : Fin 256) :
    select (k0_pay21 v0 v27) s k0_pay22 (ix2 R j) = if n + j.val ≤ a + R.val % 256 then s (ix2 R j) else ⊥ := by
  pointwise [k0_pay21, row_word, k0_pay22]
  rw [h1, h0, addi_nat, addi_nat, sle_nat _ _ (by omega) (by omega), masked_eq]
  by_cases h : n + j.val ≤ a + R.val % 256
  · rw [if_pos h, if_pos h]; rfl
  · rw [if_neg h, if_neg h]; rfl

theorem pay23_eq (m : FVec Ideal S1024x1 .f32) (a : FVec Ideal S1024x256 .f32) (s1 s2 : FVec Ideal S1024x256 .f32) (mk : IVec S1024x256 1) (c2 : FVec Ideal S1024x256 .f32) (v1 v2 : Vec Ideal S256x128 .bf16) :
    k0_pay23 k0_pay12 m a s1 s2 mk c2 v1 v2 = divf (extractStridedSlice S1024x128 ![0, 0] (k0_pay16 k0_pay12 (select mk s2 c2) (k0_pay15 s1 m) (k0_pay16 k0_pay12 s1 m a v1) v2) slices_S1024x256_o0_0_S1024x128)
      (extractStridedSlice S1024x128 ![0, 128] (k0_pay16 k0_pay12 (select mk s2 c2) (k0_pay15 s1 m) (k0_pay16 k0_pay12 s1 m a v1) v2) slices_S1024x256_o0_128_S1024x128) := rfl

theorem pay23_at (m : FVec Ideal S1024x1 .f32) (a : FVec Ideal S1024x256 .f32) (s1 s2 : FVec Ideal S1024x256 .f32) (mk : IVec S1024x256 1) (c2 : FVec Ideal S1024x256 .f32) (v1 v2 : Vec Ideal S256x128 .bf16)
    (R : Fin 1024) (d : Fin 128) : k0_pay23 k0_pay12 m a s1 s2 mk c2 v1 v2 (ix2 R d)
      = Ideal.div (k0_pay16 k0_pay12 (select mk s2 c2) (k0_pay15 s1 m) (k0_pay16 k0_pay12 s1 m a v1) v2 (ix2 R ⟨d.val, by omega⟩))
        (k0_pay16 k0_pay12 (select mk s2 c2) (k0_pay15 s1 m) (k0_pay16 k0_pay12 s1 m a v1) v2 (ix2 R ⟨128 + d.val, by omega⟩)) := by
  rw [pay23_eq]
  pointwise

/-- The selected branch from the state before the last tile. -/
theorem Good.last {s v : ℕ → EReal} {R : Fin 1024} {d : Fin 128} {n : ℕ} {m : FVec Ideal S1024x1 .f32} {a : FVec Ideal S1024x256 .f32} (h : Good s v R d n m a)
    {s1 s2 : FVec Ideal S1024x256 .f32} {mk : IVec S1024x256 1} {c2 : FVec Ideal S1024x256 .f32} {v1 v2 : Vec Ideal S256x128 .bf16}
    (hs1 : ∀ j : Fin 256, s1 (ix2 R j) = s (n + j.val)) (hv1 : ∀ j : Fin 256, v1 (ix2 j d) = v (n + j.val))
    (hs2 : ∀ j : Fin 256, select mk s2 c2 (ix2 R j) = s (n + 256 + j.val)) (hv2 : ∀ j : Fin 256, v2 (ix2 j d) = v (n + 256 + j.val))
    (hn : n + 256 + 256 ≤ 8192) (hm : ∀ k, n + 256 + 256 ≤ k → k < 8192 → s k = ⊥) :
    k0_pay23 k0_pay12 m a s1 s2 mk c2 v1 v2 (ix2 R d) = NsaMath.br s v := by
  have g := (h.step hs1 hv1).step hs2 hv2
  rw [pay23_at, g.lo, g.hi]
  unfold NsaMath.br
  rw [NsaMath.ac_tail s v hn hm, NsaMath.ac_tail s _ hn hm]

/-- The window branch. -/
theorem pay24_at (v0 w : BitVec 32) (a n : ℕ) (h0 : v0 = BitVec.ofNat 32 a) (h1 : w = BitVec.ofNat 32 n) (ha : a + 256 ≤ 8192) (hn : n + 768 ≤ 8192)
    (q : FVec Ideal S1024x128 .bf16) (kw vw : Vec Ideal S768x128 .bf16) (R : Fin 1024) (d : Fin 128) (s v : ℕ → EReal)
    (hs : ∀ j : Fin 768, (if n + j.val ≤ a + R.val % 256 ∧ a + R.val % 256 < n + j.val + 512 then ∑ x : Fin 128, q (ix2 R x) * kw (ix2 j x) else ⊥) = s (n + j.val))
    (hv : ∀ j : Fin 768, vw (ix2 j d) = v (n + j.val)) (hm : ∀ k, k < 8192 → ¬ (n ≤ k ∧ k < n + 768) → s k = ⊥) :
    k0_pay24 v0 q w kw vw (ix2 R d) = NsaMath.br s v := by
  have e : ∀ x : Fin 768, Scalar.select (IntOp.andi
      (IntOp.cmpi CmpIPredicate.sge (IntOp.subi (IntOp.addi v0 (BitVec.ofNat 32 (R.val % 256))) (IntOp.addi w (BitVec.ofNat 32 x.val))) 0#32)
      (IntOp.cmpi CmpIPredicate.slt (IntOp.subi (IntOp.addi v0 (BitVec.ofNat 32 (R.val % 256))) (IntOp.addi w (BitVec.ofNat 32 x.val))) 512#32))
      (∑ y : Fin 128, q (ix2 R y) * kw (ix2 x y)) (Named.named (F := Ideal) κ "masked" 4048155338#32 : Ideal .f32) = s (n + x.val) := by
    intro x
    rw [← hs x, h0, h1, addi_nat, addi_nat, NsaMath.sge_eq _ _ (by omega) (by omega), NsaMath.slt_eq _ _ (by omega) (by omega), masked_eq]
    by_cases c1 : n + x.val ≤ a + R.val % 256 <;> by_cases c2 : a + R.val % 256 < n + x.val + 512 <;> simp [c1, c2, IntOp.andi, Scalar.select]
  pointwise [k0_pay24, row_word]
  simp only [e, hv, neg_inf]
  rw [NsaMath.mx_window s hn hm, NsaMath.ac_window s v hn hm]
  have := NsaMath.ac_window s (fun _ => 1) hn hm
  simp only [mul_one] at this
  rw [this]
  rfl

theorem gate_word : ∀ (g : Fin 2) (r : Fin 4) (b : Fin 3) (x : Fin 128),
    IntOp.cmpi CmpIPredicate.eq (IntOp.subi (BitVec.ofNat 32 x.val) (Scalar.addi (Scalar.muli (BitVec.ofNat 32 g.val) 4#32) (BitVec.ofNat 32 r.val))) (BitVec.ofNat 32 (8 * b.val))
      = if x.val = 8 * b.val + (g.val * 4 + r.val) then 1#1 else 0#1 := by decide +kernel

/-- The sum over the lanes that picks one gate. -/
theorem gate_sum (g : Fin 2) (r : Fin 4) (b : Fin 3) (wr wb : BitVec 32) (hr : wr = BitVec.ofNat 32 r.val) (hb : wb = BitVec.ofNat 32 (8 * b.val)) (f : Fin 128 → EReal) :
    ∑ x : Fin 128, Scalar.select (IntOp.cmpi CmpIPredicate.eq (IntOp.subi (BitVec.ofNat 32 x.val) (Scalar.addi (Scalar.muli (BitVec.ofNat 32 g.val) 4#32) wr)) wb) (f x) 0
      = f ⟨8 * b.val + (g.val * 4 + r.val), by omega⟩ := by
  subst hr hb
  simp only [gate_word]
  rw [Finset.sum_eq_single (⟨8 * b.val + (g.val * 4 + r.val), by omega⟩ : Fin 128)]
  · rw [if_pos rfl]; rfl
  · intro x _ hx
    rw [if_neg (fun h => hx (Fin.ext h))]; rfl
  · intro h; exact absurd (Finset.mem_univ _) h

theorem gate_sum0 (g : Fin 2) (r : Fin 4) (wr : BitVec 32) (hr : wr = BitVec.ofNat 32 r.val) (f : Fin 128 → EReal) :
    ∑ x : Fin 128, Scalar.select (IntOp.cmpi CmpIPredicate.eq (IntOp.subi (BitVec.ofNat 32 x.val) (Scalar.addi (Scalar.muli (BitVec.ofNat 32 g.val) 4#32) wr)) 0#32) (f x) 0
      = f ⟨g.val * 4 + r.val, by omega⟩ := (gate_sum g r 0 wr 0#32 hr rfl f).trans (congrArg f (Fin.ext (Nat.zero_add _)))
theorem gate_sum1 (g : Fin 2) (r : Fin 4) (wr : BitVec 32) (hr : wr = BitVec.ofNat 32 r.val) (f : Fin 128 → EReal) :
    ∑ x : Fin 128, Scalar.select (IntOp.cmpi CmpIPredicate.eq (IntOp.subi (BitVec.ofNat 32 x.val) (Scalar.addi (Scalar.muli (BitVec.ofNat 32 g.val) 4#32) wr)) 8#32) (f x) 0
      = f ⟨8 + (g.val * 4 + r.val), by omega⟩ := gate_sum g r 1 wr 8#32 hr rfl f
theorem gate_sum2 (g : Fin 2) (r : Fin 4) (wr : BitVec 32) (hr : wr = BitVec.ofNat 32 r.val) (f : Fin 128 → EReal) :
    ∑ x : Fin 128, Scalar.select (IntOp.cmpi CmpIPredicate.eq (IntOp.subi (BitVec.ofNat 32 x.val) (Scalar.addi (Scalar.muli (BitVec.ofNat 32 g.val) 4#32) wr)) 16#32) (f x) 0
      = f ⟨16 + (g.val * 4 + r.val), by omega⟩ := gate_sum g r 2 wr 16#32 hr rfl f

/-- A head's three branches at a row, gated and added. -/
def hd (gt : Vec Ideal S256x128 .f32) (oc : Vec Ideal S256x128 .f32) (a b : FVec Ideal S1024x128 .f32) (g : Fin 2) (r : Fin 4) (i : Fin 256) (d : Fin 128) : EReal :=
  gt (ix2 i ⟨g.val * 4 + r.val, by omega⟩) * oc (ix2 i d)
    + gt (ix2 i ⟨8 + (g.val * 4 + r.val), by omega⟩) * a (ix2 ⟨256 * r.val + i.val, by omega⟩ d)
    + gt (ix2 i ⟨16 + (g.val * 4 + r.val), by omega⟩) * b (ix2 ⟨256 * r.val + i.val, by omega⟩ d)

section
variable (g : Fin 2) (a b : FVec Ideal S1024x128 .f32) (gt : Vec Ideal S256x128 .f32) (oc : Vec Ideal S256x128 .f32) (gg : Vec Ideal S1x128 .f32) (i : Fin 256) (d : Fin 128)

theorem row0 : (⟨256 * (0 : Fin 4).val + i.val, by omega⟩ : Fin 1024) = ⟨i.val, by omega⟩ := Fin.ext (by simp)
theorem row1 : (⟨256 * (1 : Fin 4).val + i.val, by omega⟩ : Fin 1024) = ⟨256 + i.val, by omega⟩ := Fin.ext (by simp)
theorem row2 : (⟨256 * (2 : Fin 4).val + i.val, by omega⟩ : Fin 1024) = ⟨512 + i.val, by omega⟩ := Fin.ext (by simp)
theorem row3 : (⟨256 * (3 : Fin 4).val + i.val, by omega⟩ : Fin 1024) = ⟨768 + i.val, by omega⟩ := Fin.ext (by simp)

theorem head0 : k0_pay27 a b gt (k0_pay25 (BitVec.ofNat 32 g.val)) (k0_pay26 (BitVec.ofNat 32 g.val) gt) oc gg (ix2 i d)
    = NsaMath.nrm (hd gt oc a b g 0 i) d (gg (ix2 0 d)) := by
  unfold NsaMath.nrm hd
  rw [row0]
  generalize h0 : gt (ix2 i ⟨g.val * 4 + (0 : Fin 4).val, _⟩) = ga
  generalize h1 : gt (ix2 i ⟨8 + (g.val * 4 + (0 : Fin 4).val), _⟩) = gb
  generalize h2 : gt (ix2 i ⟨16 + (g.val * 4 + (0 : Fin 4).val), _⟩) = gc
  pointwise [k0_pay27, k0_pay26, k0_pay25]
  simp only [gate_sum0 g 0 0#32 rfl, gate_sum1 g 0 0#32 rfl, gate_sum2 g 0 0#32 rfl]
  rw [← h0, ← h1, ← h2]

theorem head1 : k0_pay29 a b gt (iota .tc S256x128 32 [1] iota_S256x128_d1_w32) (k0_pay28 (BitVec.ofNat 32 g.val)) oc gg (ix2 i d)
    = NsaMath.nrm (hd gt oc a b g 1 i) d (gg (ix2 0 d)) := by
  unfold NsaMath.nrm hd
  rw [row1]
  generalize h0 : gt (ix2 i ⟨g.val * 4 + (1 : Fin 4).val, _⟩) = ga
  generalize h1 : gt (ix2 i ⟨8 + (g.val * 4 + (1 : Fin 4).val), _⟩) = gb
  generalize h2 : gt (ix2 i ⟨16 + (g.val * 4 + (1 : Fin 4).val), _⟩) = gc
  pointwise [k0_pay29, k0_pay28]
  simp only [gate_sum0 g 1 1#32 rfl, gate_sum1 g 1 1#32 rfl, gate_sum2 g 1 1#32 rfl]
  rw [← h0, ← h1, ← h2]

theorem head2 : k0_pay33 (k0_pay30 (BitVec.ofNat 32 g.val) a b gt oc) (k0_pay31 (BitVec.ofNat 32 g.val) a b gt oc) k0_pay32 gg (ix2 i d)
    = NsaMath.nrm (hd gt oc a b g 2 i) d (gg (ix2 0 d)) := by
  unfold NsaMath.nrm hd
  rw [row2]
  generalize h0 : gt (ix2 i ⟨g.val * 4 + (2 : Fin 4).val, _⟩) = ga
  generalize h1 : gt (ix2 i ⟨8 + (g.val * 4 + (2 : Fin 4).val), _⟩) = gb
  generalize h2 : gt (ix2 i ⟨16 + (g.val * 4 + (2 : Fin 4).val), _⟩) = gc
  pointwise [k0_pay33, k0_pay31, k0_pay30, k0_pay32]
  simp only [gate_sum0 g 2 2#32 rfl, gate_sum1 g 2 2#32 rfl, gate_sum2 g 2 2#32 rfl]
  rw [← h0, ← h1, ← h2]

theorem head3 : k0_pay1 (k0_pay35 (BitVec.ofNat 32 g.val) a gt oc) (k0_pay36 (BitVec.ofNat 32 g.val) b gt) gg (ix2 i d)
    = NsaMath.nrm (hd gt oc a b g 3 i) d (gg (ix2 0 d)) := by
  unfold NsaMath.nrm hd
  rw [row3]
  generalize h0 : gt (ix2 i ⟨g.val * 4 + (3 : Fin 4).val, _⟩) = ga
  generalize h1 : gt (ix2 i ⟨8 + (g.val * 4 + (3 : Fin 4).val), _⟩) = gb
  generalize h2 : gt (ix2 i ⟨16 + (g.val * 4 + (3 : Fin 4).val), _⟩) = gc
  pointwise [k0_pay1, k0_pay35, k0_pay36, k0_pay34]
  simp only [gate_sum0 g 3 3#32 rfl, gate_sum1 g 3 3#32 rfl, gate_sum2 g 3 3#32 rfl]
  rw [← h0, ← h1, ← h2]

end

end Cert.NsaIdeal.NsaV
-- ==== Proof.NsaV.Loop.lean ====
/- The loop over the full tiles of the selected branch: trips, offsets, and the running maximum and sums after each trip. -/
module

public import proofs.«01_k».proof.Proof.Gen.NsaIdeal.Value
public import proofs.«01_k».proof.Proof.NsaV.Tile
public import Idealize.ShloMosaic.Lib.Pipeline.ValueKit
public import Idealize.ShloMosaic.Lib.WholeRead

@[expose] public section

set_option maxRecDepth 16384

noncomputable section

namespace Cert.NsaIdeal.NsaV

open Cert.NsaIdeal Cert.NsaIdeal.Gen
open Idealize.ShloMosaic Idealize.ShloMosaic.TcCoe Idealize.SL.Sem

theorem trips1 : ∀ t : Fin grid0.N, (k0_t1_loop (grid0.coords t)).trips = (grid0.coords t 1).val / 2 := by decide +kernel
theorem trips2 : ∀ t : Fin grid0.N, (k0_t2_loop (grid0.coords t)).trips = 0 := by decide +kernel
theorem off3 : ∀ t : Fin grid0.N, k0_off3 (grid0.coords t) 0#32 = ![512 * ((grid0.coords t 1).val / 2), 0]
    ∧ k0_off3 (grid0.coords t) 256#32 = ![512 * ((grid0.coords t 1).val / 2) + 256, 0] ∧ k0_off4 (grid0.coords t) = ![256 * (grid0.coords t 1).val - 512, 0] := by decide +kernel

/-- The number of full tiles, as the kernel's words compute it from the first row. -/
def w27 (a : BitVec 32) : BitVec 32 :=
  Scalar.select (Scalar.andi (Scalar.cmpi CmpIPredicate.ne (Scalar.subi (Scalar.extui (Scalar.cmpi CmpIPredicate.sgt a 0#32)) (Scalar.extui (Scalar.cmpi CmpIPredicate.slt a 0#32))) 1#32)
    (Scalar.cmpi CmpIPredicate.ne (Scalar.remsi a 512#32) 0#32)) (Scalar.subi (Scalar.divsi a 512#32) 1#32) (Scalar.divsi a 512#32)

theorem words : ∀ j : Fin 32, Scalar.muli (BitVec.ofNat 32 j.val) 256#32 = BitVec.ofNat 32 (256 * j.val)
    ∧ Scalar.addi (Scalar.muli (w27 (Scalar.muli (BitVec.ofNat 32 j.val) 256#32)) 512#32) 0#32 = BitVec.ofNat 32 (512 * (j.val / 2))
    ∧ Scalar.addi (Scalar.muli (w27 (Scalar.muli (BitVec.ofNat 32 j.val) 256#32)) 512#32) 256#32 = BitVec.ofNat 32 (512 * (j.val / 2) + 256)
    ∧ Scalar.minsi 7424#32 (Scalar.maxsi 0#32 (Scalar.subi (Scalar.muli (BitVec.ofNat 32 j.val) 256#32) 512#32)) = BitVec.ofNat 32 (256 * j.val - 512) := by decide +kernel

theorem off1 (t : Fin grid0.N) (k : Fin (k0_t1_loop (grid0.coords t)).trips) : k0_off1 (grid0.coords t) k 0#32 = ![512 * k.val, 0] ∧ k0_off1 (grid0.coords t) k 256#32 = ![512 * k.val + 256, 0] := by
  have h : ∀ j : Fin 16, (Scalar.indexCast (Scalar.addi (Scalar.muli (Scf.iv 0#32 1#32 j.val) 512#32) 0#32)).toNat = 512 * j.val
      ∧ (Scalar.indexCast (Scalar.addi (Scalar.muli (Scf.iv 0#32 1#32 j.val) 512#32) 256#32)).toNat = 512 * j.val + 256 := by decide +kernel
  have hk : k.val < 16 := by
    have h1 := k.isLt.trans_eq (trips1 t)
    have h2 : (grid0.coords t 1).val < 32 := (grid0.coords t 1).isLt
    omega
  exact ⟨congrArg (fun a => ![a, 0]) (h ⟨k.val, hk⟩).1, congrArg (fun a => ![a, 0]) (h ⟨k.val, hk⟩).2⟩

/-- An entry of the keys or of the values of a group, nothing past the last. -/
def E (x : Vec Ideal S8192x128 .bf16) (k : ℕ) (d : Fin 128) : EReal := if h : k < 8192 then x (ix2 ⟨k, h⟩ d) else 0

theorem ld_at (x : Vec Ideal S8192x128 .bf16) (o : Fin 2 → ℕ) (h : ∀ a, o a + S256x128.size a ≤ S8192x128.size a) (n : ℕ) (ho : o = ![n, 0]) (j : Fin 256) (d : Fin 128) :
    View.ld x (Rect.unit o S256x128.size h) (ix2 j d) = E x (n + j.val) d := by
  subst ho
  have h0 : n + 256 ≤ 8192 := h 0
  refine Eq.trans ?_ (dif_pos (show n + j.val < 8192 by omega) : E x (n + j.val) d = _).symm
  pointwise

theorem ldw_at (x : Vec Ideal S8192x128 .bf16) (o : Fin 2 → ℕ) (h : ∀ a, o a + S768x128.size a ≤ S8192x128.size a) (n : ℕ) (ho : o = ![n, 0]) (j : Fin 768) (d : Fin 128) :
    View.ld x (Rect.unit o S768x128.size h) (ix2 j d) = E x (n + j.val) d := by
  subst ho
  have h0 : n + 768 ≤ 8192 := h 0
  refine Eq.trans ?_ (dif_pos (show n + j.val < 8192 by omega) : E x (n + j.val) d = _).symm
  pointwise

theorem pay3_eq (v9 : FVec Ideal S1024x256 .bf16) (a b : Vec Ideal S256x128 .bf16) : k0_pay3 v9 a b = k0_pay2 v9 a b := rfl
theorem pay4_eq (v9 : FVec Ideal S1024x256 .bf16) (m : FVec Ideal S1024x1 .f32) (a b : Vec Ideal S256x128 .bf16) : k0_pay4 v9 m a b = k0_pay15 (k0_pay2 v9 a b) m := rfl
theorem pay5_eq (v9 : FVec Ideal S1024x256 .bf16) (m : FVec Ideal S1024x1 .f32) (w : FVec Ideal S1024x256 .f32) (a b v : Vec Ideal S256x128 .bf16) :
    k0_pay5 v9 k0_pay12 m w a b v = k0_pay16 k0_pay12 (k0_pay2 v9 a b) m w v := rfl

set_option maxHeartbeats 1600000 in
/-- A trip folds the two tiles it reads. -/
theorem trip_eq (t : Fin grid0.N) (𝒱 : Variants) (c : Dev nD) (bd : Option 𝒱.V) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1x256x128 .bf16) (harg8 : arg8.IsWhole) (arg9 : Memref sig .tc .vmem S256x512 .f32) (harg9 : arg9.IsWhole) (arg10 : Memref sig .tc .vmem S256x128 .f32) (harg10 : arg10.IsWhole) (arg11 : Memref sig .tc .vmem S1x512 .f32) (harg11 : arg11.IsWhole) (arg12 : Memref sig .tc .vmem S256x512 .bf16) (harg12 : arg12.IsWhole) (v0 : BitVec 32) (v9 : FVec Ideal S1024x256 .bf16) (v10 : FVec Ideal S256x128 .bf16) (v27 : BitVec 32) (v28 : FVec Ideal S1024x1 .f32) (v29 : FVec Ideal S1024x256 .f32) (c0_i32_13 : BitVec 32) (v33 : BitVec 32)
    (X3 : BufTy.Contents (Elt Ideal) arg3.view.ty) (X4 : BufTy.Contents (Elt Ideal) arg4.view.ty) (X7 : BufTy.Contents (Elt Ideal) arg7.view.ty)
    (k : Fin (k0_t1_loop (grid0.coords t)).trips) (acc : FVec Ideal S1024x1 .f32 × FVec Ideal S1024x256 .f32) :
    tripR_k0_t1 (F := Ideal) 𝒱 c bd (grid0.coords t) arg2 harg2 arg3 harg3 arg4 harg4 arg5 harg5 arg6 harg6 arg7 harg7 arg8 harg8 arg9 harg9 arg10 harg10 arg11 harg11 arg12 harg12 v0 v9 v10 v27 v28 v29 c0_i32_13 v33 X3 X4 X7 k acc = (k0_pay15 (k0_pay3 v9 (View.readAt (Elt Ideal) arg3.view (Rect.unit (s := S8192x128) (k0_off1 (grid0.coords t) k 256#32) S256x128.size (k0_off1_inb (grid0.coords t) k 1)).toLoadRect X3) (View.readAt (Elt Ideal) arg7.view (Rect.unit (s := S8192x128) (k0_off1 (grid0.coords t) k 256#32) S256x128.size (k0_off1_inb (grid0.coords t) k 1)).toLoadRect X7)) (k0_pay4 v9 acc.1 (View.readAt (Elt Ideal) arg3.view (Rect.unit (s := S8192x128) (k0_off1 (grid0.coords t) k 0#32) S256x128.size (k0_off1_inb (grid0.coords t) k 0)).toLoadRect X3) (View.readAt (Elt Ideal) arg7.view (Rect.unit (s := S8192x128) (k0_off1 (grid0.coords t) k 0#32) S256x128.size (k0_off1_inb (grid0.coords t) k 0)).toLoadRect X7)), k0_pay16 v10 (k0_pay3 v9 (View.readAt (Elt Ideal) arg3.view (Rect.unit (s := S8192x128) (k0_off1 (grid0.coords t) k 256#32) S256x128.size (k0_off1_inb (grid0.coords t) k 1)).toLoadRect X3) (View.readAt (Elt Ideal) arg7.view (Rect.unit (s := S8192x128) (k0_off1 (grid0.coords t) k 256#32) S256x128.size (k0_off1_inb (grid0.coords t) k 1)).toLoadRect X7)) (k0_pay4 v9 acc.1 (View.readAt (Elt Ideal) arg3.view (Rect.unit (s := S8192x128) (k0_off1 (grid0.coords t) k 0#32) S256x128.size (k0_off1_inb (grid0.coords t) k 0)).toLoadRect X3) (View.readAt (Elt Ideal) arg7.view (Rect.unit (s := S8192x128) (k0_off1 (grid0.coords t) k 0#32) S256x128.size (k0_off1_inb (grid0.coords t) k 0)).toLoadRect X7)) (k0_pay5 v9 v10 acc.1 acc.2 (View.readAt (Elt Ideal) arg3.view (Rect.unit (s := S8192x128) (k0_off1 (grid0.coords t) k 0#32) S256x128.size (k0_off1_inb (grid0.coords t) k 0)).toLoadRect X3) (View.readAt (Elt Ideal) arg7.view (Rect.unit (s := S8192x128) (k0_off1 (grid0.coords t) k 0#32) S256x128.size (k0_off1_inb (grid0.coords t) k 0)).toLoadRect X7) (View.readAt (Elt Ideal) arg4.view (Rect.unit (s := S8192x128) (k0_off1 (grid0.coords t) k 0#32) S256x128.size (k0_off1_inb (grid0.coords t) k 0)).toLoadRect X4)) (View.readAt (Elt Ideal) arg4.view (Rect.unit (s := S8192x128) (k0_off1 (grid0.coords t) k 256#32) S256x128.size (k0_off1_inb (grid0.coords t) k 1)).toLoadRect X4)) := by
  unfold tripR_k0_t1
  unfold trip_k0_t1
  rfl

set_option maxHeartbeats 1600000 in
/-- After `n` trips the running maximum and sums are those over the first `512 n` keys. -/
theorem st_good (t : Fin grid0.N) (𝒱 : Variants) (c : Dev nD) (bd : Option 𝒱.V) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1x256x128 .bf16) (harg8 : arg8.IsWhole) (arg9 : Memref sig .tc .vmem S256x512 .f32) (harg9 : arg9.IsWhole) (arg10 : Memref sig .tc .vmem S256x128 .f32) (harg10 : arg10.IsWhole) (arg11 : Memref sig .tc .vmem S1x512 .f32) (harg11 : arg11.IsWhole) (arg12 : Memref sig .tc .vmem S256x512 .bf16) (harg12 : arg12.IsWhole) (v0 : BitVec 32) (v9 : FVec Ideal S1024x256 .bf16) (v27 : BitVec 32) (v28 : FVec Ideal S1024x1 .f32) (v29 : FVec Ideal S1024x256 .f32) (c0_i32_13 : BitVec 32) (v33 : BitVec 32)
    (x3 x4 x7 : Vec Ideal S8192x128 .bf16) (s v : ℕ → EReal) (R : Fin 1024) (d : Fin 128)
    (hs : ∀ (n : ℕ) (o : Fin 2 → ℕ) (h : ∀ a, o a + S256x128.size a ≤ S8192x128.size a), o = ![n, 0] → n + 256 ≤ 512 * ((grid0.coords t 1).val / 2) → ∀ j : Fin 256,
      k0_pay2 v9 (View.ld x3 (Rect.unit o S256x128.size h)) (View.ld x7 (Rect.unit o S256x128.size h)) (ix2 R j) = s (n + j.val))
    (hv : ∀ n : ℕ, n < 8192 → E x4 n d = v n) :
    ∀ n : ℕ, n ≤ (k0_t1_loop (grid0.coords t)).trips → Good s v R d (512 * n) (st_k0_t1 (F := Ideal) 𝒱 c bd (grid0.coords t) arg2 harg2 arg3 harg3 arg4 harg4 arg5 harg5 arg6 harg6 arg7 harg7 arg8 harg8 arg9 harg9 arg10 harg10 arg11 harg11 arg12 harg12 v0 v9 k0_pay12 v27 v28 v29 c0_i32_13 v33 (harg3.unread x3) (harg4.unread x4) (harg7.unread x7) (k0_pay13, k0_pay14) n).1 (st_k0_t1 (F := Ideal) 𝒱 c bd (grid0.coords t) arg2 harg2 arg3 harg3 arg4 harg4 arg5 harg5 arg6 harg6 arg7 harg7 arg8 harg8 arg9 harg9 arg10 harg10 arg11 harg11 arg12 harg12 v0 v9 k0_pay12 v27 v28 v29 c0_i32_13 v33 (harg3.unread x3) (harg4.unread x4) (harg7.unread x7) (k0_pay13, k0_pay14) n).2 := by
  intro n
  induction n with
  | zero => intro _; rw [st_k0_t1_zero]; exact good_zero s v R d
  | succ n ih =>
    intro hn
    have g := ih (by omega)
    have ho : k0_off1 (grid0.coords t) ⟨n, hn⟩ 0#32 = ![512 * n, 0] ∧ k0_off1 (grid0.coords t) ⟨n, hn⟩ 256#32 = ![512 * n + 256, 0] := off1 t ⟨n, hn⟩
    have hb : 512 * n + 512 ≤ 512 * ((grid0.coords t 1).val / 2) := by rw [trips1 t] at hn; omega
    have hi : (grid0.coords t 1).val < 32 := (grid0.coords t 1).isLt
    rw [st_k0_t1_succ 𝒱 c bd (grid0.coords t) arg2 harg2 arg3 harg3 arg4 harg4 arg5 harg5 arg6 harg6 arg7 harg7 arg8 harg8 arg9 harg9 arg10 harg10 arg11 harg11 arg12 harg12 v0 v9 k0_pay12 v27 v28 v29 c0_i32_13 v33 (harg3.unread x3) (harg4.unread x4) (harg7.unread x7) (k0_pay13, k0_pay14) ⟨n, hn⟩]
    rw [trip_eq t]
    have g1 := g.step (sc := k0_pay2 v9 (View.ld x3 (Rect.unit (s := S8192x128) (k0_off1 (grid0.coords t) ⟨n, hn⟩ 0#32) S256x128.size (k0_off1_inb (grid0.coords t) ⟨n, hn⟩ 0))) (View.ld x7 (Rect.unit (s := S8192x128) (k0_off1 (grid0.coords t) ⟨n, hn⟩ 0#32) S256x128.size (k0_off1_inb (grid0.coords t) ⟨n, hn⟩ 0))))
      (vv := View.ld x4 (Rect.unit (s := S8192x128) (k0_off1 (grid0.coords t) ⟨n, hn⟩ 0#32) S256x128.size (k0_off1_inb (grid0.coords t) ⟨n, hn⟩ 0)))
      (fun j => hs _ _ _ ho.1 (by omega) j) (fun j => (ld_at x4 _ _ _ ho.1 j d).trans (hv _ (by omega)))
    have g2 := g1.step (sc := k0_pay2 v9 (View.ld x3 (Rect.unit (s := S8192x128) (k0_off1 (grid0.coords t) ⟨n, hn⟩ 256#32) S256x128.size (k0_off1_inb (grid0.coords t) ⟨n, hn⟩ 1))) (View.ld x7 (Rect.unit (s := S8192x128) (k0_off1 (grid0.coords t) ⟨n, hn⟩ 256#32) S256x128.size (k0_off1_inb (grid0.coords t) ⟨n, hn⟩ 1))))
      (vv := View.ld x4 (Rect.unit (s := S8192x128) (k0_off1 (grid0.coords t) ⟨n, hn⟩ 256#32) S256x128.size (k0_off1_inb (grid0.coords t) ⟨n, hn⟩ 1)))
      (fun j => hs _ _ _ ho.2 (by omega) j) (fun j => (ld_at x4 _ _ _ ho.2 j d).trans (hv _ (by omega)))
    have e3 : ∀ B, View.readAt (Elt Ideal) arg3.view B (harg3.unread x3) = _ := fun B => funext fun x => Idealize.ShloMosaic.Memref.IsWhole.readAt_unread harg3 x3 B x
    have e4 : ∀ B, View.readAt (Elt Ideal) arg4.view B (harg4.unread x4) = _ := fun B => funext fun x => Idealize.ShloMosaic.Memref.IsWhole.readAt_unread harg4 x4 B x
    have e7 : ∀ B, View.readAt (Elt Ideal) arg7.view B (harg7.unread x7) = _ := fun B => funext fun x => Idealize.ShloMosaic.Memref.IsWhole.readAt_unread harg7 x7 B x
    simp only [e3, e4, e7, pay3_eq, pay4_eq, pay5_eq]
    rw [show 512 * (n + 1) = 512 * n + 256 + 256 by omega]
    exact g2

set_option maxHeartbeats 1600000 in
/-- The same after the last trip. -/
theorem st_end (t : Fin grid0.N) {𝒱 : Variants} {c : Dev nD} {bd : Option 𝒱.V} {arg2 : Memref sig .tc .vmem S256x512 .bf16} {harg2 : arg2.IsWhole} {arg3 : Memref sig .tc .vmem S8192x128 .bf16} {harg3 : arg3.IsWhole} {arg4 : Memref sig .tc .vmem S8192x128 .bf16} {harg4 : arg4.IsWhole} {arg5 : Memref sig .tc .vmem S8192x128 .bf16} {harg5 : arg5.IsWhole} {arg6 : Memref sig .tc .vmem S8192x128 .bf16} {harg6 : arg6.IsWhole} {arg7 : Memref sig .tc .vmem S8192x128 .bf16} {harg7 : arg7.IsWhole} {arg8 : Memref sig .tc .vmem S1x256x128 .bf16} {harg8 : arg8.IsWhole} {arg9 : Memref sig .tc .vmem S256x512 .f32} {harg9 : arg9.IsWhole} {arg10 : Memref sig .tc .vmem S256x128 .f32} {harg10 : arg10.IsWhole} {arg11 : Memref sig .tc .vmem S1x512 .f32} {harg11 : arg11.IsWhole} {arg12 : Memref sig .tc .vmem S256x512 .bf16} {harg12 : arg12.IsWhole} {v0 : BitVec 32} {v9 : FVec Ideal S1024x256 .bf16} {v27 : BitVec 32} {v28 : FVec Ideal S1024x1 .f32} {v29 : FVec Ideal S1024x256 .f32} {c0_i32_13 : BitVec 32} {v33 : BitVec 32}
    {x3 x4 x7 : Vec Ideal S8192x128 .bf16} (s v : ℕ → EReal) (R : Fin 1024) (d : Fin 128)
    (hs : ∀ (n : ℕ) (o : Fin 2 → ℕ) (h : ∀ a, o a + S256x128.size a ≤ S8192x128.size a), o = ![n, 0] → n + 256 ≤ 512 * ((grid0.coords t 1).val / 2) → ∀ j : Fin 256,
      k0_pay2 v9 (View.ld x3 (Rect.unit o S256x128.size h)) (View.ld x7 (Rect.unit o S256x128.size h)) (ix2 R j) = s (n + j.val))
    (hv : ∀ n : ℕ, n < 8192 → E x4 n d = v n) :
    Good s v R d (512 * ((grid0.coords t 1).val / 2)) (st_k0_t1 (F := Ideal) 𝒱 c bd (grid0.coords t) arg2 harg2 arg3 harg3 arg4 harg4 arg5 harg5 arg6 harg6 arg7 harg7 arg8 harg8 arg9 harg9 arg10 harg10 arg11 harg11 arg12 harg12 v0 v9 k0_pay12 v27 v28 v29 c0_i32_13 v33 (harg3.unread x3) (harg4.unread x4) (harg7.unread x7) (k0_pay13, k0_pay14) (k0_t1_loop (grid0.coords t)).trips).1 (st_k0_t1 (F := Ideal) 𝒱 c bd (grid0.coords t) arg2 harg2 arg3 harg3 arg4 harg4 arg5 harg5 arg6 harg6 arg7 harg7 arg8 harg8 arg9 harg9 arg10 harg10 arg11 harg11 arg12 harg12 v0 v9 k0_pay12 v27 v28 v29 c0_i32_13 v33 (harg3.unread x3) (harg4.unread x4) (harg7.unread x7) (k0_pay13, k0_pay14) (k0_t1_loop (grid0.coords t)).trips).2 :=
  (congrArg (fun n => Good s v R d (512 * n) (st_k0_t1 (F := Ideal) 𝒱 c bd (grid0.coords t) arg2 harg2 arg3 harg3 arg4 harg4 arg5 harg5 arg6 harg6 arg7 harg7 arg8 harg8 arg9 harg9 arg10 harg10 arg11 harg11 arg12 harg12 v0 v9 k0_pay12 v27 v28 v29 c0_i32_13 v33 (harg3.unread x3) (harg4.unread x4) (harg7.unread x7) (k0_pay13, k0_pay14) (k0_t1_loop (grid0.coords t)).trips).1 (st_k0_t1 (F := Ideal) 𝒱 c bd (grid0.coords t) arg2 harg2 arg3 harg3 arg4 harg4 arg5 harg5 arg6 harg6 arg7 harg7 arg8 harg8 arg9 harg9 arg10 harg10 arg11 harg11 arg12 harg12 v0 v9 k0_pay12 v27 v28 v29 c0_i32_13 v33 (harg3.unread x3) (harg4.unread x4) (harg7.unread x7) (k0_pay13, k0_pay14) (k0_t1_loop (grid0.coords t)).trips).2) (trips1 t)).mp
    (st_good t 𝒱 c bd arg2 harg2 arg3 harg3 arg4 harg4 arg5 harg5 arg6 harg6 arg7 harg7 arg8 harg8 arg9 harg9 arg10 harg10 arg11 harg11 arg12 harg12 v0 v9 v27 v28 v29 c0_i32_13 v33 x3 x4 x7 s v R d hs hv _ le_rfl)

/-- The second loop makes no trip. -/
theorem t2_skip (t : Fin grid0.N) {𝒱 : Variants} {c : Dev nD} {bd : Option 𝒱.V} {arg2 : Memref sig .tc .vmem S256x512 .bf16} {harg2 : arg2.IsWhole} {arg3 : Memref sig .tc .vmem S8192x128 .bf16} {harg3 : arg3.IsWhole} {arg4 : Memref sig .tc .vmem S8192x128 .bf16} {harg4 : arg4.IsWhole} {arg5 : Memref sig .tc .vmem S8192x128 .bf16} {harg5 : arg5.IsWhole} {arg6 : Memref sig .tc .vmem S8192x128 .bf16} {harg6 : arg6.IsWhole} {arg7 : Memref sig .tc .vmem S8192x128 .bf16} {harg7 : arg7.IsWhole} {arg8 : Memref sig .tc .vmem S1x256x128 .bf16} {harg8 : arg8.IsWhole} {arg9 : Memref sig .tc .vmem S256x512 .f32} {harg9 : arg9.IsWhole} {arg10 : Memref sig .tc .vmem S256x128 .f32} {harg10 : arg10.IsWhole} {arg11 : Memref sig .tc .vmem S1x512 .f32} {harg11 : arg11.IsWhole} {arg12 : Memref sig .tc .vmem S256x512 .bf16} {harg12 : arg12.IsWhole} {v0 : BitVec 32} {v9 : FVec Ideal S1024x256 .bf16} {v10 : FVec Ideal S256x128 .bf16} {v27 : BitVec 32} {v28 : FVec Ideal S1024x1 .f32} {v29 : FVec Ideal S1024x256 .f32} {c0_i32_13 : BitVec 32} {v33 : BitVec 32} {v34 : BitVec 32}
    {X3 : BufTy.Contents (Elt Ideal) arg3.view.ty} {X4 : BufTy.Contents (Elt Ideal) arg4.view.ty} {X7 : BufTy.Contents (Elt Ideal) arg7.view.ty} (init : FVec Ideal S1024x1 .f32 × FVec Ideal S1024x256 .f32) :
    st_k0_t2 (F := Ideal) 𝒱 c bd (grid0.coords t) arg2 harg2 arg3 harg3 arg4 harg4 arg5 harg5 arg6 harg6 arg7 harg7 arg8 harg8 arg9 harg9 arg10 harg10 arg11 harg11 arg12 harg12 v0 v9 v10 v27 v28 v29 c0_i32_13 v33 v34 X3 X4 X7 init (k0_t2_loop (grid0.coords t)).trips = init := by
  rw [trips2 t]
  rfl

end Cert.NsaIdeal.NsaV
-- ==== Proof.NsaV.Ref.lean ====
/- The reference's result read at an index: the three gated branches, normalised, keys as natural numbers. -/
module

public import proofs.«01_k».proof.Proof.Gen.NsaRefIdeal.Run
public import proofs.«01_k».proof.Proof.NsaV.Math
public import Idealize.ShloMosaic.Lib.Pointwise
public import Idealize.ShloMosaic.Lib.WordCmp

@[expose] public section

set_option maxRecDepth 16384

noncomputable section

namespace Cert.NsaRefIdeal.Value

open Cert.NsaRefIdeal Cert.NsaRefIdeal.Gen Idealize.ShloMosaic Idealize.ShloMosaic.TcCoe Idealize.SL.Sem

/-- The eight query heads, two groups of four. -/
def QF (X : FVec Ideal S8192x5632 .bf16) : FVec Ideal S2x4x8192x128 .f32 :=
  shapeCast S2x4x8192x128 (transpose S8x8192x128 [1, 0, 2] (shapeCast S8192x8x128 (extractStridedSlice S8192x1024 ![0, 0] (extf .f32 X bitsLt_bf16_f32) slices_S8192x5632_S8192x1024_0_0) shapeCasts_S8192x1024_S8192x8x128) transposes_S8192x8x128_S8x8192x128_1_0_2) shapeCasts_S8x8192x128_S2x4x8192x128
/-- The keys of the selected branch. -/
def KF (X : FVec Ideal S8192x5632 .bf16) : FVec Ideal S2x8192x128 .f32 :=
  transpose S2x8192x128 [1, 0, 2] (shapeCast S8192x2x128 (extractStridedSlice S8192x256 ![0, 1536] (extf .f32 X bitsLt_bf16_f32) slices_S8192x5632_S8192x256_0_1536) shapeCasts_S8192x256_S8192x2x128) transposes_S8192x2x128_S2x8192x128_1_0_2
/-- Its values. -/
def VF (X : FVec Ideal S8192x5632 .bf16) : FVec Ideal S2x8192x128 .f32 :=
  transpose S2x8192x128 [1, 0, 2] (shapeCast S8192x2x128 (extractStridedSlice S8192x256 ![0, 1792] (extf .f32 X bitsLt_bf16_f32) slices_S8192x5632_S8192x256_0_1792) shapeCasts_S8192x256_S8192x2x128) transposes_S8192x2x128_S2x8192x128_1_0_2
/-- The keys of the window branch. -/
def KW (X : FVec Ideal S8192x5632 .bf16) : FVec Ideal S2x8192x128 .f32 :=
  transpose S2x8192x128 [1, 0, 2] (shapeCast S8192x2x128 (extractStridedSlice S8192x256 ![0, 2048] (extf .f32 X bitsLt_bf16_f32) slices_S8192x5632_S8192x256_0_2048) shapeCasts_S8192x256_S8192x2x128) transposes_S8192x2x128_S2x8192x128_1_0_2
/-- Its values. -/
def VW (X : FVec Ideal S8192x5632 .bf16) : FVec Ideal S2x8192x128 .f32 :=
  transpose S2x8192x128 [1, 0, 2] (shapeCast S8192x2x128 (extractStridedSlice S8192x256 ![0, 2304] (extf .f32 X bitsLt_bf16_f32) slices_S8192x5632_S8192x256_0_2304) shapeCasts_S8192x256_S8192x2x128) transposes_S8192x2x128_S2x8192x128_1_0_2
/-- Not a later key. -/
def M1  : IVec S8192x8192 1 :=
  cmpi .sge (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))) (broadcastInDim S8192x8192 ![] bcast_S_S8192x8192 (constantI S_ 32 0#32))
/-- Not a later key, nor one 512 back. -/
def M2  : IVec S8192x8192 1 :=
  andi (M1) (cmpi .slt (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))) (broadcastInDim S8192x8192 ![] bcast_S_S8192x8192 (constantI S_ 32 512#32)))
/-- The causal mask, for every head. -/
def MS  : IVec S2x4x8192x8192 1 :=
  broadcastInDim S2x4x8192x8192 ![2, 3] bcast_S8192x8192_S2x4x8192x8192_2_3 (M1)
/-- The window's mask, for every head. -/
def MW  : IVec S2x4x8192x8192 1 :=
  broadcastInDim S2x4x8192x8192 ![2, 3] bcast_S8192x8192_S2x4x8192x8192_2_3 (M2)
/-- The block biases, one for each key. -/
def BF (SB : FVec Ideal S2x8192x128 .bf16) : FVec Ideal S2x4x8192x8192 .f32 :=
  broadcastInDim S2x4x8192x8192 ![0, 1, 2, 3] bcast_S2x1x8192x8192_S2x4x8192x8192_0_1_2_3 (broadcastInDim S2x1x8192x8192 ![0, 2, 3] bcast_S2x8192x8192_S2x1x8192x8192_0_2_3 (shapeCast S2x8192x8192 (broadcastInDim S2x8192x128x64 ![0, 1, 2] bcast_S2x8192x128_S2x8192x128x64_0_1_2 (extf .f32 SB bitsLt_bf16_f32)) shapeCasts_S2x8192x128x64_S2x8192x8192))
/-- The masked scores of the selected branch. -/
def SS (X : FVec Ideal S8192x5632 .bf16) (SB : FVec Ideal S2x8192x128 .bf16) : FVec Ideal S2x4x8192x8192 .f32 :=
  select (MS) (addf (Host.dotGeneral dot_S2x4x8192x128_S2x8192x128_S2x4x8192x8192_3_2_12_1_0_0 none (QF X) (KF X)) (BF SB)) (broadcastInDim S2x4x8192x8192 ![] bcast_S_S2x4x8192x8192 (id (constant S_ .f32 0xFF800000#32)))
/-- The masked scores of the window branch. -/
def SW (X : FVec Ideal S8192x5632 .bf16) : FVec Ideal S2x4x8192x8192 .f32 :=
  select (MW) (addf (Host.dotGeneral dot_S2x4x8192x128_S2x8192x128_S2x4x8192x8192_3_2_12_1_0_0 none (QF X) (KW X)) (broadcastInDim S2x4x8192x8192 ![] bcast_S_S2x4x8192x8192 (constant S_ .f32 0x00000000#32))) (broadcastInDim S2x4x8192x8192 ![] bcast_S_S2x4x8192x8192 (id (constant S_ .f32 0xFF800000#32)))
/-- The weights of the selected branch. -/
def PS (X : FVec Ideal S8192x5632 .bf16) (SB : FVec Ideal S2x8192x128 .bf16) : FVec Ideal S2x4x8192x8192 .f32 :=
  select (MS) (Host.exp (subf (SS X SB) (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduce FloatOps.maximumf (SS X SB) (constant S_ .f32 0xFF800000#32) reducesTo_S2x4x8192x8192_S2x4x8192_d3 h_S_))))) (broadcastInDim S2x4x8192x8192 ![] bcast_S_S2x4x8192x8192 (id (constant S_ .f32 0x00000000#32)))
/-- The weights of the window branch. -/
def PW (X : FVec Ideal S8192x5632 .bf16) : FVec Ideal S2x4x8192x8192 .f32 :=
  select (MW) (Host.exp (subf (SW X) (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduce FloatOps.maximumf (SW X) (constant S_ .f32 0xFF800000#32) reducesTo_S2x4x8192x8192_S2x4x8192_d3 h_S_))))) (broadcastInDim S2x4x8192x8192 ![] bcast_S_S2x4x8192x8192 (id (constant S_ .f32 0x00000000#32)))
/-- The selected branch. -/
def OS (X : FVec Ideal S8192x5632 .bf16) (SB : FVec Ideal S2x8192x128 .bf16) : FVec Ideal S2x4x8192x128 .f32 :=
  Host.divf (Host.dotGeneral dot_S2x4x8192x8192_S2x8192x128_S2x4x8192x128_3_1_12_2_0_0 none (PS X SB) (VF X)) (broadcastInDim S2x4x8192x128 ![0, 1, 2, 3] bcast_S2x4x8192x1_S2x4x8192x128_0_1_2_3 (broadcastInDim S2x4x8192x1 ![0, 1, 2] bcast_S2x4x8192_S2x4x8192x1_0_1_2 (Host.reduceAdd (PS X SB) (constant S_ .f32 0x00000000#32) reducesTo_S2x4x8192x8192_S2x4x8192_d3 h_S_)))
/-- The window branch. -/
def OW (X : FVec Ideal S8192x5632 .bf16) : FVec Ideal S2x4x8192x128 .f32 :=
  Host.divf (Host.dotGeneral dot_S2x4x8192x8192_S2x8192x128_S2x4x8192x128_3_1_12_2_0_0 none (PW X) (VW X)) (broadcastInDim S2x4x8192x128 ![0, 1, 2, 3] bcast_S2x4x8192x1_S2x4x8192x128_0_1_2_3 (broadcastInDim S2x4x8192x1 ![0, 1, 2] bcast_S2x4x8192_S2x4x8192x1_0_1_2 (Host.reduceAdd (PW X) (constant S_ .f32 0x00000000#32) reducesTo_S2x4x8192x8192_S2x4x8192_d3 h_S_)))
/-- The gates of the compressed branch. -/
def G0 (GT : FVec Ideal S8192x128 .f32) : FVec Ideal S8192x8x128 .f32 :=
  broadcastInDim S8192x8x128 ![0, 1, 2] bcast_S8192x8x1_S8192x8x128_0_1_2 (shapeCast S8192x8x1 (extractStridedSlice S8192x1x8x1 ![0, 0, 0, 0] (broadcastInDim S8192x3x8x1 ![0, 1, 2] bcast_S8192x3x8_S8192x3x8x1_0_1_2 (shapeCast S8192x3x8 (extractStridedSlice S8192x24 ![0, 0] GT slices_S8192x128_S8192x24_0_0) shapeCasts_S8192x24_S8192x3x8)) slices_S8192x3x8x1_S8192x1x8x1_0_0_0_0) shapeCasts_S8192x1x8x1_S8192x8x1)
/-- The gates of the selected branch. -/
def G1 (GT : FVec Ideal S8192x128 .f32) : FVec Ideal S8192x8x128 .f32 :=
  broadcastInDim S8192x8x128 ![0, 1, 2] bcast_S8192x8x1_S8192x8x128_0_1_2 (shapeCast S8192x8x1 (extractStridedSlice S8192x1x8x1 ![0, 1, 0, 0] (broadcastInDim S8192x3x8x1 ![0, 1, 2] bcast_S8192x3x8_S8192x3x8x1_0_1_2 (shapeCast S8192x3x8 (extractStridedSlice S8192x24 ![0, 0] GT slices_S8192x128_S8192x24_0_0) shapeCasts_S8192x24_S8192x3x8)) slices_S8192x3x8x1_S8192x1x8x1_0_1_0_0) shapeCasts_S8192x1x8x1_S8192x8x1)
/-- The gates of the window branch. -/
def G2 (GT : FVec Ideal S8192x128 .f32) : FVec Ideal S8192x8x128 .f32 :=
  broadcastInDim S8192x8x128 ![0, 1, 2] bcast_S8192x8x1_S8192x8x128_0_1_2 (shapeCast S8192x8x1 (extractStridedSlice S8192x1x8x1 ![0, 2, 0, 0] (broadcastInDim S8192x3x8x1 ![0, 1, 2] bcast_S8192x3x8_S8192x3x8x1_0_1_2 (shapeCast S8192x3x8 (extractStridedSlice S8192x24 ![0, 0] GT slices_S8192x128_S8192x24_0_0) shapeCasts_S8192x24_S8192x3x8)) slices_S8192x3x8x1_S8192x1x8x1_0_2_0_0) shapeCasts_S8192x1x8x1_S8192x8x1)
/-- The three branches, gated and added. -/
def OF (X : FVec Ideal S8192x5632 .bf16) (SB : FVec Ideal S2x8192x128 .bf16) (OC : FVec Ideal S8192x1024 .f32) (GT : FVec Ideal S8192x128 .f32) : FVec Ideal S8192x8x128 .f32 :=
  addf (addf (mulf (G0 GT) (shapeCast S8192x8x128 OC shapeCasts_S8192x1024_S8192x8x128)) (mulf (G1 GT) (transpose S8192x8x128 [1, 0, 2] (shapeCast S8x8192x128 (OS X SB) shapeCasts_S2x4x8192x128_S8x8192x128) transposes_S8x8192x128_S8192x8x128_1_0_2))) (mulf (G2 GT) (transpose S8192x8x128 [1, 0, 2] (shapeCast S8x8192x128 (OW X) shapeCasts_S2x4x8192x128_S8x8192x128) transposes_S8x8192x128_S8192x8x128_1_0_2))
/-- The normalised result times the gains. -/
def REF (X : FVec Ideal S8192x5632 .bf16) (SB : FVec Ideal S2x8192x128 .bf16) (OC : FVec Ideal S8192x1024 .f32) (GT : FVec Ideal S8192x128 .f32) (GG : FVec Ideal S1x2048 .f32) : FVec Ideal S8192x1024 .bf16 :=
  truncf .bf16 (mulf (shapeCast S8192x1024 (mulf (OF X SB OC GT) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (OF X SB OC GT) (OF X SB OC GT)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) shapeCasts_S8192x8x128_S8192x1024) (broadcastInDim S8192x1024 ![0, 1] bcast_S1x1024_S8192x1024_0_1 (extractStridedSlice S1x1024 ![0, 0] GG slices_S1x2048_S1x1024_0_0))) bitsLt_bf16_f32

theorem res_eq (m : (ℓ : Loc nD τ sig) → Buf (Elt Ideal) ℓ) (c : Dev nD) :
    res_main_v100 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v100 REF OF G2 G1 G0 OW OS PW PS SW SS BF MW MS M2 M1 VW KW VF KF QF; rfl

/-- An entry of the projection, nothing outside it. -/
def P (X : FVec Ideal S8192x5632 .bf16) (i j : ℕ) : EReal := if h : i < 8192 ∧ j < 5632 then X (ix2 ⟨i, h.1⟩ ⟨j, h.2⟩) else 0

/-- An entry of the block biases, nothing outside them. -/
def B (SB : FVec Ideal S2x8192x128 .bf16) (g i j : ℕ) : EReal := if h : g < 2 ∧ i < 8192 ∧ j < 128 then SB (ix3 ⟨g, h.1⟩ ⟨i, h.2.1⟩ ⟨j, h.2.2⟩) else 0

/-- The masked score of key `k` for query `t` in head `h`, selected branch: the product plus the bias of the key's block of 64. -/
def ss (X : FVec Ideal S8192x5632 .bf16) (SB : FVec Ideal S2x8192x128 .bf16) (h t : ℕ) (k : ℕ) : EReal :=
  if k ≤ t then (∑ d : Fin 128, P X t (h * 128 + d.val) * P X k (1536 + h / 4 * 128 + d.val)) + B SB (h / 4) t (k / 64) else ⊥

/-- The same in the window branch. -/
def sw (X : FVec Ideal S8192x5632 .bf16) (h t : ℕ) (k : ℕ) : EReal :=
  if k ≤ t ∧ t < k + 512 then ∑ d : Fin 128, P X t (h * 128 + d.val) * P X k (2048 + h / 4 * 128 + d.val) else ⊥

/-- The three branches, gated and added. -/
def oo (X : FVec Ideal S8192x5632 .bf16) (SB : FVec Ideal S2x8192x128 .bf16) (OC : FVec Ideal S8192x1024 .f32) (GT : FVec Ideal S8192x128 .f32)
    (t : Fin 8192) (h : Fin 8) (d : Fin 128) : EReal :=
  GT (ix2 t ⟨h.val, by omega⟩) * OC (ix2 t ⟨h.val * 128 + d.val, by omega⟩)
    + GT (ix2 t ⟨8 + h.val, by omega⟩) * NsaMath.br (ss X SB h t) (fun k => P X k (1792 + h.val / 4 * 128 + d.val))
    + GT (ix2 t ⟨16 + h.val, by omega⟩) * NsaMath.br (sw X h t) (fun k => P X k (2304 + h.val / 4 * 128 + d.val))

/-- The result. -/
def out (X : FVec Ideal S8192x5632 .bf16) (SB : FVec Ideal S2x8192x128 .bf16) (OC : FVec Ideal S8192x1024 .f32) (GT : FVec Ideal S8192x128 .f32)
    (GG : FVec Ideal S1x2048 .f32) (t : Fin 8192) (h : Fin 8) (d : Fin 128) : EReal :=
  NsaMath.nrm (oo X SB OC GT t h) d (GG (ix2 0 ⟨h.val * 128 + d.val, by omega⟩))

section
variable (X : FVec Ideal S8192x5632 .bf16) (SB : FVec Ideal S2x8192x128 .bf16) (OC : FVec Ideal S8192x1024 .f32) (GT : FVec Ideal S8192x128 .f32)
  (GG : FVec Ideal S1x2048 .f32) (g : Fin 2) (r : Fin 4) (h : Fin 8) (t k : Fin 8192) (d : Fin 128)

theorem P_of (i : Fin 8192) (j : ℕ) (hj : j < 5632) : P X i.val j = X (ix2 i ⟨j, hj⟩) := dif_pos ⟨i.isLt, hj⟩

theorem B_of (j : ℕ) (hj : j < 128) : B SB g.val t.val j = SB (ix3 g t ⟨j, hj⟩) := dif_pos ⟨g.isLt, t.isLt, hj⟩

theorem M1_at : M1 (ix2 t k) = if k.val ≤ t.val then 1#1 else 0#1 := by
  pointwise [M1]
  exact NsaMath.sge_eq t k t.isLt k.isLt

theorem M2_at : M2 (ix2 t k) = if k.val ≤ t.val ∧ t.val < k.val + 512 then 1#1 else 0#1 := by
  pointwise [M2, M1_at]
  rw [NsaMath.slt_eq t k t.isLt k.isLt]
  by_cases h1 : k.val ≤ t.val <;> by_cases h2 : t.val < k.val + 512 <;> simp [h1, h2, IntOp.andi]

theorem KF_at : KF X (ix3 g k d) = P X k (1536 + g.val * 128 + d.val) := by
  rw [P_of X k _ (by omega)]
  pointwise [KF]
  exact congrArg X (congrArg (ix2 k) (Fin.ext (Nat.add_assoc ..).symm))
theorem VF_at : VF X (ix3 g k d) = P X k (1792 + g.val * 128 + d.val) := by
  rw [P_of X k _ (by omega)]
  pointwise [VF]
  exact congrArg X (congrArg (ix2 k) (Fin.ext (Nat.add_assoc ..).symm))
theorem KW_at : KW X (ix3 g k d) = P X k (2048 + g.val * 128 + d.val) := by
  rw [P_of X k _ (by omega)]
  pointwise [KW]
  exact congrArg X (congrArg (ix2 k) (Fin.ext (Nat.add_assoc ..).symm))
theorem VW_at : VW X (ix3 g k d) = P X k (2304 + g.val * 128 + d.val) := by
  rw [P_of X k _ (by omega)]
  pointwise [VW]
  exact congrArg X (congrArg (ix2 k) (Fin.ext (Nat.add_assoc ..).symm))

theorem QF_at : QF X (ix4 g r t d) = P X t ((g.val * 4 + r.val) * 128 + d.val) := by
  rw [P_of X t _ (by omega)]
  pointwise [QF]

theorem BF_at : BF SB (ix4 g r t k) = B SB g t (k.val / 64) := by
  rw [B_of SB g t _ (by omega)]
  pointwise [BF]

theorem neg_inf : (Ideal.ofBits FTy.f32 4286578688#32 : EReal) = ⊥ := by rfl

theorem group : (g.val * 4 + r.val) / 4 = g.val := by omega

theorem SS_at : SS X SB (ix4 g r t k) = ss X SB (g.val * 4 + r.val) t k := by
  have e : MS (ix4 g r t k) = if k.val ≤ t.val then 1#1 else 0#1 := by pointwise [MS, M1_at]
  unfold ss
  pointwise [SS, e, BF_at, QF_at, KF_at, id_eq]
  rw [group, neg_inf]
  by_cases h1 : k.val ≤ t.val
  · rw [if_pos h1, if_pos h1]; rfl
  · rw [if_neg h1, if_neg h1]; rfl

theorem SW_at : SW X (ix4 g r t k) = sw X (g.val * 4 + r.val) t k := by
  have e : MW (ix4 g r t k) = if k.val ≤ t.val ∧ t.val < k.val + 512 then 1#1 else 0#1 := by pointwise [MW, M2_at]
  unfold sw
  pointwise [SW, e, QF_at, KW_at, id_eq]
  rw [group, neg_inf]
  by_cases h1 : k.val ≤ t.val ∧ t.val < k.val + 512
  · rw [if_pos h1, if_pos h1]; rfl
  · rw [if_neg h1, if_neg h1]; rfl

theorem PS_at : PS X SB (ix4 g r t k) = Ideal.exp (ss X SB (g.val * 4 + r.val) t k - NsaMath.mx (ss X SB (g.val * 4 + r.val) t) 8192) := by
  have e : MS (ix4 g r t k) = if k.val ≤ t.val then 1#1 else 0#1 := by pointwise [MS, M1_at]
  pointwise [PS, e, SS_at, id_eq]
  rw [neg_inf, NsaMath.fold_all]
  by_cases h1 : k.val ≤ t.val
  · rw [if_pos h1]; rfl
  · have e2 : ss X SB (g.val * 4 + r.val) t k = ⊥ := if_neg h1
    rw [if_neg h1, e2, EReal.bot_sub, Ideal.exp_bot]; rfl

theorem PW_at : PW X (ix4 g r t k) = Ideal.exp (sw X (g.val * 4 + r.val) t k - NsaMath.mx (sw X (g.val * 4 + r.val) t) 8192) := by
  have e : MW (ix4 g r t k) = if k.val ≤ t.val ∧ t.val < k.val + 512 then 1#1 else 0#1 := by pointwise [MW, M2_at]
  pointwise [PW, e, SW_at, id_eq]
  rw [neg_inf, NsaMath.fold_all]
  by_cases h1 : k.val ≤ t.val ∧ t.val < k.val + 512
  · rw [if_pos h1]; rfl
  · have e2 : sw X (g.val * 4 + r.val) t k = ⊥ := if_neg h1
    rw [if_neg h1, e2, EReal.bot_sub, Ideal.exp_bot]; rfl

theorem OS_at : OS X SB (ix4 g r t d) = NsaMath.br (ss X SB (g.val * 4 + r.val) t) (fun k => P X k (1792 + (g.val * 4 + r.val) / 4 * 128 + d.val)) := by
  unfold NsaMath.br NsaMath.ac
  pointwise [OS, PS_at, VF_at]
  rw [group, Finset.sum_range, Finset.sum_range]

theorem OW_at : OW X (ix4 g r t d) = NsaMath.br (sw X (g.val * 4 + r.val) t) (fun k => P X k (2304 + (g.val * 4 + r.val) / 4 * 128 + d.val)) := by
  unfold NsaMath.br NsaMath.ac
  pointwise [OW, PW_at, VW_at]
  rw [group, Finset.sum_range, Finset.sum_range]

theorem G0_at : G0 GT (ix3 t h d) = GT (ix2 t ⟨h.val, by omega⟩) := by
  pointwise [G0]
theorem G1_at : G1 GT (ix3 t h d) = GT (ix2 t ⟨8 + h.val, by omega⟩) := by
  pointwise [G1]
theorem G2_at : G2 GT (ix3 t h d) = GT (ix2 t ⟨16 + h.val, by omega⟩) := by
  pointwise [G2]

theorem OF_at : OF X SB OC GT (ix3 t h d) = oo X SB OC GT t h d := by
  unfold oo
  pointwise [OF, G0_at, G1_at, G2_at, OS_at, OW_at]
  have e : h.val / 4 * 4 + h.val % 4 = h.val := by omega
  simp only [e]

theorem REF_at : REF X SB OC GT GG (ix2 t ⟨h.val * 128 + d.val, by omega⟩) = out X SB OC GT GG t h d := by
  unfold out NsaMath.nrm
  pointwise [REF, OF_at]

end

end Cert.NsaRefIdeal.Value
-- ==== Proof.NsaV.Blocks.lean ====
/- The windows' blocks as entries of the arguments: the queries, the keys and values, the biases, the gates. -/
module

public import proofs.«01_k».proof.Proof.Gen.NsaIdeal.Value
public import proofs.«01_k».proof.Proof.NsaV.Loop
public import proofs.«01_k».proof.Proof.NsaV.Ref
public import Idealize.ShloMosaic.Lib.Pointwise
public import Idealize.ShloMosaic.Lib.WordCmp
public import Idealize.ShloMosaic.Lib.Pipeline.ValueKit

@[expose] public section

set_option maxRecDepth 16384

noncomputable section

namespace Cert.NsaIdeal.NsaV

open Cert.NsaIdeal Cert.NsaIdeal.Gen
open Idealize.ShloMosaic Idealize.ShloMosaic.TcCoe Idealize.SL.Sem

variable (m : (ℓ : Loc nD τ sig) → Buf (Elt Ideal) ℓ)

/-- The windows' block indices at every point, in the grid's coordinates. -/
theorem idx : ∀ t : Fin cfg0.N, win0_0.index t = ![(grid0.coords t 1).val, (grid0.coords t 0).val] ∧ win0_1.index t = ![0, 12 + (grid0.coords t 0).val]
    ∧ win0_2.index t = ![0, 14 + (grid0.coords t 0).val] ∧ win0_3.index t = ![0, 16 + (grid0.coords t 0).val] ∧ win0_4.index t = ![0, 18 + (grid0.coords t 0).val]
    ∧ win0_5.index t = ![0, 0] ∧ win0_6.index t = ![(grid0.coords t 0).val, (grid0.coords t 1).val, 0] ∧ win0_7.index t = ![(grid0.coords t 1).val, (grid0.coords t 0).val]
    ∧ win0_8.index t = ![(grid0.coords t 1).val, 0] ∧ win0_9.index t = ![0, (grid0.coords t 0).val] ∧ win0_10.index t = ![(grid0.coords t 1).val, (grid0.coords t 0).val] :=
  (by decide +kernel : ∀ t : Fin grid0.N, _)

section

variable (c : Dev nD) (t : Fin cfg0.N)

open Cert.NsaRefIdeal.Value (P B ss sw oo out REF)

/-- The argument arrays, as the reference types them. -/
abbrev aX : FVec Ideal Cert.NsaRefIdeal.S8192x5632 .bf16 := m ((c.tc : Thread nD τ).loc main_arg0)
abbrev aB : FVec Ideal Cert.NsaRefIdeal.S2x8192x128 .bf16 := m ((c.tc : Thread nD τ).loc main_arg1)
abbrev aO : FVec Ideal Cert.NsaRefIdeal.S8192x1024 .f32 := m ((c.tc : Thread nD τ).loc main_arg2)
abbrev aT : FVec Ideal Cert.NsaRefIdeal.S8192x128 .f32 := m ((c.tc : Thread nD τ).loc main_arg3)
abbrev aG : FVec Ideal Cert.NsaRefIdeal.S1x2048 .f32 := m ((c.tc : Thread nD τ).loc main_arg4)

theorem lt0 : (grid0.coords t 0).val < 2 := (grid0.coords t 0).isLt
theorem lt1 : (grid0.coords t 1).val < 32 := (grid0.coords t 1).isLt

theorem blk0 (r : Fin 256) (j : Fin 512) : iblk m c 0 t (ix2 r j) = P (aX m c) (256 * (grid0.coords t 1).val + r) (512 * (grid0.coords t 0).val + j) := by
  have hi := lt0 t
  have hj := lt1 t
  refine Eq.trans ?_ (dif_pos ⟨by omega, by omega⟩ : P (aX m c) (256 * (grid0.coords t 1).val + r) (512 * (grid0.coords t 0).val + j) = _).symm
  blk_point [iblk, V_main_arg0, idx t]

theorem blk1 (r : Fin 8192) (j : Fin 128) : iblk m c 1 t (ix2 r j) = P (aX m c) r (1536 + (grid0.coords t 0).val * 128 + j) := by
  have hi : (grid0.coords t 0).val < 2 := (grid0.coords t 0).isLt
  refine Eq.trans ?_ (dif_pos ⟨by omega, by omega⟩ : P (aX m c) r (1536 + (grid0.coords t 0).val * 128 + j) = _).symm
  blk_point [iblk, V_main_arg0, idx t]

theorem blk2 (r : Fin 8192) (j : Fin 128) : iblk m c 2 t (ix2 r j) = P (aX m c) r (1792 + (grid0.coords t 0).val * 128 + j) := by
  have hi : (grid0.coords t 0).val < 2 := (grid0.coords t 0).isLt
  refine Eq.trans ?_ (dif_pos ⟨by omega, by omega⟩ : P (aX m c) r (1792 + (grid0.coords t 0).val * 128 + j) = _).symm
  blk_point [iblk, V_main_arg0, idx t]

theorem blk3 (r : Fin 8192) (j : Fin 128) : iblk m c 3 t (ix2 r j) = P (aX m c) r (2048 + (grid0.coords t 0).val * 128 + j) := by
  have hi : (grid0.coords t 0).val < 2 := (grid0.coords t 0).isLt
  refine Eq.trans ?_ (dif_pos ⟨by omega, by omega⟩ : P (aX m c) r (2048 + (grid0.coords t 0).val * 128 + j) = _).symm
  blk_point [iblk, V_main_arg0, idx t]

theorem blk4 (r : Fin 8192) (j : Fin 128) : iblk m c 4 t (ix2 r j) = P (aX m c) r (2304 + (grid0.coords t 0).val * 128 + j) := by
  have hi : (grid0.coords t 0).val < 2 := (grid0.coords t 0).isLt
  refine Eq.trans ?_ (dif_pos ⟨by omega, by omega⟩ : P (aX m c) r (2304 + (grid0.coords t 0).val * 128 + j) = _).symm
  blk_point [iblk, V_main_arg0, idx t]

theorem v9_at (k : Fin 8192) (j : Fin 128) : (V m c main_v9 : FVec Ideal S8192x128 .bf16) (ix2 k j) = (if k.val / 64 = j.val then 1 else 0 : EReal) := by
  entry_read
  pointwise
  have h : ∀ (k : Fin 8192), IntOp.shrsi ArithUnit.host (BitVec.ofNat 32 k.val) 6#32 = BitVec.ofNat 32 (k.val / 64) := by decide +kernel
  rw [h]
  have h2 : ∀ x y : Fin 128, IntOp.cmpi CmpIPredicate.eq (BitVec.ofNat 32 x.val) (BitVec.ofNat 32 y.val) = if x.val = y.val then 1#1 else 0#1 := by decide +kernel
  rw [h2 ⟨k.val / 64, by omega⟩ j]
  by_cases hx : k.val / 64 = j.val
  · rw [if_pos hx, if_pos hx]
    show (((1#1).toNat : ℝ) : EReal) = 1
    norm_num
  · rw [if_neg hx, if_neg hx]
    show (((0#1).toNat : ℝ) : EReal) = 0
    norm_num
theorem blk5 (k : Fin 8192) (j : Fin 128) : (iblk m c 5 t : FVec Ideal S8192x128 .bf16) (ix2 k j) = (if k.val / 64 = j.val then 1 else 0 : EReal) := by
  rw [← v9_at m c]
  blk_ext [iblk, idx t]
theorem blk6 (r : Fin 256) (j : Fin 128) : iblk m c 6 t (ix3 0 r j) = B (aB m c) (grid0.coords t 0).val (256 * (grid0.coords t 1).val + r) j := by
  have hi := lt0 t
  have hj := lt1 t
  refine Eq.trans ?_ (dif_pos ⟨by omega, by omega, by omega⟩ : B (aB m c) (grid0.coords t 0).val (256 * (grid0.coords t 1).val + r) j = _).symm
  blk_point [iblk, V_main_arg1, idx t]
theorem blk7 (r : Fin 256) (j : Fin 512) : iblk m c 7 t (ix2 r j) = aO m c (ix2 ⟨256 * (grid0.coords t 1).val + r, by have := lt1 t; omega⟩ ⟨512 * (grid0.coords t 0).val + j, by have := lt0 t; omega⟩) := by
  have hi := lt0 t
  have hj := lt1 t
  blk_point [iblk, V_main_arg2, idx t]
theorem blk8 (r : Fin 256) (j : Fin 128) : iblk m c 8 t (ix2 r j) = aT m c (ix2 ⟨256 * (grid0.coords t 1).val + r, by have := lt1 t; omega⟩ j) := by
  have hj := lt1 t
  blk_point [iblk, V_main_arg3, idx t]
theorem blk9 (j : Fin 512) : iblk m c 9 t (ix2 0 j) = aG m c (ix2 0 ⟨512 * (grid0.coords t 0).val + j, by have := lt0 t; omega⟩) := by
  have hi := lt0 t
  blk_point [iblk, V_main_arg4, idx t]

end

end Cert.NsaIdeal.NsaV
-- ==== Proof.NsaV.Heads.lean ====
/- The two attention branches and the gated, normalised heads of a block of rows are the reference's. -/
module

public import proofs.«01_k».proof.Proof.Gen.NsaIdeal.Value
public import proofs.«01_k».proof.Proof.NsaV.Blocks
public import Idealize.ShloMosaic.Lib.Pointwise
public import Idealize.ShloMosaic.Lib.WordCmp
public import Idealize.ShloMosaic.Lib.Pipeline.ValueKit

@[expose] public section

set_option maxRecDepth 16384

noncomputable section

namespace Cert.NsaIdeal.NsaV

open Cert.NsaIdeal Cert.NsaIdeal.Gen
open Idealize.ShloMosaic Idealize.ShloMosaic.TcCoe Idealize.SL.Sem

variable (m : (ℓ : Loc nD τ sig) → Buf (Elt Ideal) ℓ)

section

variable (c : Dev nD) (t : Fin cfg0.N)

open Cert.NsaRefIdeal.Value (P B ss sw oo out REF)

/-- The queries of the block's four heads, one head after the other. -/
abbrev Q4 : FVec Ideal S1024x128 .bf16 := k0_pay10 (View.ld (iblk m c 0 t : Vec Ideal S256x512 .bf16) (Rect.unit (s := S256x512) ![0, 0] ![256, 128] inb_S256x512_S256x128_0_0)) (View.ld (iblk m c 0 t : Vec Ideal S256x512 .bf16) (Rect.unit (s := S256x512) ![0, 128] ![256, 128] inb_S256x512_S256x128_0_128)) (View.ld (iblk m c 0 t : Vec Ideal S256x512 .bf16) (Rect.unit (s := S256x512) ![0, 256] ![256, 128] inb_S256x512_S256x128_0_256)) (View.ld (iblk m c 0 t : Vec Ideal S256x512 .bf16) (Rect.unit (s := S256x512) ![0, 384] ![256, 128] inb_S256x512_S256x128_0_384))

/-- The same beside the biases of the rows' blocks. -/
abbrev Q5 : FVec Ideal S1024x256 .bf16 := k0_pay11 (View.ld (iblk m c 0 t : Vec Ideal S256x512 .bf16) (Rect.unit (s := S256x512) ![0, 0] ![256, 128] inb_S256x512_S256x128_0_0)) (View.ld (iblk m c 0 t : Vec Ideal S256x512 .bf16) (Rect.unit (s := S256x512) ![0, 128] ![256, 128] inb_S256x512_S256x128_0_128)) (View.ld (iblk m c 0 t : Vec Ideal S256x512 .bf16) (Rect.unit (s := S256x512) ![0, 256] ![256, 128] inb_S256x512_S256x128_0_256)) (View.ld (iblk m c 0 t : Vec Ideal S256x512 .bf16) (Rect.unit (s := S256x512) ![0, 384] ![256, 128] inb_S256x512_S256x128_0_384)) (iblk m c 6 t)

/-- The query's row in the array, and its head. -/
abbrev tq (R : Fin 1024) : ℕ := 256 * (grid0.coords t 1).val + R.val % 256
abbrev hq (R : Fin 1024) : ℕ := (grid0.coords t 0).val * 4 + R.val / 256

theorem pay10_at (q1 q2 q3 q4 : Vec Ideal S256x128 .bf16) (i : Fin 256) (x : Fin 128) :
    k0_pay10 q1 q2 q3 q4 (ix2 ⟨i.val, by omega⟩ x) = q1 (ix2 i x) ∧ k0_pay10 q1 q2 q3 q4 (ix2 ⟨256 + i.val, by omega⟩ x) = q2 (ix2 i x)
    ∧ k0_pay10 q1 q2 q3 q4 (ix2 ⟨512 + i.val, by omega⟩ x) = q3 (ix2 i x) ∧ k0_pay10 q1 q2 q3 q4 (ix2 ⟨768 + i.val, by omega⟩ x) = q4 (ix2 i x) := by
  refine ⟨?_, ?_, ?_, ?_⟩
  · pointwise [k0_pay10]
  · pointwise [k0_pay10]
  · pointwise [k0_pay10]
    rw [dif_neg (by omega), dif_neg (by omega), dif_pos (by omega)]
    exact congrArg (fun z => q3 (ix2 z x)) (Fin.ext (by show 512 + i.val - 256 - 256 = i.val; omega))
  · pointwise [k0_pay10]
    rw [dif_neg (by omega), dif_neg (by omega), dif_neg (by omega)]
    exact congrArg (fun z => q4 (ix2 z x)) (Fin.ext (by show 768 + i.val - 256 - 256 - 256 = i.val; omega))

theorem q_ld (X : Vec Ideal S256x512 .bf16) (i : Fin 256) (x : Fin 128) :
    View.ld X (Rect.unit (s := S256x512) ![0, 0] ![256, 128] inb_S256x512_S256x128_0_0) (ix2 i x) = X (ix2 i ⟨x.val, by omega⟩)
    ∧ View.ld X (Rect.unit (s := S256x512) ![0, 128] ![256, 128] inb_S256x512_S256x128_0_128) (ix2 i x) = X (ix2 i ⟨128 + x.val, by omega⟩)
    ∧ View.ld X (Rect.unit (s := S256x512) ![0, 256] ![256, 128] inb_S256x512_S256x128_0_256) (ix2 i x) = X (ix2 i ⟨256 + x.val, by omega⟩)
    ∧ View.ld X (Rect.unit (s := S256x512) ![0, 384] ![256, 128] inb_S256x512_S256x128_0_384) (ix2 i x) = X (ix2 i ⟨384 + x.val, by omega⟩) := by
  refine ⟨?_, ?_, ?_, ?_⟩
  · pointwise
  · pointwise
  · pointwise
  · pointwise

theorem q_at (R : Fin 1024) (x : Fin 128) : Q4 m c t (ix2 R x) = P (aX m c) (tq t R) (hq t R * 128 + x.val) := by
  have hR := R.isLt
  obtain h | h | h | h : R.val / 256 = 0 ∨ R.val / 256 = 1 ∨ R.val / 256 = 2 ∨ R.val / 256 = 3 := by omega
  all_goals
    have p := pay10_at (View.ld (iblk m c 0 t : Vec Ideal S256x512 .bf16) (Rect.unit (s := S256x512) ![0, 0] ![256, 128] inb_S256x512_S256x128_0_0)) (View.ld (iblk m c 0 t : Vec Ideal S256x512 .bf16) (Rect.unit (s := S256x512) ![0, 128] ![256, 128] inb_S256x512_S256x128_0_128)) (View.ld (iblk m c 0 t : Vec Ideal S256x512 .bf16) (Rect.unit (s := S256x512) ![0, 256] ![256, 128] inb_S256x512_S256x128_0_256)) (View.ld (iblk m c 0 t : Vec Ideal S256x512 .bf16) (Rect.unit (s := S256x512) ![0, 384] ![256, 128] inb_S256x512_S256x128_0_384)) ⟨R.val % 256, by omega⟩ x
    have q := q_ld (iblk m c 0 t : Vec Ideal S256x512 .bf16) ⟨R.val % 256, by omega⟩ x
    unfold hq
    rw [h]
  · refine (congrArg (fun z => Q4 m c t (ix2 z x)) (Fin.ext (by show R.val = R.val % 256; omega))).trans (p.1.trans (q.1.trans ((blk0 m c t _ _).trans ?_)))
    refine congrArg _ ?_
    show 512 * _ + x.val = _; omega
  · refine (congrArg (fun z => Q4 m c t (ix2 z x)) (Fin.ext (by show R.val = 256 + R.val % 256; omega))).trans (p.2.1.trans (q.2.1.trans ((blk0 m c t _ _).trans ?_)))
    refine congrArg _ ?_
    show 512 * _ + (128 + x.val) = _; omega
  · refine (congrArg (fun z => Q4 m c t (ix2 z x)) (Fin.ext (by show R.val = 512 + R.val % 256; omega))).trans (p.2.2.1.trans (q.2.2.1.trans ((blk0 m c t _ _).trans ?_)))
    refine congrArg _ ?_
    show 512 * _ + (256 + x.val) = _; omega
  · refine (congrArg (fun z => Q4 m c t (ix2 z x)) (Fin.ext (by show R.val = 768 + R.val % 256; omega))).trans (p.2.2.2.trans (q.2.2.2.trans ((blk0 m c t _ _).trans ?_)))
    refine congrArg _ ?_
    show 512 * _ + (384 + x.val) = _; omega

theorem E_of (x : Vec Ideal S8192x128 .bf16) (k : ℕ) (d : Fin 128) (h : k < 8192) : E x k d = x (ix2 ⟨k, h⟩ d) := dif_pos h

theorem hq_div (R : Fin 1024) : hq t R / 4 = (grid0.coords t 0).val := by have := R.isLt; unfold hq; omega

/-- A tile's scores are the reference's, where the key is not past the query. -/
theorem score_eq (n : ℕ) (o : Fin 2 → ℕ) (h : ∀ a, o a + S256x128.size a ≤ S8192x128.size a) (ho : o = ![n, 0]) (R : Fin 1024) (j : Fin 256) (hk : n + j.val ≤ tq t R) (hn : n + 256 ≤ 8192) :
    k0_pay2 (Q5 m c t) (View.ld (iblk m c 1 t : Vec Ideal S8192x128 .bf16) (Rect.unit (s := S8192x128) o S256x128.size h)) (View.ld (iblk m c 5 t : Vec Ideal S8192x128 .bf16) (Rect.unit (s := S8192x128) o S256x128.size h)) (ix2 R j)
      = ss (aX m c) (aB m c) (hq t R) (tq t R) (n + j.val) := by
  have hj : n + j.val < 8192 := by omega
  rw [score_at]
  unfold ss
  rw [if_pos hk, hq_div]
  refine congrArg₂ (· + ·) (Finset.sum_congr rfl fun x _ => ?_) ?_
  · refine congrArg₂ (· * ·) (q_at m c t R x) ?_
    rw [ld_at _ o h n ho, E_of _ _ _ hj]
    exact blk1 m c t ⟨n + j.val, hj⟩ x
  · have e : ∀ x : Fin 128, (View.ld (iblk m c 5 t : Vec Ideal S8192x128 .bf16) (Rect.unit (s := S8192x128) o S256x128.size h)) (ix2 j x) = (if (n + j.val) / 64 = x.val then 1 else 0 : EReal) := by
      intro x
      rw [ld_at _ o h n ho, E_of _ _ _ hj]
      exact blk5 m c t ⟨n + j.val, hj⟩ x
    rw [Finset.sum_eq_single (⟨(n + j.val) / 64, by omega⟩ : Fin 128)]
    · rw [e, if_pos rfl, mul_one]
      exact blk6 m c t ⟨R.val % 256, by omega⟩ _
    · intro x _ hx
      rw [e, if_neg (fun hh => hx (Fin.ext hh.symm)), mul_zero]
    · intro hh
      exact absurd (Finset.mem_univ _) hh

theorem val_eq (k : ℕ) (d : Fin 128) (hk : k < 8192) : E (iblk m c 2 t) k d = P (aX m c) k (1792 + (grid0.coords t 0).val * 128 + d.val) := by
  rw [E_of _ _ _ hk]
  exact blk2 m c t ⟨k, hk⟩ d

set_option maxHeartbeats 1600000 in
/-- The selected branch of the block, from the running state after the full tiles. -/
theorem sel_at (S : FVec Ideal S1024x1 .f32 × FVec Ideal S1024x256 .f32) (R : Fin 1024) (d : Fin 128)
    (g : Good (ss (aX m c) (aB m c) (hq t R) (tq t R)) (fun k => P (aX m c) k (1792 + hq t R / 4 * 128 + d.val)) R d (512 * ((grid0.coords t 1).val / 2)) S.1 S.2) :
    k0_pay23 k0_pay12 S.1 S.2 (k0_pay19 (Scalar.muli (BitVec.ofNat 32 (grid0.coords t 1).val) 256#32) (Q5 m c t) (w27 (Scalar.muli (BitVec.ofNat 32 (grid0.coords t 1).val) 256#32)) (View.ld (iblk m c 1 t : Vec Ideal S8192x128 .bf16) (Rect.unit (s := S8192x128) (k0_off3 (grid0.coords t) 0#32) S256x128.size (k0_off3_inb (grid0.coords t) 0))) (View.ld (iblk m c 5 t : Vec Ideal S8192x128 .bf16) (Rect.unit (s := S8192x128) (k0_off3 (grid0.coords t) 0#32) S256x128.size (k0_off3_inb (grid0.coords t) 0)))) (k0_pay20 (Q5 m c t) (View.ld (iblk m c 1 t : Vec Ideal S8192x128 .bf16) (Rect.unit (s := S8192x128) (k0_off3 (grid0.coords t) 256#32) S256x128.size (k0_off3_inb (grid0.coords t) 1))) (View.ld (iblk m c 5 t : Vec Ideal S8192x128 .bf16) (Rect.unit (s := S8192x128) (k0_off3 (grid0.coords t) 256#32) S256x128.size (k0_off3_inb (grid0.coords t) 1))))
      (k0_pay21 (Scalar.muli (BitVec.ofNat 32 (grid0.coords t 1).val) 256#32) (w27 (Scalar.muli (BitVec.ofNat 32 (grid0.coords t 1).val) 256#32))) k0_pay22 (View.ld (iblk m c 2 t : Vec Ideal S8192x128 .bf16) (Rect.unit (s := S8192x128) (k0_off3 (grid0.coords t) 0#32) S256x128.size (k0_off3_inb (grid0.coords t) 0))) (View.ld (iblk m c 2 t : Vec Ideal S8192x128 .bf16) (Rect.unit (s := S8192x128) (k0_off3 (grid0.coords t) 256#32) S256x128.size (k0_off3_inb (grid0.coords t) 1))) (ix2 R d)
      = NsaMath.br (ss (aX m c) (aB m c) (hq t R) (tq t R)) (fun k => P (aX m c) k (1792 + hq t R / 4 * 128 + d.val)) := by
  have h1 := lt1 t
  have hR := R.isLt
  have hw := words (grid0.coords t 1)
  have ho := off3 t
  have htq : tq t R = 256 * (grid0.coords t 1).val + R.val % 256 := rfl
  refine g.last (fun j => ?_) (fun j => ?_) (fun j => ?_) (fun j => ?_) (by omega) (fun k hk _ => ?_)
  · refine (pay19_at _ _ _ _ hw.1 hw.2.1 (by omega) (by omega) _ _ _ R j).trans ?_
    by_cases hh : 512 * ((grid0.coords t 1).val / 2) + j.val ≤ 256 * (grid0.coords t 1).val + R.val % 256
    · rw [if_pos hh]
      exact score_eq m c t _ _ _ ho.1 R j hh (by omega)
    · rw [if_neg hh]
      exact (if_neg hh).symm
  · rw [ld_at _ _ _ _ ho.1, hq_div]
    exact val_eq m c t _ d (by omega)
  · refine (pay21_at _ _ _ _ hw.1 hw.2.2.1 (by omega) (by omega) _ R j).trans ?_
    by_cases hh : 512 * ((grid0.coords t 1).val / 2) + 256 + j.val ≤ 256 * (grid0.coords t 1).val + R.val % 256
    · rw [if_pos hh, pay20_eq]
      exact score_eq m c t _ _ _ ho.2.1 R j hh (by omega)
    · rw [if_neg hh]
      exact (if_neg hh).symm
  · rw [ld_at _ _ _ _ ho.2.1, hq_div]
    exact val_eq m c t _ d (by omega)
  · exact if_neg (by omega)

set_option maxHeartbeats 1600000 in
/-- The window branch of the block. -/
theorem win_at (R : Fin 1024) (d : Fin 128) :
    k0_pay24 (Scalar.muli (BitVec.ofNat 32 (grid0.coords t 1).val) 256#32) (Q4 m c t) (Scalar.minsi 7424#32 (Scalar.maxsi 0#32 (Scalar.subi (Scalar.muli (BitVec.ofNat 32 (grid0.coords t 1).val) 256#32) 512#32))) (View.ld (iblk m c 3 t : Vec Ideal S8192x128 .bf16) (Rect.unit (s := S8192x128) (k0_off4 (grid0.coords t)) S768x128.size (k0_off4_inb (grid0.coords t)))) (View.ld (iblk m c 4 t : Vec Ideal S8192x128 .bf16) (Rect.unit (s := S8192x128) (k0_off4 (grid0.coords t)) S768x128.size (k0_off4_inb (grid0.coords t)))) (ix2 R d)
      = NsaMath.br (sw (aX m c) (hq t R) (tq t R)) (fun k => P (aX m c) k (2304 + hq t R / 4 * 128 + d.val)) := by
  have h1 := lt1 t
  have hR := R.isLt
  have hw := words (grid0.coords t 1)
  have ho := off3 t
  have htq : tq t R = 256 * (grid0.coords t 1).val + R.val % 256 := rfl
  refine pay24_at _ _ _ _ hw.1 hw.2.2.2 (by omega) (by omega) _ _ _ R d _ _ (fun j => ?_) (fun j => ?_) (fun k _ hk => ?_)
  · by_cases hh : 256 * (grid0.coords t 1).val - 512 + j.val ≤ 256 * (grid0.coords t 1).val + R.val % 256 ∧ 256 * (grid0.coords t 1).val + R.val % 256 < 256 * (grid0.coords t 1).val - 512 + j.val + 512
    · rw [if_pos hh]
      refine Eq.trans ?_ (if_pos hh).symm
      refine Finset.sum_congr rfl fun x _ => congrArg₂ (· * ·) (q_at m c t R x) ?_
      rw [ldw_at _ _ _ _ ho.2.2, E_of _ _ _ (by omega), hq_div]
      exact blk3 m c t _ x
    · rw [if_neg hh]
      exact (if_neg hh).symm
  · rw [ldw_at _ _ _ _ ho.2.2, E_of _ _ _ (by omega), hq_div]
    exact blk4 m c t _ d
  · exact if_neg (by omega)

/-- A head's gated and normalised columns are the reference's. -/
theorem piece_eq (r : Fin 4) (A C : FVec Ideal S1024x128 .f32)
    (hA : ∀ (R : Fin 1024) (d : Fin 128), A (ix2 R d) = NsaMath.br (ss (aX m c) (aB m c) (hq t R) (tq t R)) (fun k => P (aX m c) k (1792 + hq t R / 4 * 128 + d.val)))
    (hC : ∀ (R : Fin 1024) (d : Fin 128), C (ix2 R d) = NsaMath.br (sw (aX m c) (hq t R) (tq t R)) (fun k => P (aX m c) k (2304 + hq t R / 4 * 128 + d.val)))
    (oc : Vec Ideal S256x128 .f32) (ho : ∀ (i : Fin 256) (d : Fin 128), oc (ix2 i d) = (iblk m c 7 t : Vec Ideal S256x512 .f32) (ix2 i ⟨128 * r.val + d.val, by omega⟩))
    (gg : Vec Ideal S1x128 .f32) (hg : ∀ d : Fin 128, gg (ix2 0 d) = (iblk m c 9 t : Vec Ideal S1x512 .f32) (ix2 0 ⟨128 * r.val + d.val, by omega⟩)) (i : Fin 256) (d : Fin 128) :
    NsaMath.nrm (hd (iblk m c 8 t) oc A C ⟨(grid0.coords t 0).val, lt0 t⟩ r i) d (gg (ix2 0 d))
      = REF (aX m c) (aB m c) (aO m c) (aT m c) (aG m c) (ix2 ⟨256 * (grid0.coords t 1).val + i, by have := lt1 t; omega⟩ ⟨512 * (grid0.coords t 0).val + (128 * r.val + d.val), by have := lt0 t; omega⟩) := by
  have h0 := lt0 t
  have h1 := lt1 t
  have hr := r.isLt
  have e := Cert.NsaRefIdeal.Value.REF_at (aX m c) (aB m c) (aO m c) (aT m c) (aG m c) ⟨(grid0.coords t 0).val * 4 + r.val, by omega⟩ ⟨256 * (grid0.coords t 1).val + i, by omega⟩ d
  have hc : (⟨((grid0.coords t 0).val * 4 + r.val) * 128 + d.val, by omega⟩ : Fin 1024) = ⟨512 * (grid0.coords t 0).val + (128 * r.val + d.val), by omega⟩ := Fin.ext (by show ((grid0.coords t 0).val * 4 + r.val) * 128 + d.val = 512 * (grid0.coords t 0).val + (128 * r.val + d.val); omega)
  refine Eq.trans ?_ (e.symm.trans (congrArg (fun z => REF (aX m c) (aB m c) (aO m c) (aT m c) (aG m c) (ix2 _ z)) hc))
  unfold out
  have h2 : hd (iblk m c 8 t) oc A C ⟨(grid0.coords t 0).val, lt0 t⟩ r i = oo (aX m c) (aB m c) (aO m c) (aT m c) ⟨256 * (grid0.coords t 1).val + i, by omega⟩ ⟨(grid0.coords t 0).val * 4 + r.val, by omega⟩ := by
    funext d
    have hqR : hq t ⟨256 * r.val + i.val, by omega⟩ = (grid0.coords t 0).val * 4 + r.val := by show _ * 4 + (256 * r.val + i.val) / 256 = _; omega
    have htR : tq t ⟨256 * r.val + i.val, by omega⟩ = 256 * (grid0.coords t 1).val + i.val := by show _ + (256 * r.val + i.val) % 256 = _; omega
    unfold hd oo
    rw [hA, hC, hqR, htR, ho, blk7 m c t]
    refine congrArg₂ (· + ·) (congrArg₂ (· + ·) (congrArg₂ (· * ·) (blk8 m c t _ _) ?_) (congrArg₂ (· * ·) (blk8 m c t _ _) rfl)) (congrArg₂ (· * ·) (blk8 m c t _ _) rfl)
    refine congrArg (fun z => aO m c (ix2 _ z)) (Fin.ext ?_)
    show 512 * (grid0.coords t 0).val + (128 * r.val + d.val) = ((grid0.coords t 0).val * 4 + r.val) * 128 + d.val
    omega
  rw [h2, hg, blk9 m c t]
  refine congrArg (fun z => NsaMath.nrm _ d (aG m c (ix2 0 z))) (Fin.ext ?_)
  show 512 * (grid0.coords t 0).val + (128 * r.val + d.val) = ((grid0.coords t 0).val * 4 + r.val) * 128 + d.val
  omega

end

end Cert.NsaIdeal.NsaV
-- ==== Proof.NsaV.Value.lean ====
/- The kernel's result array: every block the pipeline writes back is the reference's block. -/
module

public import proofs.«01_k».proof.Proof.Gen.NsaIdeal.Value
public import proofs.«01_k».proof.Proof.NsaV.Heads
public import Idealize.ShloMosaic.Lib.Pointwise
public import Idealize.ShloMosaic.Lib.WordCmp
public import Idealize.ShloMosaic.Lib.Pipeline.ValueKit

@[expose] public section

set_option maxRecDepth 16384

noncomputable section

namespace Cert.NsaIdeal.NsaV

open Cert.NsaIdeal Cert.NsaIdeal.Gen
open Idealize.ShloMosaic Idealize.ShloMosaic.TcCoe Idealize.SL.Sem

variable (m : (ℓ : Loc nD τ sig) → Buf (Elt Ideal) ℓ)

open Cert.NsaRefIdeal.Value (P B ss sw oo out REF)

set_option maxHeartbeats 3200000 in
/-- The result array after the run is the reference's result. -/
theorem final (c : Dev nD) : (dats m 0 c).arrAt 10 cfg0.N = REF (aX m c) (aB m c) (aO m c) (aT m c) (aG m c) := by
  refine (dats m 0 c).arrAt_eq_of_covers 10 _ (by decide +kernel) fun t _ y => ?_
  blk_simp
  rw [after0_10]
  unfold outsAt0
  frame_out
  generalize hS : st_k0_t2 (F := Ideal) _ _ _ _ _ _ _ _ _ _ _ _ _ _ _ _ _ _ _ _ _ _ _ _ _ _ _ _ _ _ _ _ _ _ _ _ _ _ _ _ = S
  have hG : ∀ (R : Fin 1024) (d : Fin 128), Good (ss (aX m c) (aB m c) (hq t R) (tq t R)) (fun k => P (aX m c) k (1792 + hq t R / 4 * 128 + d.val)) R d (512 * ((grid0.coords t 1).val / 2)) S.1 S.2 := by
    intro R d
    have hi := lt1 t
    have e := (t2_skip t _).symm.trans hS
    rw [← e]
    refine st_end t _ _ R d (fun n o h ho hn j => ?_) (fun n hn => ?_)
    · exact score_eq m c t n o h ho R j (by have : tq t R = 256 * (grid0.coords t 1).val + R.val % 256 := rfl; omega) (by omega)
    · rw [hq_div]
      exact val_eq m c t n d hn
  have hA := fun R d => sel_at m c t S R d (hG R d)
  clear hG hS
  unfold w27 at hA
  canon_tiles x h
  · obtain ⟨i, d, rfl⟩ : ∃ (i : Fin 256) (d : Fin 128), x = ix2 i d := ⟨x 0, x 1, by ext a; fin_cases a <;> rfl⟩
    have g0 : (y 0 : ℕ) = i.val := h0
    have g1 : (y 1 : ℕ) = 384 + d.val := h1
    refine (head3 ⟨(grid0.coords t 0).val, lt0 t⟩ _ _ _ _ _ i d).trans ?_
    refine (piece_eq m c t 3 _ _ hA (win_at m c t) _ (fun i d => ?_) _ (fun d => ?_) i d).trans ?_
    · pointwise
    · pointwise
    · have e : 384 = 128 * (3 : Fin 4).val := rfl
      blk_ext [idx t]
  · obtain ⟨i, d, rfl⟩ : ∃ (i : Fin 256) (d : Fin 128), x = ix2 i d := ⟨x 0, x 1, by ext a; fin_cases a <;> rfl⟩
    have g0 : (y 0 : ℕ) = i.val := h0
    have g1 : (y 1 : ℕ) = 256 + d.val := h1
    refine (head2 ⟨(grid0.coords t 0).val, lt0 t⟩ _ _ _ _ _ i d).trans ?_
    refine (piece_eq m c t 2 _ _ hA (win_at m c t) _ (fun i d => ?_) _ (fun d => ?_) i d).trans ?_
    · pointwise
    · pointwise
    · have e : 256 = 128 * (2 : Fin 4).val := rfl
      blk_ext [idx t]
  · obtain ⟨i, d, rfl⟩ : ∃ (i : Fin 256) (d : Fin 128), x = ix2 i d := ⟨x 0, x 1, by ext a; fin_cases a <;> rfl⟩
    have g0 : (y 0 : ℕ) = i.val := h0
    have g1 : (y 1 : ℕ) = 128 + d.val := h1
    refine (head1 ⟨(grid0.coords t 0).val, lt0 t⟩ _ _ _ _ _ i d).trans ?_
    refine (piece_eq m c t 1 _ _ hA (win_at m c t) _ (fun i d => ?_) _ (fun d => ?_) i d).trans ?_
    · pointwise
    · pointwise
    · have e : 128 = 128 * (1 : Fin 4).val := rfl
      blk_ext [idx t]
  · obtain ⟨i, d, rfl⟩ : ∃ (i : Fin 256) (d : Fin 128), x = ix2 i d := ⟨x 0, x 1, by ext a; fin_cases a <;> rfl⟩
    have g0 : (y 0 : ℕ) = i.val := h0
    have g1 : (y 1 : ℕ) = d.val := h1
    refine (head0 ⟨(grid0.coords t 0).val, lt0 t⟩ _ _ _ _ _ i d).trans ?_
    refine (piece_eq m c t 0 _ _ hA (win_at m c t) _ (fun i d => ?_) _ (fun d => ?_) i d).trans ?_
    · pointwise
    · pointwise
    · have e : 0 = 128 * (0 : Fin 4).val := rfl
      blk_ext [idx t]

end Cert.NsaIdeal.NsaV
-- ==== Proof.NsaV.Claims.lean ====
/- The value claims about the sparse attention's call. -/
module

public import proofs.«01_k».proof.Defs
public import proofs.«01_k».proof.Proof.Gen.Nsa
public import proofs.«01_k».proof.Proof.NsaV.Value
public import proofs.«01_k».proof.Proof.Gen.NsaRefIdeal.Run
public import Idealize.ShloMosaic.Lib.Claim
public import Idealize.ShloMosaic.Lib.Quiescent

@[expose] public section

noncomputable section

namespace Cert.Proof.Nsa

open Idealize.ShloMosaic Idealize.SL.Sem

/-- Every run of the idealized kernel ends with the reference's result and its arguments as they were. -/
theorem run_kernel (m : (ℓ : Loc Cert.NsaIdeal.nD Cert.NsaIdeal.τ Cert.NsaIdeal.sig) → Buf (Elt Ideal) ℓ) (g : Dev Cert.NsaIdeal.nD → PrngReg) :
    θ_run (Cert.NsaIdeal.defs (F := Ideal)) (onTc (τ := Cert.NsaIdeal.τ) (Cert.NsaIdeal.main (F := Ideal))) ⟨m, fun _ => 0, g⟩ (fun r => ∀ c : Dev Cert.NsaIdeal.nD,
      r.2.mem ((c.tc : Thread Cert.NsaIdeal.nD Cert.NsaIdeal.τ).loc Cert.NsaIdeal.main_v10) = Cert.NsaRefIdeal.Value.REF (m ((c.tc : Thread Cert.NsaIdeal.nD Cert.NsaIdeal.τ).loc Cert.NsaIdeal.main_arg0)) (m ((c.tc : Thread Cert.NsaIdeal.nD Cert.NsaIdeal.τ).loc Cert.NsaIdeal.main_arg1)) (m ((c.tc : Thread Cert.NsaIdeal.nD Cert.NsaIdeal.τ).loc Cert.NsaIdeal.main_arg2)) (m ((c.tc : Thread Cert.NsaIdeal.nD Cert.NsaIdeal.τ).loc Cert.NsaIdeal.main_arg3)) (m ((c.tc : Thread Cert.NsaIdeal.nD Cert.NsaIdeal.τ).loc Cert.NsaIdeal.main_arg4))
      ∧ r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)) :=
  (θ_run _ _ _).mono (fun r h c => ⟨((h c).1).trans (Cert.NsaIdeal.NsaV.final m c), (h c).2⟩) (Cert.NsaIdeal.Value.run_blocks m g)

/-- Every run of the idealized reference ends with its result and its arguments as they were. -/
theorem run_reference (m : (ℓ : Loc Cert.NsaRefIdeal.nD Cert.NsaRefIdeal.τ Cert.NsaRefIdeal.sig) → Buf (Elt Ideal) ℓ) (g : Dev Cert.NsaRefIdeal.nD → PrngReg) :
    θ_run (Cert.NsaRefIdeal.defs (F := Ideal)) (onTc (τ := Cert.NsaRefIdeal.τ) (Cert.NsaRefIdeal.main (F := Ideal))) ⟨m, fun _ => 0, g⟩ (fun r => ∀ c : Dev Cert.NsaRefIdeal.nD,
      r.2.mem ((c.tc : Thread Cert.NsaRefIdeal.nD Cert.NsaRefIdeal.τ).loc Cert.NsaRefIdeal.main_v100) = Cert.NsaRefIdeal.Value.REF (m ((c.tc : Thread Cert.NsaRefIdeal.nD Cert.NsaRefIdeal.τ).loc Cert.NsaRefIdeal.main_arg0)) (m ((c.tc : Thread Cert.NsaRefIdeal.nD Cert.NsaRefIdeal.τ).loc Cert.NsaRefIdeal.main_arg1)) (m ((c.tc : Thread Cert.NsaRefIdeal.nD Cert.NsaRefIdeal.τ).loc Cert.NsaRefIdeal.main_arg2)) (m ((c.tc : Thread Cert.NsaRefIdeal.nD Cert.NsaRefIdeal.τ).loc Cert.NsaRefIdeal.main_arg3)) (m ((c.tc : Thread Cert.NsaRefIdeal.nD Cert.NsaRefIdeal.τ).loc Cert.NsaRefIdeal.main_arg4))
      ∧ r.2.mem ((c.tc : Thread Cert.NsaRefIdeal.nD Cert.NsaRefIdeal.τ).loc Cert.NsaRefIdeal.main_arg0) = m ((c.tc : Thread Cert.NsaRefIdeal.nD Cert.NsaRefIdeal.τ).loc Cert.NsaRefIdeal.main_arg0)
      ∧ r.2.mem ((c.tc : Thread Cert.NsaRefIdeal.nD Cert.NsaRefIdeal.τ).loc Cert.NsaRefIdeal.main_arg1) = m ((c.tc : Thread Cert.NsaRefIdeal.nD Cert.NsaRefIdeal.τ).loc Cert.NsaRefIdeal.main_arg1)
      ∧ r.2.mem ((c.tc : Thread Cert.NsaRefIdeal.nD Cert.NsaRefIdeal.τ).loc Cert.NsaRefIdeal.main_arg2) = m ((c.tc : Thread Cert.NsaRefIdeal.nD Cert.NsaRefIdeal.τ).loc Cert.NsaRefIdeal.main_arg2)
      ∧ r.2.mem ((c.tc : Thread Cert.NsaRefIdeal.nD Cert.NsaRefIdeal.τ).loc Cert.NsaRefIdeal.main_arg3) = m ((c.tc : Thread Cert.NsaRefIdeal.nD Cert.NsaRefIdeal.τ).loc Cert.NsaRefIdeal.main_arg3)
      ∧ r.2.mem ((c.tc : Thread Cert.NsaRefIdeal.nD Cert.NsaRefIdeal.τ).loc Cert.NsaRefIdeal.main_arg4) = m ((c.tc : Thread Cert.NsaRefIdeal.nD Cert.NsaRefIdeal.τ).loc Cert.NsaRefIdeal.main_arg4)) :=
  (θ_run _ _ _).mono (fun r h c => ⟨((h c).1).trans (Cert.NsaRefIdeal.Value.res_eq m c), (h c).2⟩) (Cert.NsaRefIdeal.Value.run m g)

/-- The idealized kernel and the idealized reference end with the same result. -/
theorem algebraic : Cert.algebraic_NsaIdeal_NsaRefIdeal := fun m g m' g' _ hagree =>
  ⟨fun c => Cert.NsaRefIdeal.Value.REF (m ((c.tc : Thread Cert.NsaIdeal.nD Cert.NsaIdeal.τ).loc Cert.NsaIdeal.main_arg0)) (m ((c.tc : Thread Cert.NsaIdeal.nD Cert.NsaIdeal.τ).loc Cert.NsaIdeal.main_arg1)) (m ((c.tc : Thread Cert.NsaIdeal.nD Cert.NsaIdeal.τ).loc Cert.NsaIdeal.main_arg2)) (m ((c.tc : Thread Cert.NsaIdeal.nD Cert.NsaIdeal.τ).loc Cert.NsaIdeal.main_arg3)) (m ((c.tc : Thread Cert.NsaIdeal.nD Cert.NsaIdeal.τ).loc Cert.NsaIdeal.main_arg4)), run_kernel m g,
    (θ_run _ _ _).mono (fun r h c => ⟨((h c).1).trans (by rw [(hagree c).1, (hagree c).2.1, (hagree c).2.2.1, (hagree c).2.2.2.1, (hagree c).2.2.2.2]), (h c).2⟩) (run_reference m' g')⟩

/-- The idealized reference leaves its arguments and every counter as they were. -/
theorem frame_reference : Cert.quiescent_NsaRefIdeal := by
  exact fun m g _ => (θ_run _ _ _).mono (fun r h => ⟨fun c => (h c).2, sem_eq_zero_of_no_sems rfl r.2⟩) (run_reference m g)

/-- The mask's large negative number is the only constant the idealized kernel renames. -/
theorem preserves : Cert.preserves_Nsa_NsaIdeal :=
  IdealRules.named_const.statement _ _ .f32 _ ⊥ rfl

end Cert.Proof.Nsa

end
-- ==== Proof.lean ====
/- The claims about the layer's calls: the stick-breaking attention first, then the calls around it. -/
module

public import proofs.«01_k».proof.Defs
public import proofs.«01_k».proof.Proof.Gen.Sb
public import proofs.«01_k».proof.Proof.Gen.SbIdeal
public import proofs.«01_k».proof.Proof.Gen.SbRefIdeal
public import proofs.«01_k».proof.Proof.Gen.SbRefIdeal.Run
public import proofs.«01_k».proof.Proof.SbB.Frame
public import proofs.«01_k».proof.Proof.SbI.Frame
public import proofs.«01_k».proof.Proof.SbV.Claims
public import proofs.«01_k».proof.Proof.Gen.FfnLast
public import proofs.«01_k».proof.Proof.Gen.FfnLast.Frame
public import proofs.«01_k».proof.Proof.Gen.FfnLastIdeal.Value
public import proofs.«01_k».proof.Proof.Gen.FfnLastRefIdeal.Run
public import proofs.«01_k».proof.Proof.FfnLastV.Claims
public import proofs.«01_k».proof.Proof.Gen.Ffn
public import proofs.«01_k».proof.Proof.Gen.Ffn.Frame
public import proofs.«01_k».proof.Proof.Gen.FfnIdeal.Value
public import proofs.«01_k».proof.Proof.Gen.FfnRefIdeal.Run
public import proofs.«01_k».proof.Proof.FfnV.Claims
public import proofs.«01_k».proof.Proof.Gen.OutProj
public import proofs.«01_k».proof.Proof.Gen.OutProj.Frame
public import proofs.«01_k».proof.Proof.Gen.OutProjIdeal.Value
public import proofs.«01_k».proof.Proof.Gen.OutProjRefIdeal.Run
public import proofs.«01_k».proof.Proof.OutProjV.Claims
public import proofs.«01_k».proof.Proof.Gen.Proj
public import proofs.«01_k».proof.Proof.Gen.Proj.Frame
public import proofs.«01_k».proof.Proof.Gen.ProjIdeal.Value
public import proofs.«01_k».proof.Proof.Gen.ProjRefIdeal.Run
public import proofs.«01_k».proof.Proof.ProjV.Claims
public import proofs.«01_k».proof.Proof.Gen.Norm
public import proofs.«01_k».proof.Proof.Gen.Norm.Frame
public import proofs.«01_k».proof.Proof.Gen.NormIdeal.Value
public import proofs.«01_k».proof.Proof.Gen.NormRefIdeal.Run
public import proofs.«01_k».proof.Proof.NormV.Claims
public import proofs.«01_k».proof.Proof.Gen.NormGate
public import proofs.«01_k».proof.Proof.Gen.NormGate.Frame
public import proofs.«01_k».proof.Proof.Gen.NormGateIdeal.Value
public import proofs.«01_k».proof.Proof.Gen.NormGateRefIdeal.Run
public import proofs.«01_k».proof.Proof.NormGateV.Claims
public import proofs.«01_k».proof.Proof.Gen.Nsa
public import proofs.«01_k».proof.Proof.Gen.Nsa.Frame
public import proofs.«01_k».proof.Proof.Gen.NsaIdeal.Value
public import proofs.«01_k».proof.Proof.Gen.NsaRefIdeal.Run
public import proofs.«01_k».proof.Proof.NsaV.Claims
public import Idealize.ShloMosaic.Adequacy
public import Idealize.ShloMosaic.Init

@[expose] public section

noncomputable section

namespace Cert.Proof

open Idealize.ShloMosaic Idealize.SL.Sem

/-- Every program's facts, then every frame claim, then for each program that its idealized text is its own and that it agrees with its reference. -/
theorem claim : Cert.Claim := ⟨Cert.Sb.Gen.facts, Cert.SbIdeal.Gen.facts, Cert.SbRefIdeal.Gen.facts, Cert.FfnLast.Gen.facts, Cert.FfnLastIdeal.Gen.facts, Cert.FfnLastRefIdeal.Gen.facts, Cert.Ffn.Gen.facts, Cert.FfnIdeal.Gen.facts, Cert.FfnRefIdeal.Gen.facts, Cert.OutProj.Gen.facts, Cert.OutProjIdeal.Gen.facts, Cert.OutProjRefIdeal.Gen.facts, Cert.Proj.Gen.facts, Cert.ProjIdeal.Gen.facts, Cert.ProjRefIdeal.Gen.facts, Cert.Norm.Gen.facts, Cert.NormIdeal.Gen.facts, Cert.NormRefIdeal.Gen.facts, Cert.NormGate.Gen.facts, Cert.NormGateIdeal.Gen.facts, Cert.NormGateRefIdeal.Gen.facts, Cert.Nsa.Gen.facts, Cert.NsaIdeal.Gen.facts, Cert.NsaRefIdeal.Gen.facts,
  fun m ρ _ => Cert.Sb.Frm.frame m ρ,
  fun m ρ _ => Cert.SbIdeal.Frm.frame m ρ,
  StickBreaking.frame_reference,
  fun m ρ _ => Cert.FfnLast.Gen.frame m ρ,
  fun m ρ _ => Cert.FfnLastIdeal.Gen.frame m ρ,
  FfnLast.frame_reference,
  fun m ρ _ => Cert.Ffn.Gen.frame m ρ,
  fun m ρ _ => Cert.FfnIdeal.Gen.frame m ρ,
  Ffn.frame_reference,
  fun m ρ _ => Cert.OutProj.Gen.frame m ρ,
  fun m ρ _ => Cert.OutProjIdeal.Gen.frame m ρ,
  OutProj.frame_reference,
  fun m ρ _ => Cert.Proj.Gen.frame m ρ,
  fun m ρ _ => Cert.ProjIdeal.Gen.frame m ρ,
  Proj.frame_reference,
  fun m ρ _ => Cert.Norm.Gen.frame m ρ,
  fun m ρ _ => Cert.NormIdeal.Gen.frame m ρ,
  Norm.frame_reference,
  fun m ρ _ => Cert.NormGate.Gen.frame m ρ,
  fun m ρ _ => Cert.NormGateIdeal.Gen.frame m ρ,
  NormGate.frame_reference,
  fun m ρ _ => Cert.Nsa.Gen.frame m ρ,
  fun m ρ _ => Cert.NsaIdeal.Gen.frame m ρ,
  Nsa.frame_reference,
  StickBreaking.preserves, StickBreaking.algebraic,
  FfnLast.preserves, FfnLast.algebraic,
  Ffn.preserves, Ffn.algebraic,
  OutProj.preserves, OutProj.algebraic,
  Proj.preserves, Proj.algebraic,
  Norm.preserves, Norm.algebraic,
  NormGate.preserves, NormGate.algebraic,
  Nsa.preserves, Nsa.algebraic⟩

end Cert.Proof

end
